-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v472) = v0 c
          ∧ r.2.mem ((c.tc : Thread Cert.ReferenceIdeal.nD Cert.ReferenceIdeal.τ).loc Cert.ReferenceIdeal.main_v321) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x128 : Shape := ⟨2, ![16384, 128]⟩
abbrev S262144 : Shape := ⟨1, ![262144]⟩
abbrev S32x64x64 : Shape := ⟨3, ![32, 64, 64]⟩
abbrev S128x128 : Shape := ⟨2, ![128, 128]⟩
abbrev S128x64 : Shape := ⟨2, ![128, 64]⟩
abbrev S256x64x3x3 : Shape := ⟨4, ![256, 64, 3, 3]⟩
abbrev S256 : Shape := ⟨1, ![256]⟩
abbrev S128x256x3x3 : Shape := ⟨4, ![128, 256, 3, 3]⟩
abbrev S128 : Shape := ⟨1, ![128]⟩
abbrev S64x128x3x3 : Shape := ⟨4, ![64, 128, 3, 3]⟩
abbrev S64 : Shape := ⟨1, ![64]⟩
abbrev S32x128x3x3 : Shape := ⟨4, ![32, 128, 3, 3]⟩
abbrev S32 : Shape := ⟨1, ![32]⟩
abbrev S16x32x4x4 : Shape := ⟨4, ![16, 32, 4, 4]⟩
abbrev S16 : Shape := ⟨1, ![16]⟩
abbrev S8x16x4x4 : Shape := ⟨4, ![8, 16, 4, 4]⟩
abbrev S8 : Shape := ⟨1, ![8]⟩
abbrev S1x8x4x4 : Shape := ⟨4, ![1, 8, 4, 4]⟩
abbrev S1 : Shape := ⟨1, ![1]⟩
abbrev S32x256 : Shape := ⟨2, ![32, 256]⟩
abbrev S1x32 : Shape := ⟨2, ![1, 32]⟩
abbrev S_ : Shape := ⟨0, ![]⟩
abbrev S32x1 : Shape := ⟨2, ![32, 1]⟩
abbrev S32x8192 : Shape := ⟨2, ![32, 8192]⟩
abbrev S32x1x1 : Shape := ⟨3, ![32, 1, 1]⟩

class Facts : Prop where
  bcast_S_S32 : S_.BroadcastsInDim S32 (![] : Fin 0 → Fin S32.rank)
  bcast_S32_S32x1_0 : S32.BroadcastsInDim S32x1 (![0] : Fin 1 → Fin S32x1.rank)
  shapeCasts_S262144_S32x8192 : S262144.ShapeCasts S32x8192
  bcast_S32x1_S32x8192_0_1 : S32x1.BroadcastsInDim S32x8192 (![0, 1] : Fin 2 → Fin S32x8192.rank)
  bcast_S_S32x1 : S_.BroadcastsInDim S32x1 (![] : Fin 0 → Fin S32x1.rank)
  shapeCasts_S32x8192_S262144 : S32x8192.ShapeCasts S262144
  bcast_S_S32x64x64 : S_.BroadcastsInDim S32x64x64 (![] : Fin 0 → Fin S32x64x64.rank)
  slices_S32x64x64_S32x1x1_0_0_0 : S32x64x64.Slices ![0, 0, 0] S32x1x1
  shapeCasts_S32x1x1_S32 : S32x1x1.ShapeCasts S32

variable [Facts]

def fn_part2 {F : FTy → Type} [FloatOps F] (main_arg3 : IVec S32x64x64 32) (main_arg7 : IVec S32x64x64 32) (main_v12 : IVec S262144 1) (main_v21 : IVec S262144 1) (main_v30 : IVec S262144 1) (main_v39 : IVec S262144 1) (main_v41 : IVec S32x64x64 1) : IVec S262144 1 × IVec S262144 1 × IVec S262144 1 × IVec S262144 1 × IVec S32x64x64 1 × IVec S32x64x64 1 × IVec S32 1 × IVec S32 1 :=
  let main_c_5 : IVec S_ 32 := constantI S_ 32 512#32
  let main_v42 : IVec S32x64x64 32 := broadcastInDim S32x64x64 ![] bcast_S_S32x64x64 main_c_5
  let main_v43 : IVec S32x64x64 1 := cmpi .slt main_arg3 main_v42
  let main_v44 : IVec S32x64x64 1 := andi main_v41 main_v43
  let main_c_6 : IVec S_ 32 := constantI S_ 32 4294967295#32
  let main_v45 : IVec S32x64x64 32 := broadcastInDim S32x64x64 ![] bcast_S_S32x64x64 main_c_6
  let main_v46 : IVec S32x64x64 1 := cmpi .sge main_arg7 main_v45
  let main_c_7 : IVec S_ 32 := constantI S_ 32 512#32
  let main_v47 : IVec S32x64x64 32 := broadcastInDim S32x64x64 ![] bcast_S_S32x64x64 main_c_7
  let main_v48 : IVec S32x64x64 1 := cmpi .slt main_arg7 main_v47
  let main_v49 : IVec S32x64x64 1 := andi main_v46 main_v48
  let main_v50 : IVec S32x1x1 32 := (extractStridedSlice S32x1x1 ![0, 0, 0] · slices_S32x64x64_S32x1x1_0_0_0) main_arg3
  let main_v51 : IVec S32 32 := shapeCast S32 main_v50 shapeCasts_S32x1x1_S32
  let main_c_8 : IVec S_ 32 := constantI S_ 32 0#32
  let main_v52 : IVec S32 32 := broadcastInDim S32 ![] bcast_S_S32 main_c_8
  let main_v53 : IVec S32 1 := cmpi .eq main_v51 main_v52
  let main_v54 : IVec S32x1x1 32 := (extractStridedSlice S32x1x1 ![0, 0, 0] · slices_S32x64x64_S32x1x1_0_0_0) main_arg7
  let main_v55 : IVec S32 32 := shapeCast S32 main_v54 shapeCasts_S32x1x1_S32
  let main_c_9 : IVec S_ 32 := constantI S_ 32 0#32
  let main_v56 : IVec S32 32 := broadcastInDim S32 ![] bcast_S_S32 main_c_9
  let main_v57 : IVec S32 1 := cmpi .eq main_v55 main_v56
  (main_v12, main_v21, main_v30, main_v39, main_v44, main_v49, main_v53, main_v57)

def fn_part1 {F : FTy → Type} [FloatOps F] (main_arg3 : IVec S32x64x64 32) (main_arg5 : IVec S262144 32) (main_arg6 : IVec S262144 32) (main_arg7 : IVec S32x64x64 32) (main_v3 : IVec S32x1 32) (main_v12 : IVec S262144 1) (main_v20 : IVec S32x8192 1) : IVec S262144 1 × IVec S262144 1 × IVec S262144 1 × IVec S262144 1 × IVec S32x64x64 1 × IVec S32x64x64 1 × IVec S32 1 × IVec S32 1 :=
  let main_v21 : IVec S262144 1 := shapeCast S262144 main_v20 shapeCasts_S32x8192_S262144
  let main_v22 : IVec S32x8192 32 := shapeCast S32x8192 main_arg5 shapeCasts_S262144_S32x8192
  let main_v23 : IVec S32x8192 32 := broadcastInDim S32x8192 ![0, 1] bcast_S32x1_S32x8192_0_1 main_v3
  let main_v24 : IVec S32x8192 1 := cmpi .sge main_v22 main_v23
  let main_c_2 : IVec S_ 32 := constantI S_ 32 512#32
  let main_v25 : IVec S32x1 32 := broadcastInDim S32x1 ![] bcast_S_S32x1 main_c_2
  let main_v26 : IVec S32x1 32 := addi main_v3 main_v25
  let main_v27 : IVec S32x8192 32 := broadcastInDim S32x8192 ![0, 1] bcast_S32x1_S32x8192_0_1 main_v26
  let main_v28 : IVec S32x8192 1 := cmpi .slt main_v22 main_v27
  let main_v29 : IVec S32x8192 1 := andi main_v24 main_v28
  let main_v30 : IVec S262144 1 := shapeCast S262144 main_v29 shapeCasts_S32x8192_S262144
  let main_v31 : IVec S32x8192 32 := shapeCast S32x8192 main_arg6 shapeCasts_S262144_S32x8192
  let main_v32 : IVec S32x8192 32 := broadcastInDim S32x8192 ![0, 1] bcast_S32x1_S32x8192_0_1 main_v3
  let main_v33 : IVec S32x8192 1 := cmpi .sge main_v31 main_v32
  let main_c_3 : IVec S_ 32 := constantI S_ 32 512#32
  let main_v34 : IVec S32x1 32 := broadcastInDim S32x1 ![] bcast_S_S32x1 main_c_3
  let main_v35 : IVec S32x1 32 := addi main_v3 main_v34
  let main_v36 : IVec S32x8192 32 := broadcastInDim S32x8192 ![0, 1] bcast_S32x1_S32x8192_0_1 main_v35
  let main_v37 : IVec S32x8192 1 := cmpi .slt main_v31 main_v36
  let main_v38 : IVec S32x8192 1 := andi main_v33 main_v37
  let main_v39 : IVec S262144 1 := shapeCast S262144 main_v38 shapeCasts_S32x8192_S262144
  let main_c_4 : IVec S_ 32 := constantI S_ 32 4294967295#32
  let main_v40 : IVec S32x64x64 32 := broadcastInDim S32x64x64 ![] bcast_S_S32x64x64 main_c_4
  let main_v41 : IVec S32x64x64 1 := cmpi .sge main_arg3 main_v40
  fn_part2 (F := F) main_arg3 main_arg7 main_v12 main_v21 main_v30 main_v39 main_v41

def fn {F : FTy → Type} [FloatOps F] (main_arg0 : FVec F S16384x128 .f32) (main_arg1 : IVec S262144 32) (main_arg2 : IVec S262144 32) (main_arg3 : IVec S32x64x64 32) (main_arg4 : FVec F S16384x128 .f32) (main_arg5 : IVec S262144 32) (main_arg6 : IVec S262144 32) (main_arg7 : IVec S32x64x64 32) (main_arg8 : FVec F S128x128 .f32) (main_arg9 : FVec F S128x128 .f32) (main_arg10 : FVec F S128x64 .f32) (main_arg11 : FVec F S256x64x3x3 .f32) (main_arg12 : FVec F S256 .f32) (main_arg13 : FVec F S128x256x3x3 .f32) (main_arg14 : FVec F S128 .f32) (main_arg15 : FVec F S64x128x3x3 .f32) (main_arg16 : FVec F S64 .f32) (main_arg17 : FVec F S32x128x3x3 .f32) (main_arg18 : FVec F S32 .f32) (main_arg19 : FVec F S16x32x4x4 .f32) (main_arg20 : FVec F S16 .f32) (main_arg21 : FVec F S8x16x4x4 .f32) (main_arg22 : FVec F S8 .f32) (main_arg23 : FVec F S1x8x4x4 .f32) (main_arg24 : FVec F S1 .f32) (main_arg25 : FVec F S32x256 .f32) (main_arg26 : FVec F S32 .f32) (main_arg27 : FVec F S1x32 .f32) (main_arg28 : FVec F S1 .f32) : IVec S262144 1 × IVec S262144 1 × IVec S262144 1 × IVec S262144 1 × IVec S32x64x64 1 × IVec S32x64x64 1 × IVec S32 1 × IVec S32 1 :=
  let main_v0 : IVec S32 32 := iotaInDim S32 32 0
  let main_c : IVec S_ 32 := constantI S_ 32 512#32
  let main_v1 : IVec S32 32 := broadcastInDim S32 ![] bcast_S_S32 main_c
  let main_v2 : IVec S32 32 := muli main_v0 main_v1
  let main_v3 : IVec S32x1 32 := broadcastInDim S32x1 ![0] bcast_S32_S32x1_0 main_v2
  let main_v4 : IVec S32x8192 32 := shapeCast S32x8192 main_arg1 shapeCasts_S262144_S32x8192
  let main_v5 : IVec S32x8192 32 := broadcastInDim S32x8192 ![0, 1] bcast_S32x1_S32x8192_0_1 main_v3
  let main_v6 : IVec S32x8192 1 := cmpi .sge main_v4 main_v5
  let main_c_0 : IVec S_ 32 := constantI S_ 32 512#32
  let main_v7 : IVec S32x1 32 := broadcastInDim S32x1 ![] bcast_S_S32x1 main_c_0
  let main_v8 : IVec S32x1 32 := addi main_v3 main_v7
  let main_v9 : IVec S32x8192 32 := broadcastInDim S32x8192 ![0, 1] bcast_S32x1_S32x8192_0_1 main_v8
  let main_v10 : IVec S32x8192 1 := cmpi .slt main_v4 main_v9
  let main_v11 : IVec S32x8192 1 := andi main_v6 main_v10
  let main_v12 : IVec S262144 1 := shapeCast S262144 main_v11 shapeCasts_S32x8192_S262144
  let main_v13 : IVec S32x8192 32 := shapeCast S32x8192 main_arg2 shapeCasts_S262144_S32x8192
  let main_v14 : IVec S32x8192 32 := broadcastInDim S32x8192 ![0, 1] bcast_S32x1_S32x8192_0_1 main_v3
  let main_v15 : IVec S32x8192 1 := cmpi .sge main_v13 main_v14
  let main_c_1 : IVec S_ 32 := constantI S_ 32 512#32
  let main_v16 : IVec S32x1 32 := broadcastInDim S32x1 ![] bcast_S_S32x1 main_c_1
  let main_v17 : IVec S32x1 32 := addi main_v3 main_v16
  let main_v18 : IVec S32x8192 32 := broadcastInDim S32x8192 ![0, 1] bcast_S32x1_S32x8192_0_1 main_v17
  let main_v19 : IVec S32x8192 1 := cmpi .slt main_v13 main_v18
  let main_v20 : IVec S32x8192 1 := andi main_v15 main_v19
  fn_part1 (F := F) main_arg3 main_arg5 main_arg6 main_arg7 main_v3 main_v12 main_v20
-- ==== Kernel.lean ====
abbrev S16384x128 : Shape := ⟨2, ![16384, 128]⟩
abbrev S262144 : Shape := ⟨1, ![262144]⟩
abbrev S32x64x64 : Shape := ⟨3, ![32, 64, 64]⟩
abbrev S128x128 : Shape := ⟨2, ![128, 128]⟩
abbrev S128x64 : Shape := ⟨2, ![128, 64]⟩
abbrev S256x64x3x3 : Shape := ⟨4, ![256, 64, 3, 3]⟩
abbrev S256 : Shape := ⟨1, ![256]⟩
abbrev S128x256x3x3 : Shape := ⟨4, ![128, 256, 3, 3]⟩
abbrev S128 : Shape := ⟨1, ![128]⟩
abbrev S64x128x3x3 : Shape := ⟨4, ![64, 128, 3, 3]⟩
abbrev S64 : Shape := ⟨1, ![64]⟩
abbrev S32x128x3x3 : Shape := ⟨4, ![32, 128, 3, 3]⟩
abbrev S32 : Shape := ⟨1, ![32]⟩
abbrev S16x32x4x4 : Shape := ⟨4, ![16, 32, 4, 4]⟩
abbrev S16 : Shape := ⟨1, ![16]⟩
abbrev S8x16x4x4 : Shape := ⟨4, ![8, 16, 4, 4]⟩
abbrev S8 : Shape := ⟨1, ![8]⟩
abbrev S1x8x4x4 : Shape := ⟨4, ![1, 8, 4, 4]⟩
abbrev S1 : Shape := ⟨1, ![1]⟩
abbrev S32x256 : Shape := ⟨2, ![32, 256]⟩
abbrev S1x32 : Shape := ⟨2, ![1, 32]⟩
abbrev S_ : Shape := ⟨0, ![]⟩
abbrev S32x1 : Shape := ⟨2, ![32, 1]⟩
abbrev S32x512x128 : Shape := ⟨3, ![32, 512, 128]⟩
abbrev S64x512x128 : Shape := ⟨3, ![64, 512, 128]⟩
abbrev S32x8192 : Shape := ⟨2, ![32, 8192]⟩
abbrev S64x8192 : Shape := ⟨2, ![64, 8192]⟩
abbrev S64x1x8192 : Shape := ⟨3, ![64, 1, 8192]⟩
abbrev S32x1x4096 : Shape := ⟨3, ![32, 1, 4096]⟩
abbrev S64x1x4096 : Shape := ⟨3, ![64, 1, 4096]⟩
abbrev S64x4096x64 : Shape := ⟨3, ![64, 4096, 64]⟩
abbrev S64x1x64 : Shape := ⟨3, ![64, 1, 64]⟩
abbrev S1x512x128 : Shape := ⟨3, ![1, 512, 128]⟩
abbrev S1x1x8192 : Shape := ⟨3, ![1, 1, 8192]⟩
abbrev S1x1x4096 : Shape := ⟨3, ![1, 1, 4096]⟩
abbrev S1x4096x64 : Shape := ⟨3, ![1, 4096, 64]⟩
abbrev S1x1x64 : Shape := ⟨3, ![1, 1, 64]⟩
abbrev S512x2048 : Shape := ⟨2, ![512, 2048]⟩
abbrev S512x512 : Shape := ⟨2, ![512, 512]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩
abbrev S1x512 : Shape := ⟨2, ![1, 512]⟩
abbrev S512x128 : Shape := ⟨2, ![512, 128]⟩
abbrev S512x64 : Shape := ⟨2, ![512, 64]⟩
abbrev S2048x64 : Shape := ⟨2, ![2048, 64]⟩
abbrev S1x2048x64 : Shape := ⟨3, ![1, 2048, 64]⟩
abbrev S1x64 : Shape := ⟨2, ![1, 64]⟩
abbrev S32x4096x64 : Shape := ⟨3, ![32, 4096, 64]⟩
abbrev S32x1x64 : Shape := ⟨3, ![32, 1, 64]⟩
abbrev S3x64x3x256 : Shape := ⟨4, ![3, 64, 3, 256]⟩
abbrev S192x768 : Shape := ⟨2, ![192, 768]⟩
abbrev S1x256 : Shape := ⟨2, ![1, 256]⟩
abbrev S3x256x3x128 : Shape := ⟨4, ![3, 256, 3, 128]⟩
abbrev S768x384 : Shape := ⟨2, ![768, 384]⟩
abbrev S1x128 : Shape := ⟨2, ![1, 128]⟩
abbrev S3x128x3x64 : Shape := ⟨4, ![3, 128, 3, 64]⟩
abbrev S384x192 : Shape := ⟨2, ![384, 192]⟩
abbrev S3x128x3x32 : Shape := ⟨4, ![3, 128, 3, 32]⟩
abbrev S384x96 : Shape := ⟨2, ![384, 96]⟩
abbrev S4x4x32x16 : Shape := ⟨4, ![4, 4, 32, 16]⟩
abbrev S16x32x16 : Shape := ⟨3, ![16, 32, 16]⟩
abbrev S1x16 : Shape := ⟨2, ![1, 16]⟩
abbrev S4x4x16x8 : Shape := ⟨4, ![4, 4, 16, 8]⟩
abbrev S16x16x8 : Shape := ⟨3, ![16, 16, 8]⟩
abbrev S1x8 : Shape := ⟨2, ![1, 8]⟩
abbrev S4x4x8x1 : Shape := ⟨4, ![4, 4, 8, 1]⟩
abbrev S16x8x1 : Shape := ⟨3, ![16, 8, 1]⟩
abbrev S1x1 : Shape := ⟨2, ![1, 1]⟩
abbrev S256x32 : Shape := ⟨2, ![256, 32]⟩
abbrev S32x1x7x7 : Shape := ⟨4, ![32, 1, 7, 7]⟩
abbrev S1x1x7x7 : Shape := ⟨4, ![1, 1, 7, 7]⟩
abbrev S64x64x32 : Shape := ⟨3, ![64, 64, 32]⟩
abbrev S32x32x16 : Shape := ⟨3, ![32, 32, 16]⟩
abbrev S4096x64 : Shape := ⟨2, ![4096, 64]⟩
abbrev S64x64x64 : Shape := ⟨3, ![64, 64, 64]⟩
abbrev S1x64x64 : Shape := ⟨3, ![1, 64, 64]⟩
abbrev S63x64x64 : Shape := ⟨3, ![63, 64, 64]⟩
abbrev S64x64x192 : Shape := ⟨3, ![64, 64, 192]⟩
abbrev S4096x192 : Shape := ⟨2, ![4096, 192]⟩
abbrev S4096x768 : Shape := ⟨2, ![4096, 768]⟩
abbrev S64x64x768 : Shape := ⟨3, ![64, 64, 768]⟩
abbrev S1x1x256 : Shape := ⟨3, ![1, 1, 256]⟩
abbrev S64x64x256 : Shape := ⟨3, ![64, 64, 256]⟩
abbrev S64x1x256 : Shape := ⟨3, ![64, 1, 256]⟩
abbrev S64x63x256 : Shape := ⟨3, ![64, 63, 256]⟩
abbrev S4096x256 : Shape := ⟨2, ![4096, 256]⟩
abbrev S1x64x256 : Shape := ⟨3, ![1, 64, 256]⟩
abbrev S63x64x256 : Shape := ⟨3, ![63, 64, 256]⟩
abbrev S4096x384 : Shape := ⟨2, ![4096, 384]⟩
abbrev S64x64x384 : Shape := ⟨3, ![64, 64, 384]⟩
abbrev S1x1x128 : Shape := ⟨3, ![1, 1, 128]⟩
abbrev S64x64x128 : Shape := ⟨3, ![64, 64, 128]⟩
abbrev S64x1x128 : Shape := ⟨3, ![64, 1, 128]⟩
abbrev S64x63x128 : Shape := ⟨3, ![64, 63, 128]⟩
abbrev S4096x128 : Shape := ⟨2, ![4096, 128]⟩
abbrev S1x64x128 : Shape := ⟨3, ![1, 64, 128]⟩
abbrev S63x64x128 : Shape := ⟨3, ![63, 64, 128]⟩
abbrev S64x63x64 : Shape := ⟨3, ![64, 63, 64]⟩
abbrev S62x64x128 : Shape := ⟨3, ![62, 64, 128]⟩
abbrev S2x64x128 : Shape := ⟨3, ![2, 64, 128]⟩
abbrev S4096x96 : Shape := ⟨2, ![4096, 96]⟩
abbrev S64x64x96 : Shape := ⟨3, ![64, 64, 96]⟩
abbrev S1x1x32 : Shape := ⟨3, ![1, 1, 32]⟩
abbrev S64x63x32 : Shape := ⟨3, ![64, 63, 32]⟩
abbrev S64x1x32 : Shape := ⟨3, ![64, 1, 32]⟩
abbrev S64x62x32 : Shape := ⟨3, ![64, 62, 32]⟩
abbrev S64x2x32 : Shape := ⟨3, ![64, 2, 32]⟩
abbrev S4096x32 : Shape := ⟨2, ![4096, 32]⟩
abbrev S64x64x1 : Shape := ⟨3, ![64, 64, 1]⟩
abbrev S32x32x32 : Shape := ⟨3, ![32, 32, 32]⟩
abbrev S1x32x32 : Shape := ⟨3, ![1, 32, 32]⟩
abbrev S31x32x32 : Shape := ⟨3, ![31, 32, 32]⟩
abbrev S32x1x32 : Shape := ⟨3, ![32, 1, 32]⟩
abbrev S32x31x32 : Shape := ⟨3, ![32, 31, 32]⟩
abbrev S1024x32 : Shape := ⟨2, ![1024, 32]⟩
abbrev S1x32x16 : Shape := ⟨3, ![1, 32, 16]⟩
abbrev S32x16 : Shape := ⟨2, ![32, 16]⟩
abbrev S1024x16 : Shape := ⟨2, ![1024, 16]⟩
abbrev S32x32x1 : Shape := ⟨3, ![32, 32, 1]⟩
abbrev S16x16x16 : Shape := ⟨3, ![16, 16, 16]⟩
abbrev S1x16x16 : Shape := ⟨3, ![1, 16, 16]⟩
abbrev S15x16x16 : Shape := ⟨3, ![15, 16, 16]⟩
abbrev S16x1x16 : Shape := ⟨3, ![16, 1, 16]⟩
abbrev S16x15x16 : Shape := ⟨3, ![16, 15, 16]⟩
abbrev S256x16 : Shape := ⟨2, ![256, 16]⟩
abbrev S1x16x8 : Shape := ⟨3, ![1, 16, 8]⟩
abbrev S16x8 : Shape := ⟨2, ![16, 8]⟩
abbrev S256x8 : Shape := ⟨2, ![256, 8]⟩
abbrev S16x16x1 : Shape := ⟨3, ![16, 16, 1]⟩
abbrev S8x8x8 : Shape := ⟨3, ![8, 8, 8]⟩
abbrev S1x8x8 : Shape := ⟨3, ![1, 8, 8]⟩
abbrev S7x8x8 : Shape := ⟨3, ![7, 8, 8]⟩
abbrev S8x1x8 : Shape := ⟨3, ![8, 1, 8]⟩
abbrev S8x7x8 : Shape := ⟨3, ![8, 7, 8]⟩
abbrev S64x8 : Shape := ⟨2, ![64, 8]⟩
abbrev S1x8x1 : Shape := ⟨3, ![1, 8, 1]⟩
abbrev S8x1 : Shape := ⟨2, ![8, 1]⟩
abbrev S64x1 : Shape := ⟨2, ![64, 1]⟩
abbrev S8x8x1 : Shape := ⟨3, ![8, 8, 1]⟩
abbrev S8x8 : Shape := ⟨2, ![8, 8]⟩
abbrev S7x7 : Shape := ⟨2, ![7, 7]⟩
abbrev S32x64x64x64 : Shape := ⟨4, ![32, 64, 64, 64]⟩

abbrev nBuf : Space → Nat
  | .hbm => 98
  | .vmem => 48
  | .smem => 0
  | _ => 0

abbrev bufTy : (tb : Table) → Fin (tcTables nBuf tb) → BufTy
  | .hbm, ⟨0, _⟩ => ⟨S16384x128, .f32⟩
  | .hbm, ⟨1, _⟩ => ⟨S262144, .i32⟩
  | .hbm, ⟨2, _⟩ => ⟨S262144, .i32⟩
  | .hbm, ⟨3, _⟩ => ⟨S32x64x64, .i32⟩
  | .hbm, ⟨4, _⟩ => ⟨S16384x128, .f32⟩
  | .hbm, ⟨5, _⟩ => ⟨S262144, .i32⟩
  | .hbm, ⟨6, _⟩ => ⟨S262144, .i32⟩
  | .hbm, ⟨7, _⟩ => ⟨S32x64x64, .i32⟩
  | .hbm, ⟨8, _⟩ => ⟨S128x128, .f32⟩
  | .hbm, ⟨9, _⟩ => ⟨S128x128, .f32⟩
  | .hbm, ⟨10, _⟩ => ⟨S128x64, .f32⟩
  | .hbm, ⟨11, _⟩ => ⟨S256x64x3x3, .f32⟩
  | .hbm, ⟨12, _⟩ => ⟨S256, .f32⟩
  | .hbm, ⟨13, _⟩ => ⟨S128x256x3x3, .f32⟩
  | .hbm, ⟨14, _⟩ => ⟨S128, .f32⟩
  | .hbm, ⟨15, _⟩ => ⟨S64x128x3x3, .f32⟩
  | .hbm, ⟨16, _⟩ => ⟨S64, .f32⟩
  | .hbm, ⟨17, _⟩ => ⟨S32x128x3x3, .f32⟩
  | .hbm, ⟨18, _⟩ => ⟨S32, .f32⟩
  | .hbm, ⟨19, _⟩ => ⟨S16x32x4x4, .f32⟩
  | .hbm, ⟨20, _⟩ => ⟨S16, .f32⟩
  | .hbm, ⟨21, _⟩ => ⟨S8x16x4x4, .f32⟩
  | .hbm, ⟨22, _⟩ => ⟨S8, .f32⟩
  | .hbm, ⟨23, _⟩ => ⟨S1x8x4x4, .f32⟩
  | .hbm, ⟨24, _⟩ => ⟨S1, .f32⟩
  | .hbm, ⟨25, _⟩ => ⟨S32x256, .f32⟩
  | .hbm, ⟨26, _⟩ => ⟨S32, .f32⟩
  | .hbm, ⟨27, _⟩ => ⟨S1x32, .f32⟩
  | .hbm, ⟨28, _⟩ => ⟨S1, .f32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S32x1, .i32⟩
  | .hbm, ⟨34, _⟩ => ⟨S32x512x128, .f32⟩
  | .hbm, ⟨35, _⟩ => ⟨S32x512x128, .f32⟩
  | .hbm, ⟨36, _⟩ => ⟨S64x512x128, .f32⟩
  | .hbm, ⟨37, _⟩ => ⟨S32x8192, .i32⟩
  | .hbm, ⟨38, _⟩ => ⟨S32x8192, .i32⟩
  | .hbm, ⟨39, _⟩ => ⟨S32x8192, .i32⟩
  | .hbm, ⟨40, _⟩ => ⟨S32x8192, .i32⟩
  | .hbm, ⟨41, _⟩ => ⟨S32x8192, .i32⟩
  | .hbm, ⟨42, _⟩ => ⟨S32x8192, .i32⟩
  | .hbm, ⟨43, _⟩ => ⟨S64x8192, .i32⟩
  | .hbm, ⟨44, _⟩ => ⟨S64x1x8192, .i32⟩
  | .hbm, ⟨45, _⟩ => ⟨S32x8192, .i32⟩
  | .hbm, ⟨46, _⟩ => ⟨S32x8192, .i32⟩
  | .hbm, ⟨47, _⟩ => ⟨S32x8192, .i32⟩
  | .hbm, ⟨48, _⟩ => ⟨S32x8192, .i32⟩
  | .hbm, ⟨49, _⟩ => ⟨S32x8192, .i32⟩
  | .hbm, ⟨50, _⟩ => ⟨S32x8192, .i32⟩
  | .hbm, ⟨51, _⟩ => ⟨S64x8192, .i32⟩
  | .hbm, ⟨52, _⟩ => ⟨S64x1x8192, .i32⟩
  | .hbm, ⟨53, _⟩ => ⟨S32x1x4096, .i32⟩
  | .hbm, ⟨54, _⟩ => ⟨S32x1x4096, .i32⟩
  | .hbm, ⟨55, _⟩ => ⟨S64x1x4096, .i32⟩
  | .hbm, ⟨56, _⟩ => ⟨S64x4096x64, .bf16⟩
  | .hbm, ⟨57, _⟩ => ⟨S64x1x64, .f32⟩
  | .hbm, ⟨58, _⟩ => ⟨S32x4096x64, .bf16⟩
  | .hbm, ⟨59, _⟩ => ⟨S32x4096x64, .bf16⟩
  | .hbm, ⟨60, _⟩ => ⟨S32x1x64, .f32⟩
  | .hbm, ⟨61, _⟩ => ⟨S32x1x64, .f32⟩
  | .hbm, ⟨62, _⟩ => ⟨S3x64x3x256, .f32⟩
  | .hbm, ⟨63, _⟩ => ⟨S192x768, .f32⟩
  | .hbm, ⟨64, _⟩ => ⟨S192x768, .bf16⟩
  | .hbm, ⟨65, _⟩ => ⟨S1x256, .f32⟩
  | .hbm, ⟨66, _⟩ => ⟨S3x256x3x128, .f32⟩
  | .hbm, ⟨67, _⟩ => ⟨S768x384, .f32⟩
  | .hbm, ⟨68, _⟩ => ⟨S768x384, .bf16⟩
  | .hbm, ⟨69, _⟩ => ⟨S1x128, .f32⟩
  | .hbm, ⟨70, _⟩ => ⟨S3x128x3x64, .f32⟩
  | .hbm, ⟨71, _⟩ => ⟨S384x192, .f32⟩
  | .hbm, ⟨72, _⟩ => ⟨S384x192, .bf16⟩
  | .hbm, ⟨73, _⟩ => ⟨S1x64, .f32⟩
  | .hbm, ⟨74, _⟩ => ⟨S3x128x3x32, .f32⟩
  | .hbm, ⟨75, _⟩ => ⟨S384x96, .f32⟩
  | .hbm, ⟨76, _⟩ => ⟨S384x96, .bf16⟩
  | .hbm, ⟨77, _⟩ => ⟨S1x32, .f32⟩
  | .hbm, ⟨78, _⟩ => ⟨S4x4x32x16, .f32⟩
  | .hbm, ⟨79, _⟩ => ⟨S16x32x16, .f32⟩
  | .hbm, ⟨80, _⟩ => ⟨S16x32x16, .bf16⟩
  | .hbm, ⟨81, _⟩ => ⟨S1x16, .f32⟩
  | .hbm, ⟨82, _⟩ => ⟨S4x4x16x8, .f32⟩
  | .hbm, ⟨83, _⟩ => ⟨S16x16x8, .f32⟩
  | .hbm, ⟨84, _⟩ => ⟨S16x16x8, .bf16⟩
  | .hbm, ⟨85, _⟩ => ⟨S1x8, .f32⟩
  | .hbm, ⟨86, _⟩ => ⟨S4x4x8x1, .f32⟩
  | .hbm, ⟨87, _⟩ => ⟨S16x8x1, .f32⟩
  | .hbm, ⟨88, _⟩ => ⟨S16x8x1, .bf16⟩
  | .hbm, ⟨89, _⟩ => ⟨S1x1, .f32⟩
  | .hbm, ⟨90, _⟩ => ⟨S256x32, .f32⟩
  | .hbm, ⟨91, _⟩ => ⟨S1x32, .f32⟩
  | .hbm, ⟨92, _⟩ => ⟨S32x1, .f32⟩
  | .hbm, ⟨93, _⟩ => ⟨S1x1, .f32⟩
  | .hbm, ⟨94, _⟩ => ⟨S32x1x7x7, .f32⟩
  | .hbm, ⟨95, _⟩ => ⟨S32x4096x64, .f32⟩
  | .hbm, ⟨96, _⟩ => ⟨S32x64x64x64, .f32⟩
  | .hbm, ⟨97, _⟩ => ⟨S32x64x64x64, .f32⟩
  | .local _ .vmem, ⟨0, _⟩ => ⟨S1x512x128, .f32⟩
  | .local _ .vmem, ⟨1, _⟩ => ⟨S1x512x128, .f32⟩
  | .local _ .vmem, ⟨2, _⟩ => ⟨S1x1x8192, .i32⟩
  | .local _ .vmem, ⟨3, _⟩ => ⟨S1x1x8192, .i32⟩
  | .local _ .vmem, ⟨4, _⟩ => ⟨S1x1x8192, .i32⟩
  | .local _ .vmem, ⟨5, _⟩ => ⟨S1x1x8192, .i32⟩
  | .local _ .vmem, ⟨6, _⟩ => ⟨S1x1x4096, .i32⟩
  | .local _ .vmem, ⟨7, _⟩ => ⟨S1x1x4096, .i32⟩
  | .local _ .vmem, ⟨8, _⟩ => ⟨S128x128, .f32⟩
  | .local _ .vmem, ⟨9, _⟩ => ⟨S128x128, .f32⟩
  | .local _ .vmem, ⟨10, _⟩ => ⟨S128x64, .f32⟩
  | .local _ .vmem, ⟨11, _⟩ => ⟨S1x4096x64, .bf16⟩
  | .local _ .vmem, ⟨12, _⟩ => ⟨S1x4096x64, .bf16⟩
  | .local _ .vmem, ⟨13, _⟩ => ⟨S1x1x64, .f32⟩
  | .local _ .vmem, ⟨14, _⟩ => ⟨S1x1x64, .f32⟩
  | .local _ .vmem, ⟨15, _⟩ => ⟨S1x4096x64, .bf16⟩
  | .local _ .vmem, ⟨16, _⟩ => ⟨S1x4096x64, .bf16⟩
  | .local _ .vmem, ⟨17, _⟩ => ⟨S1x4096x64, .bf16⟩
  | .local _ .vmem, ⟨18, _⟩ => ⟨S1x4096x64, .bf16⟩
  | .local _ .vmem, ⟨19, _⟩ => ⟨S1x1x64, .f32⟩
  | .local _ .vmem, ⟨20, _⟩ => ⟨S1x1x64, .f32⟩
  | .local _ .vmem, ⟨21, _⟩ => ⟨S1x1x64, .f32⟩
  | .local _ .vmem, ⟨22, _⟩ => ⟨S1x1x64, .f32⟩
  | .local _ .vmem, ⟨23, _⟩ => ⟨S192x768, .bf16⟩
  | .local _ .vmem, ⟨24, _⟩ => ⟨S1x256, .f32⟩
  | .local _ .vmem, ⟨25, _⟩ => ⟨S768x384, .bf16⟩
  | .local _ .vmem, ⟨26, _⟩ => ⟨S1x128, .f32⟩
  | .local _ .vmem, ⟨27, _⟩ => ⟨S384x192, .bf16⟩
  | .local _ .vmem, ⟨28, _⟩ => ⟨S1x64, .f32⟩
  | .local _ .vmem, ⟨29, _⟩ => ⟨S384x96, .bf16⟩
  | .local _ .vmem, ⟨30, _⟩ => ⟨S1x32, .f32⟩
  | .local _ .vmem, ⟨31, _⟩ => ⟨S16x32x16, .bf16⟩
  | .local _ .vmem, ⟨32, _⟩ => ⟨S1x16, .f32⟩
  | .local _ .vmem, ⟨33, _⟩ => ⟨S16x16x8, .bf16⟩
  | .local _ .vmem, ⟨34, _⟩ => ⟨S1x8, .f32⟩
  | .local _ .vmem, ⟨35, _⟩ => ⟨S16x8x1, .bf16⟩
  | .local _ .vmem, ⟨36, _⟩ => ⟨S1x1, .f32⟩
  | .local _ .vmem, ⟨37, _⟩ => ⟨S256x32, .f32⟩
  | .local _ .vmem, ⟨38, _⟩ => ⟨S1x32, .f32⟩
  | .local _ .vmem, ⟨39, _⟩ => ⟨S32x1, .f32⟩
  | .local _ .vmem, ⟨40, _⟩ => ⟨S1x1, .f32⟩
  | .local _ .vmem, ⟨41, _⟩ => ⟨S1x1x7x7, .f32⟩
  | .local _ .vmem, ⟨42, _⟩ => ⟨S1x1x7x7, .f32⟩
  | .local _ .vmem, ⟨43, _⟩ => ⟨S1x4096x64, .f32⟩
  | .local _ .vmem, ⟨44, _⟩ => ⟨S1x4096x64, .f32⟩
  | .local _ .vmem, ⟨45, _⟩ => ⟨S64x64x32, .f32⟩
  | .local _ .vmem, ⟨46, _⟩ => ⟨S32x32x16, .f32⟩
  | .local _ .vmem, ⟨47, _⟩ => ⟨S16x16x8, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_c : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26_0 : Ref sig .tc := ⟨.hbm, 56, rfl⟩
abbrev main_v26_1 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63_0 : Ref sig .tc := ⟨.hbm, 94, rfl⟩
abbrev main_v63_1 : Ref sig .tc := ⟨.hbm, 95, rfl⟩
abbrev main_v64 : Ref sig .tc := ⟨.hbm, 96, rfl⟩
abbrev main_v65 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg14_0 : Ref sig .tc := ⟨.vmem, 33, rfl⟩
abbrev cc1_stg15_0 : Ref sig .tc := ⟨.vmem, 34, rfl⟩
abbrev cc1_stg16_0 : Ref sig .tc := ⟨.vmem, 35, rfl⟩
abbrev cc1_stg17_0 : Ref sig .tc := ⟨.vmem, 36, rfl⟩
abbrev cc1_stg18_0 : Ref sig .tc := ⟨.vmem, 37, rfl⟩
abbrev cc1_stg19_0 : Ref sig .tc := ⟨.vmem, 38, rfl⟩
abbrev cc1_stg20_0 : Ref sig .tc := ⟨.vmem, 39, rfl⟩
abbrev cc1_stg21_0 : Ref sig .tc := ⟨.vmem, 40, rfl⟩
abbrev cc1_stg22_0 : Ref sig .tc := ⟨.vmem, 41, rfl⟩
abbrev cc1_stg22_1 : Ref sig .tc := ⟨.vmem, 42, rfl⟩
abbrev cc1_stg23_0 : Ref sig .tc := ⟨.vmem, 43, rfl⟩
abbrev cc1_stg23_1 : Ref sig .tc := ⟨.vmem, 44, rfl⟩
abbrev cc1_scratch0 : Ref sig .tc := ⟨.vmem, 45, rfl⟩
abbrev cc1_scratch1 : Ref sig .tc := ⟨.vmem, 46, rfl⟩
abbrev cc1_scratch2 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem12_0 : DmaSem sig := 31
abbrev cc1_sem13_0 : DmaSem sig := 32
abbrev cc1_sem14_0 : DmaSem sig := 33
abbrev cc1_sem15_0 : DmaSem sig := 34
abbrev cc1_sem16_0 : DmaSem sig := 35
abbrev cc1_sem17_0 : DmaSem sig := 36
abbrev cc1_sem18_0 : DmaSem sig := 37
abbrev cc1_sem19_0 : DmaSem sig := 38
abbrev cc1_sem20_0 : DmaSem sig := 39
abbrev cc1_sem21_0 : DmaSem sig := 40
abbrev cc1_sem22_0 : DmaSem sig := 41
abbrev cc1_sem22_1 : DmaSem sig := 42
abbrev cc1_sem23_0 : DmaSem sig := 43
abbrev cc1_sem23_1 : DmaSem sig := 44

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4096x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_23 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S192x768 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S768x384 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S384x192 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S384x96 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x32 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S16x32x16 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x16 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S16x16x8 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x8 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S16x8x1 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S256x32 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x32 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S32x1 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x1 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 2 → Memref sig .tc .vmem S1x1x7x7 .f32 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true]

abbrev stage1_23 : Fin 2 → Memref sig .tc .vmem S1x4096x64 .f32 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true]
-- ==== ReferenceIdeal.lean ====
abbrev S16384x128 : Shape := ⟨2, ![16384, 128]⟩
abbrev S262144 : Shape := ⟨1, ![262144]⟩
abbrev S32x64x64 : Shape := ⟨3, ![32, 64, 64]⟩
abbrev S128x128 : Shape := ⟨2, ![128, 128]⟩
abbrev S128x64 : Shape := ⟨2, ![128, 64]⟩
abbrev S256x64x3x3 : Shape := ⟨4, ![256, 64, 3, 3]⟩
abbrev S256 : Shape := ⟨1, ![256]⟩
abbrev S128x256x3x3 : Shape := ⟨4, ![128, 256, 3, 3]⟩
abbrev S128 : Shape := ⟨1, ![128]⟩
abbrev S64x128x3x3 : Shape := ⟨4, ![64, 128, 3, 3]⟩
abbrev S64 : Shape := ⟨1, ![64]⟩
abbrev S32x128x3x3 : Shape := ⟨4, ![32, 128, 3, 3]⟩
abbrev S32 : Shape := ⟨1, ![32]⟩
abbrev S16x32x4x4 : Shape := ⟨4, ![16, 32, 4, 4]⟩
abbrev S16 : Shape := ⟨1, ![16]⟩
abbrev S8x16x4x4 : Shape := ⟨4, ![8, 16, 4, 4]⟩
abbrev S8 : Shape := ⟨1, ![8]⟩
abbrev S1x8x4x4 : Shape := ⟨4, ![1, 8, 4, 4]⟩
abbrev S1 : Shape := ⟨1, ![1]⟩
abbrev S32x256 : Shape := ⟨2, ![32, 256]⟩
abbrev S1x32 : Shape := ⟨2, ![1, 32]⟩
abbrev S_ : Shape := ⟨0, ![]⟩
abbrev S16384 : Shape := ⟨1, ![16384]⟩
abbrev S262144x1 : Shape := ⟨2, ![262144, 1]⟩
abbrev S16384x1 : Shape := ⟨2, ![16384, 1]⟩
abbrev S262144x128 : Shape := ⟨2, ![262144, 128]⟩
abbrev S16384x64 : Shape := ⟨2, ![16384, 64]⟩
abbrev S262144x64 : Shape := ⟨2, ![262144, 64]⟩
abbrev S32x1x1 : Shape := ⟨3, ![32, 1, 1]⟩
abbrev S32x64x64x1 : Shape := ⟨4, ![32, 64, 64, 1]⟩
abbrev S32x64x64x64 : Shape := ⟨4, ![32, 64, 64, 64]⟩
abbrev S32x1 : Shape := ⟨2, ![32, 1]⟩
abbrev S32x64 : Shape := ⟨2, ![32, 64]⟩
abbrev S32x64x66x66 : Shape := ⟨4, ![32, 64, 66, 66]⟩
abbrev S32x576x64x64 : Shape := ⟨4, ![32, 576, 64, 64]⟩
abbrev S256x3x3x64 : Shape := ⟨4, ![256, 3, 3, 64]⟩
abbrev S256x576 : Shape := ⟨2, ![256, 576]⟩
abbrev S256x32x64x64 : Shape := ⟨4, ![256, 32, 64, 64]⟩
abbrev S32x256x64x64 : Shape := ⟨4, ![32, 256, 64, 64]⟩
abbrev S1x256x1x1 : Shape := ⟨4, ![1, 256, 1, 1]⟩
abbrev S32x256x66x66 : Shape := ⟨4, ![32, 256, 66, 66]⟩
abbrev S32x2304x64x64 : Shape := ⟨4, ![32, 2304, 64, 64]⟩
abbrev S128x3x3x256 : Shape := ⟨4, ![128, 3, 3, 256]⟩
abbrev S128x2304 : Shape := ⟨2, ![128, 2304]⟩
abbrev S128x32x64x64 : Shape := ⟨4, ![128, 32, 64, 64]⟩
abbrev S32x128x64x64 : Shape := ⟨4, ![32, 128, 64, 64]⟩
abbrev S1x128x1x1 : Shape := ⟨4, ![1, 128, 1, 1]⟩
abbrev S32x128x66x66 : Shape := ⟨4, ![32, 128, 66, 66]⟩
abbrev S32x1152x64x64 : Shape := ⟨4, ![32, 1152, 64, 64]⟩
abbrev S64x3x3x128 : Shape := ⟨4, ![64, 3, 3, 128]⟩
abbrev S64x1152 : Shape := ⟨2, ![64, 1152]⟩
abbrev S64x32x64x64 : Shape := ⟨4, ![64, 32, 64, 64]⟩
abbrev S1x64x1x1 : Shape := ⟨4, ![1, 64, 1, 1]⟩
abbrev S32x4096 : Shape := ⟨2, ![32, 4096]⟩
abbrev S4096 : Shape := ⟨1, ![4096]⟩
abbrev S32x64x4096 : Shape := ⟨3, ![32, 64, 4096]⟩
abbrev S32x2 : Shape := ⟨2, ![32, 2]⟩
abbrev S32x128 : Shape := ⟨2, ![32, 128]⟩
abbrev S256x32 : Shape := ⟨2, ![256, 32]⟩
abbrev S32x32 : Shape := ⟨2, ![32, 32]⟩
abbrev S1x1 : Shape := ⟨2, ![1, 1]⟩
abbrev S32x1x1x1 : Shape := ⟨4, ![32, 1, 1, 1]⟩
abbrev S32x128x62x62 : Shape := ⟨4, ![32, 128, 62, 62]⟩
abbrev S32x1152x62x62 : Shape := ⟨4, ![32, 1152, 62, 62]⟩
abbrev S32x3x3x128 : Shape := ⟨4, ![32, 3, 3, 128]⟩
abbrev S32x1152 : Shape := ⟨2, ![32, 1152]⟩
abbrev S32x32x62x62 : Shape := ⟨4, ![32, 32, 62, 62]⟩
abbrev S1x32x1x1 : Shape := ⟨4, ![1, 32, 1, 1]⟩
abbrev S32x32x64x64 : Shape := ⟨4, ![32, 32, 64, 64]⟩
abbrev S32x32x31x31 : Shape := ⟨4, ![32, 32, 31, 31]⟩
abbrev S32x512x31x31 : Shape := ⟨4, ![32, 512, 31, 31]⟩
abbrev S16x4x4x32 : Shape := ⟨4, ![16, 4, 4, 32]⟩
abbrev S16x512 : Shape := ⟨2, ![16, 512]⟩
abbrev S16x32x31x31 : Shape := ⟨4, ![16, 32, 31, 31]⟩
abbrev S32x16x31x31 : Shape := ⟨4, ![32, 16, 31, 31]⟩
abbrev S1x16x1x1 : Shape := ⟨4, ![1, 16, 1, 1]⟩
abbrev S32x16x33x33 : Shape := ⟨4, ![32, 16, 33, 33]⟩
abbrev S32x16x15x15 : Shape := ⟨4, ![32, 16, 15, 15]⟩
abbrev S32x256x15x15 : Shape := ⟨4, ![32, 256, 15, 15]⟩
abbrev S8x4x4x16 : Shape := ⟨4, ![8, 4, 4, 16]⟩
abbrev S8x256 : Shape := ⟨2, ![8, 256]⟩
abbrev S8x32x15x15 : Shape := ⟨4, ![8, 32, 15, 15]⟩
abbrev S32x8x15x15 : Shape := ⟨4, ![32, 8, 15, 15]⟩
abbrev S1x8x1x1 : Shape := ⟨4, ![1, 8, 1, 1]⟩
abbrev S32x8x17x17 : Shape := ⟨4, ![32, 8, 17, 17]⟩
abbrev S32x8x7x7 : Shape := ⟨4, ![32, 8, 7, 7]⟩
abbrev S32x128x7x7 : Shape := ⟨4, ![32, 128, 7, 7]⟩
abbrev S1x4x4x8 : Shape := ⟨4, ![1, 4, 4, 8]⟩
abbrev S1x128 : Shape := ⟨2, ![1, 128]⟩
abbrev S1x32x7x7 : Shape := ⟨4, ![1, 32, 7, 7]⟩
abbrev S32x1x7x7 : Shape := ⟨4, ![32, 1, 7, 7]⟩
abbrev S1x1x1x1 : Shape := ⟨4, ![1, 1, 1, 1]⟩

abbrev nBuf : Space → Nat
  | .hbm => 629
  | .vmem => 0
  | .smem => 0
  | _ => 0

abbrev hbmTy0_0 (i : Nat) : BufTy := match i % 128 with
  | 0 => ⟨S16384x128, .f32⟩
  | 1 => ⟨S262144, .i32⟩
  | 2 => ⟨S262144, .i32⟩
  | 3 => ⟨S32x64x64, .i32⟩
  | 4 => ⟨S16384x128, .f32⟩
  | 5 => ⟨S262144, .i32⟩
  | 6 => ⟨S262144, .i32⟩
  | 7 => ⟨S32x64x64, .i32⟩
  | 8 => ⟨S128x128, .f32⟩
  | 9 => ⟨S128x128, .f32⟩
  | 10 => ⟨S128x64, .f32⟩
  | 11 => ⟨S256x64x3x3, .f32⟩
  | 12 => ⟨S256, .f32⟩
  | 13 => ⟨S128x256x3x3, .f32⟩
  | 14 => ⟨S128, .f32⟩
  | 15 => ⟨S64x128x3x3, .f32⟩
  | 16 => ⟨S64, .f32⟩
  | 17 => ⟨S32x128x3x3, .f32⟩
  | 18 => ⟨S32, .f32⟩
  | 19 => ⟨S16x32x4x4, .f32⟩
  | 20 => ⟨S16, .f32⟩
  | 21 => ⟨S8x16x4x4, .f32⟩
  | 22 => ⟨S8, .f32⟩
  | 23 => ⟨S1x8x4x4, .f32⟩
  | 24 => ⟨S1, .f32⟩
  | 25 => ⟨S32x256, .f32⟩
  | 26 => ⟨S32, .f32⟩
  | 27 => ⟨S1x32, .f32⟩
  | 28 => ⟨S1, .f32⟩
  | 29 => ⟨S_, .f32⟩
  | 30 => ⟨S262144, .f32⟩
  | 31 => ⟨S_, .f32⟩
  | 32 => ⟨S16384, .f32⟩
  | 33 => ⟨S262144x1, .i32⟩
  | 34 => ⟨S16384, .f32⟩
  | 35 => ⟨S_, .f32⟩
  | 36 => ⟨S16384, .f32⟩
  | 37 => ⟨S16384, .f32⟩
  | 38 => ⟨S16384, .f32⟩
  | 39 => ⟨S16384x1, .f32⟩
  | 40 => ⟨S_, .f32⟩
  | 41 => ⟨S262144, .f32⟩
  | 42 => ⟨S_, .f32⟩
  | 43 => ⟨S16384, .f32⟩
  | 44 => ⟨S262144x1, .i32⟩
  | 45 => ⟨S16384, .f32⟩
  | 46 => ⟨S_, .f32⟩
  | 47 => ⟨S16384, .f32⟩
  | 48 => ⟨S16384, .f32⟩
  | 49 => ⟨S16384, .f32⟩
  | 50 => ⟨S16384x1, .f32⟩
  | 51 => ⟨S16384x128, .f32⟩
  | 52 => ⟨S16384x128, .f32⟩
  | 53 => ⟨S16384x128, .f32⟩
  | 54 => ⟨S_, .i32⟩
  | 55 => ⟨S262144, .i32⟩
  | 56 => ⟨S262144, .i1⟩
  | 57 => ⟨S_, .i32⟩
  | 58 => ⟨S262144, .i32⟩
  | 59 => ⟨S262144, .i32⟩
  | 60 => ⟨S262144, .i32⟩
  | 61 => ⟨S262144x1, .i32⟩
  | 62 => ⟨S262144x128, .f32⟩
  | 63 => ⟨S_, .f32⟩
  | 64 => ⟨S16384x128, .f32⟩
  | 65 => ⟨S262144x1, .i32⟩
  | 66 => ⟨S16384x128, .f32⟩
  | 67 => ⟨S16384x128, .f32⟩
  | 68 => ⟨S16384x128, .f32⟩
  | 69 => ⟨S_, .f32⟩
  | 70 => ⟨S16384x128, .f32⟩
  | 71 => ⟨S16384x128, .f32⟩
  | 72 => ⟨S16384x128, .f32⟩
  | 73 => ⟨S16384x128, .f32⟩
  | 74 => ⟨S16384x128, .f32⟩
  | 75 => ⟨S_, .i32⟩
  | 76 => ⟨S262144, .i32⟩
  | 77 => ⟨S262144, .i1⟩
  | 78 => ⟨S_, .i32⟩
  | 79 => ⟨S262144, .i32⟩
  | 80 => ⟨S262144, .i32⟩
  | 81 => ⟨S262144, .i32⟩
  | 82 => ⟨S262144x1, .i32⟩
  | 83 => ⟨S262144x128, .f32⟩
  | 84 => ⟨S_, .f32⟩
  | 85 => ⟨S16384x128, .f32⟩
  | 86 => ⟨S262144x1, .i32⟩
  | 87 => ⟨S16384x128, .f32⟩
  | 88 => ⟨S16384x128, .f32⟩
  | 89 => ⟨S16384x128, .f32⟩
  | 90 => ⟨S_, .f32⟩
  | 91 => ⟨S16384x128, .f32⟩
  | 92 => ⟨S16384x128, .f32⟩
  | 93 => ⟨S16384x64, .f32⟩
  | 94 => ⟨S16384x64, .f32⟩
  | 95 => ⟨S16384x64, .f32⟩
  | 96 => ⟨S_, .i32⟩
  | 97 => ⟨S262144, .i32⟩
  | 98 => ⟨S262144, .i1⟩
  | 99 => ⟨S_, .i32⟩
  | 100 => ⟨S262144, .i32⟩
  | 101 => ⟨S262144, .i32⟩
  | 102 => ⟨S262144, .i32⟩
  | 103 => ⟨S262144x1, .i32⟩
  | 104 => ⟨S262144x64, .f32⟩
  | 105 => ⟨S_, .f32⟩
  | 106 => ⟨S16384x64, .f32⟩
  | 107 => ⟨S262144x1, .i32⟩
  | 108 => ⟨S16384x64, .f32⟩
  | 109 => ⟨S16384x64, .f32⟩
  | 110 => ⟨S16384x64, .f32⟩
  | 111 => ⟨S16384x64, .f32⟩
  | 112 => ⟨S32, .i32⟩
  | 113 => ⟨S_, .i32⟩
  | 114 => ⟨S32, .i32⟩
  | 115 => ⟨S32, .i32⟩
  | 116 => ⟨S32x1x1, .i32⟩
  | 117 => ⟨S_, .i32⟩
  | 118 => ⟨S32x64x64, .i32⟩
  | 119 => ⟨S32x64x64, .i32⟩
  | 120 => ⟨S32x64x64, .i32⟩
  | 121 => ⟨S32x64x64, .i32⟩
  | 122 => ⟨S_, .i32⟩
  | 123 => ⟨S32x64x64, .i32⟩
  | 124 => ⟨S32x64x64, .i1⟩
  | 125 => ⟨S32x64x64x1, .i1⟩
  | 126 => ⟨S_, .i32⟩
  | 127 => ⟨S32x64x64, .i32⟩
  | _ => ⟨S16384x128, .f32⟩

abbrev hbmTy0_1 (i : Nat) : BufTy := match i % 128 with
  | 0 => ⟨S32x64x64, .i1⟩
  | 1 => ⟨S_, .i32⟩
  | 2 => ⟨S32x64x64, .i32⟩
  | 3 => ⟨S32x64x64, .i32⟩
  | 4 => ⟨S32x64x64, .i32⟩
  | 5 => ⟨S32x64x64x1, .i32⟩
  | 6 => ⟨S32x64x64x64, .f32⟩
  | 7 => ⟨S_, .f32⟩
  | 8 => ⟨S_, .f32⟩
  | 9 => ⟨S32x64x64x64, .i1⟩
  | 10 => ⟨S32x64x64x64, .f32⟩
  | 11 => ⟨S32x64x64x64, .f32⟩
  | 12 => ⟨S_, .i32⟩
  | 13 => ⟨S32, .i32⟩
  | 14 => ⟨S32, .i1⟩
  | 15 => ⟨S_, .i32⟩
  | 16 => ⟨S32, .i32⟩
  | 17 => ⟨S32, .i32⟩
  | 18 => ⟨S32, .i32⟩
  | 19 => ⟨S32x1, .i32⟩
  | 20 => ⟨S32x64, .f32⟩
  | 21 => ⟨S32x64x64x64, .f32⟩
  | 22 => ⟨S_, .i32⟩
  | 23 => ⟨S_, .f32⟩
  | 24 => ⟨S32x64x66x66, .f32⟩
  | 25 => ⟨S32x64x64x64, .f32⟩
  | 26 => ⟨S32x64x64x64, .f32⟩
  | 27 => ⟨S32x64x64x64, .f32⟩
  | 28 => ⟨S32x64x64x64, .f32⟩
  | 29 => ⟨S32x64x64x64, .f32⟩
  | 30 => ⟨S32x64x64x64, .f32⟩
  | 31 => ⟨S32x64x64x64, .f32⟩
  | 32 => ⟨S32x64x64x64, .f32⟩
  | 33 => ⟨S32x64x64x64, .f32⟩
  | 34 => ⟨S32x576x64x64, .f32⟩
  | 35 => ⟨S256x3x3x64, .f32⟩
  | 36 => ⟨S256x576, .f32⟩
  | 37 => ⟨S256x32x64x64, .f32⟩
  | 38 => ⟨S32x256x64x64, .f32⟩
  | 39 => ⟨S1x256x1x1, .f32⟩
  | 40 => ⟨S32x256x64x64, .f32⟩
  | 41 => ⟨S32x256x64x64, .f32⟩
  | 42 => ⟨S_, .f32⟩
  | 43 => ⟨S32x256x64x64, .f32⟩
  | 44 => ⟨S32x256x64x64, .f32⟩
  | 45 => ⟨S_, .i32⟩
  | 46 => ⟨S_, .f32⟩
  | 47 => ⟨S32x256x66x66, .f32⟩
  | 48 => ⟨S32x256x64x64, .f32⟩
  | 49 => ⟨S32x256x64x64, .f32⟩
  | 50 => ⟨S32x256x64x64, .f32⟩
  | 51 => ⟨S32x256x64x64, .f32⟩
  | 52 => ⟨S32x256x64x64, .f32⟩
  | 53 => ⟨S32x256x64x64, .f32⟩
  | 54 => ⟨S32x256x64x64, .f32⟩
  | 55 => ⟨S32x256x64x64, .f32⟩
  | 56 => ⟨S32x256x64x64, .f32⟩
  | 57 => ⟨S32x2304x64x64, .f32⟩
  | 58 => ⟨S128x3x3x256, .f32⟩
  | 59 => ⟨S128x2304, .f32⟩
  | 60 => ⟨S128x32x64x64, .f32⟩
  | 61 => ⟨S32x128x64x64, .f32⟩
  | 62 => ⟨S1x128x1x1, .f32⟩
  | 63 => ⟨S32x128x64x64, .f32⟩
  | 64 => ⟨S32x128x64x64, .f32⟩
  | 65 => ⟨S_, .f32⟩
  | 66 => ⟨S32x128x64x64, .f32⟩
  | 67 => ⟨S32x128x64x64, .f32⟩
  | 68 => ⟨S_, .i32⟩
  | 69 => ⟨S_, .f32⟩
  | 70 => ⟨S32x128x66x66, .f32⟩
  | 71 => ⟨S32x128x64x64, .f32⟩
  | 72 => ⟨S32x128x64x64, .f32⟩
  | 73 => ⟨S32x128x64x64, .f32⟩
  | 74 => ⟨S32x128x64x64, .f32⟩
  | 75 => ⟨S32x128x64x64, .f32⟩
  | 76 => ⟨S32x128x64x64, .f32⟩
  | 77 => ⟨S32x128x64x64, .f32⟩
  | 78 => ⟨S32x128x64x64, .f32⟩
  | 79 => ⟨S32x128x64x64, .f32⟩
  | 80 => ⟨S32x1152x64x64, .f32⟩
  | 81 => ⟨S64x3x3x128, .f32⟩
  | 82 => ⟨S64x1152, .f32⟩
  | 83 => ⟨S64x32x64x64, .f32⟩
  | 84 => ⟨S32x64x64x64, .f32⟩
  | 85 => ⟨S1x64x1x1, .f32⟩
  | 86 => ⟨S32x64x64x64, .f32⟩
  | 87 => ⟨S32x64x64x64, .f32⟩
  | 88 => ⟨S32x64x64x64, .f32⟩
  | 89 => ⟨S_, .i32⟩
  | 90 => ⟨S32x64x64, .i32⟩
  | 91 => ⟨S32x64x64, .i1⟩
  | 92 => ⟨S32x4096, .i1⟩
  | 93 => ⟨S4096, .i32⟩
  | 94 => ⟨S_, .i32⟩
  | 95 => ⟨S_, .i32⟩
  | 96 => ⟨S32x4096, .i32⟩
  | 97 => ⟨S32x4096, .i32⟩
  | 98 => ⟨S32x4096, .i32⟩
  | 99 => ⟨S_, .i32⟩
  | 100 => ⟨S32, .i32⟩
  | 101 => ⟨S_, .i32⟩
  | 102 => ⟨S32, .i32⟩
  | 103 => ⟨S32, .i1⟩
  | 104 => ⟨S_, .i32⟩
  | 105 => ⟨S_, .i32⟩
  | 106 => ⟨S32, .i32⟩
  | 107 => ⟨S32, .i32⟩
  | 108 => ⟨S32x64x4096, .f32⟩
  | 109 => ⟨S32, .i32⟩
  | 110 => ⟨S_, .i32⟩
  | 111 => ⟨S32, .i32⟩
  | 112 => ⟨S32, .i1⟩
  | 113 => ⟨S_, .i32⟩
  | 114 => ⟨S32, .i32⟩
  | 115 => ⟨S32, .i32⟩
  | 116 => ⟨S32, .i32⟩
  | 117 => ⟨S_, .i32⟩
  | 118 => ⟨S32, .i32⟩
  | 119 => ⟨S32, .i1⟩
  | 120 => ⟨S_, .i32⟩
  | 121 => ⟨S32, .i32⟩
  | 122 => ⟨S32, .i32⟩
  | 123 => ⟨S32, .i32⟩
  | 124 => ⟨S32x1, .i32⟩
  | 125 => ⟨S32x1, .i32⟩
  | 126 => ⟨S32x2, .i32⟩
  | 127 => ⟨S32x64, .f32⟩
  | _ => ⟨S16384x128, .f32⟩

abbrev hbmTy0_2 (i : Nat) : BufTy := match i % 128 with
  | 0 => ⟨S32x128, .f32⟩
  | 1 => ⟨S_, .f32⟩
  | 2 => ⟨S262144, .f32⟩
  | 3 => ⟨S_, .f32⟩
  | 4 => ⟨S16384, .f32⟩
  | 5 => ⟨S262144x1, .i32⟩
  | 6 => ⟨S16384, .f32⟩
  | 7 => ⟨S_, .f32⟩
  | 8 => ⟨S16384, .f32⟩
  | 9 => ⟨S16384, .f32⟩
  | 10 => ⟨S16384, .f32⟩
  | 11 => ⟨S16384x1, .f32⟩
  | 12 => ⟨S_, .f32⟩
  | 13 => ⟨S262144, .f32⟩
  | 14 => ⟨S_, .f32⟩
  | 15 => ⟨S16384, .f32⟩
  | 16 => ⟨S262144x1, .i32⟩
  | 17 => ⟨S16384, .f32⟩
  | 18 => ⟨S_, .f32⟩
  | 19 => ⟨S16384, .f32⟩
  | 20 => ⟨S16384, .f32⟩
  | 21 => ⟨S16384, .f32⟩
  | 22 => ⟨S16384x1, .f32⟩
  | 23 => ⟨S16384x128, .f32⟩
  | 24 => ⟨S16384x128, .f32⟩
  | 25 => ⟨S16384x128, .f32⟩
  | 26 => ⟨S_, .i32⟩
  | 27 => ⟨S262144, .i32⟩
  | 28 => ⟨S262144, .i1⟩
  | 29 => ⟨S_, .i32⟩
  | 30 => ⟨S262144, .i32⟩
  | 31 => ⟨S262144, .i32⟩
  | 32 => ⟨S262144, .i32⟩
  | 33 => ⟨S262144x1, .i32⟩
  | 34 => ⟨S262144x128, .f32⟩
  | 35 => ⟨S_, .f32⟩
  | 36 => ⟨S16384x128, .f32⟩
  | 37 => ⟨S262144x1, .i32⟩
  | 38 => ⟨S16384x128, .f32⟩
  | 39 => ⟨S16384x128, .f32⟩
  | 40 => ⟨S16384x128, .f32⟩
  | 41 => ⟨S_, .f32⟩
  | 42 => ⟨S16384x128, .f32⟩
  | 43 => ⟨S16384x128, .f32⟩
  | 44 => ⟨S16384x128, .f32⟩
  | 45 => ⟨S16384x128, .f32⟩
  | 46 => ⟨S16384x128, .f32⟩
  | 47 => ⟨S_, .i32⟩
  | 48 => ⟨S262144, .i32⟩
  | 49 => ⟨S262144, .i1⟩
  | 50 => ⟨S_, .i32⟩
  | 51 => ⟨S262144, .i32⟩
  | 52 => ⟨S262144, .i32⟩
  | 53 => ⟨S262144, .i32⟩
  | 54 => ⟨S262144x1, .i32⟩
  | 55 => ⟨S262144x128, .f32⟩
  | 56 => ⟨S_, .f32⟩
  | 57 => ⟨S16384x128, .f32⟩
  | 58 => ⟨S262144x1, .i32⟩
  | 59 => ⟨S16384x128, .f32⟩
  | 60 => ⟨S16384x128, .f32⟩
  | 61 => ⟨S16384x128, .f32⟩
  | 62 => ⟨S_, .f32⟩
  | 63 => ⟨S16384x128, .f32⟩
  | 64 => ⟨S16384x128, .f32⟩
  | 65 => ⟨S16384x64, .f32⟩
  | 66 => ⟨S16384x64, .f32⟩
  | 67 => ⟨S16384x64, .f32⟩
  | 68 => ⟨S_, .i32⟩
  | 69 => ⟨S262144, .i32⟩
  | 70 => ⟨S262144, .i1⟩
  | 71 => ⟨S_, .i32⟩
  | 72 => ⟨S262144, .i32⟩
  | 73 => ⟨S262144, .i32⟩
  | 74 => ⟨S262144, .i32⟩
  | 75 => ⟨S262144x1, .i32⟩
  | 76 => ⟨S262144x64, .f32⟩
  | 77 => ⟨S_, .f32⟩
  | 78 => ⟨S16384x64, .f32⟩
  | 79 => ⟨S262144x1, .i32⟩
  | 80 => ⟨S16384x64, .f32⟩
  | 81 => ⟨S16384x64, .f32⟩
  | 82 => ⟨S16384x64, .f32⟩
  | 83 => ⟨S16384x64, .f32⟩
  | 84 => ⟨S32, .i32⟩
  | 85 => ⟨S_, .i32⟩
  | 86 => ⟨S32, .i32⟩
  | 87 => ⟨S32, .i32⟩
  | 88 => ⟨S32x1x1, .i32⟩
  | 89 => ⟨S_, .i32⟩
  | 90 => ⟨S32x64x64, .i32⟩
  | 91 => ⟨S32x64x64, .i32⟩
  | 92 => ⟨S32x64x64, .i32⟩
  | 93 => ⟨S32x64x64, .i32⟩
  | 94 => ⟨S_, .i32⟩
  | 95 => ⟨S32x64x64, .i32⟩
  | 96 => ⟨S32x64x64, .i1⟩
  | 97 => ⟨S32x64x64x1, .i1⟩
  | 98 => ⟨S_, .i32⟩
  | 99 => ⟨S32x64x64, .i32⟩
  | 100 => ⟨S32x64x64, .i1⟩
  | 101 => ⟨S_, .i32⟩
  | 102 => ⟨S32x64x64, .i32⟩
  | 103 => ⟨S32x64x64, .i32⟩
  | 104 => ⟨S32x64x64, .i32⟩
  | 105 => ⟨S32x64x64x1, .i32⟩
  | 106 => ⟨S32x64x64x64, .f32⟩
  | 107 => ⟨S_, .f32⟩
  | 108 => ⟨S_, .f32⟩
  | 109 => ⟨S32x64x64x64, .i1⟩
  | 110 => ⟨S32x64x64x64, .f32⟩
  | 111 => ⟨S32x64x64x64, .f32⟩
  | 112 => ⟨S_, .i32⟩
  | 113 => ⟨S32, .i32⟩
  | 114 => ⟨S32, .i1⟩
  | 115 => ⟨S_, .i32⟩
  | 116 => ⟨S32, .i32⟩
  | 117 => ⟨S32, .i32⟩
  | 118 => ⟨S32, .i32⟩
  | 119 => ⟨S32x1, .i32⟩
  | 120 => ⟨S32x64, .f32⟩
  | 121 => ⟨S32x64x64x64, .f32⟩
  | 122 => ⟨S_, .i32⟩
  | 123 => ⟨S_, .f32⟩
  | 124 => ⟨S32x64x66x66, .f32⟩
  | 125 => ⟨S32x64x64x64, .f32⟩
  | 126 => ⟨S32x64x64x64, .f32⟩
  | 127 => ⟨S32x64x64x64, .f32⟩
  | _ => ⟨S16384x128, .f32⟩

abbrev hbmTy0_3 (i : Nat) : BufTy := match i % 128 with
  | 0 => ⟨S32x64x64x64, .f32⟩
  | 1 => ⟨S32x64x64x64, .f32⟩
  | 2 => ⟨S32x64x64x64, .f32⟩
  | 3 => ⟨S32x64x64x64, .f32⟩
  | 4 => ⟨S32x64x64x64, .f32⟩
  | 5 => ⟨S32x64x64x64, .f32⟩
  | 6 => ⟨S32x576x64x64, .f32⟩
  | 7 => ⟨S256x3x3x64, .f32⟩
  | 8 => ⟨S256x576, .f32⟩
  | 9 => ⟨S256x32x64x64, .f32⟩
  | 10 => ⟨S32x256x64x64, .f32⟩
  | 11 => ⟨S1x256x1x1, .f32⟩
  | 12 => ⟨S32x256x64x64, .f32⟩
  | 13 => ⟨S32x256x64x64, .f32⟩
  | 14 => ⟨S_, .f32⟩
  | 15 => ⟨S32x256x64x64, .f32⟩
  | 16 => ⟨S32x256x64x64, .f32⟩
  | 17 => ⟨S_, .i32⟩
  | 18 => ⟨S_, .f32⟩
  | 19 => ⟨S32x256x66x66, .f32⟩
  | 20 => ⟨S32x256x64x64, .f32⟩
  | 21 => ⟨S32x256x64x64, .f32⟩
  | 22 => ⟨S32x256x64x64, .f32⟩
  | 23 => ⟨S32x256x64x64, .f32⟩
  | 24 => ⟨S32x256x64x64, .f32⟩
  | 25 => ⟨S32x256x64x64, .f32⟩
  | 26 => ⟨S32x256x64x64, .f32⟩
  | 27 => ⟨S32x256x64x64, .f32⟩
  | 28 => ⟨S32x256x64x64, .f32⟩
  | 29 => ⟨S32x2304x64x64, .f32⟩
  | 30 => ⟨S128x3x3x256, .f32⟩
  | 31 => ⟨S128x2304, .f32⟩
  | 32 => ⟨S128x32x64x64, .f32⟩
  | 33 => ⟨S32x128x64x64, .f32⟩
  | 34 => ⟨S1x128x1x1, .f32⟩
  | 35 => ⟨S32x128x64x64, .f32⟩
  | 36 => ⟨S32x128x64x64, .f32⟩
  | 37 => ⟨S_, .f32⟩
  | 38 => ⟨S32x128x64x64, .f32⟩
  | 39 => ⟨S32x128x64x64, .f32⟩
  | 40 => ⟨S_, .i32⟩
  | 41 => ⟨S_, .f32⟩
  | 42 => ⟨S32x128x66x66, .f32⟩
  | 43 => ⟨S32x128x64x64, .f32⟩
  | 44 => ⟨S32x128x64x64, .f32⟩
  | 45 => ⟨S32x128x64x64, .f32⟩
  | 46 => ⟨S32x128x64x64, .f32⟩
  | 47 => ⟨S32x128x64x64, .f32⟩
  | 48 => ⟨S32x128x64x64, .f32⟩
  | 49 => ⟨S32x128x64x64, .f32⟩
  | 50 => ⟨S32x128x64x64, .f32⟩
  | 51 => ⟨S32x128x64x64, .f32⟩
  | 52 => ⟨S32x1152x64x64, .f32⟩
  | 53 => ⟨S64x3x3x128, .f32⟩
  | 54 => ⟨S64x1152, .f32⟩
  | 55 => ⟨S64x32x64x64, .f32⟩
  | 56 => ⟨S32x64x64x64, .f32⟩
  | 57 => ⟨S1x64x1x1, .f32⟩
  | 58 => ⟨S32x64x64x64, .f32⟩
  | 59 => ⟨S32x64x64x64, .f32⟩
  | 60 => ⟨S32x64x64x64, .f32⟩
  | 61 => ⟨S_, .i32⟩
  | 62 => ⟨S32x64x64, .i32⟩
  | 63 => ⟨S32x64x64, .i1⟩
  | 64 => ⟨S32x4096, .i1⟩
  | 65 => ⟨S4096, .i32⟩
  | 66 => ⟨S_, .i32⟩
  | 67 => ⟨S_, .i32⟩
  | 68 => ⟨S32x4096, .i32⟩
  | 69 => ⟨S32x4096, .i32⟩
  | 70 => ⟨S32x4096, .i32⟩
  | 71 => ⟨S_, .i32⟩
  | 72 => ⟨S32, .i32⟩
  | 73 => ⟨S_, .i32⟩
  | 74 => ⟨S32, .i32⟩
  | 75 => ⟨S32, .i1⟩
  | 76 => ⟨S_, .i32⟩
  | 77 => ⟨S_, .i32⟩
  | 78 => ⟨S32, .i32⟩
  | 79 => ⟨S32, .i32⟩
  | 80 => ⟨S32x64x4096, .f32⟩
  | 81 => ⟨S32, .i32⟩
  | 82 => ⟨S_, .i32⟩
  | 83 => ⟨S32, .i32⟩
  | 84 => ⟨S32, .i1⟩
  | 85 => ⟨S_, .i32⟩
  | 86 => ⟨S32, .i32⟩
  | 87 => ⟨S32, .i32⟩
  | 88 => ⟨S32, .i32⟩
  | 89 => ⟨S_, .i32⟩
  | 90 => ⟨S32, .i32⟩
  | 91 => ⟨S32, .i1⟩
  | 92 => ⟨S_, .i32⟩
  | 93 => ⟨S32, .i32⟩
  | 94 => ⟨S32, .i32⟩
  | 95 => ⟨S32, .i32⟩
  | 96 => ⟨S32x1, .i32⟩
  | 97 => ⟨S32x1, .i32⟩
  | 98 => ⟨S32x2, .i32⟩
  | 99 => ⟨S32x64, .f32⟩
  | 100 => ⟨S32x128, .f32⟩
  | 101 => ⟨S32x256, .f32⟩
  | 102 => ⟨S256x32, .f32⟩
  | 103 => ⟨S32x32, .f32⟩
  | 104 => ⟨S1x32, .f32⟩
  | 105 => ⟨S32x32, .f32⟩
  | 106 => ⟨S32x32, .f32⟩
  | 107 => ⟨S_, .f32⟩
  | 108 => ⟨S32x32, .f32⟩
  | 109 => ⟨S32x32, .f32⟩
  | 110 => ⟨S32x1, .f32⟩
  | 111 => ⟨S32x1, .f32⟩
  | 112 => ⟨S1x1, .f32⟩
  | 113 => ⟨S32x1, .f32⟩
  | 114 => ⟨S32x1, .f32⟩
  | 115 => ⟨S32x1x1x1, .f32⟩
  | 116 => ⟨S32x128x64x64, .f32⟩
  | 117 => ⟨S32x128x62x62, .f32⟩
  | 118 => ⟨S32x128x62x62, .f32⟩
  | 119 => ⟨S32x128x62x62, .f32⟩
  | 120 => ⟨S32x128x62x62, .f32⟩
  | 121 => ⟨S32x128x62x62, .f32⟩
  | 122 => ⟨S32x128x62x62, .f32⟩
  | 123 => ⟨S32x128x62x62, .f32⟩
  | 124 => ⟨S32x128x62x62, .f32⟩
  | 125 => ⟨S32x128x62x62, .f32⟩
  | 126 => ⟨S32x1152x62x62, .f32⟩
  | 127 => ⟨S32x3x3x128, .f32⟩
  | _ => ⟨S16384x128, .f32⟩

abbrev hbmTy0_4 (i : Nat) : BufTy := match i % 128 with
  | 0 => ⟨S32x1152, .f32⟩
  | 1 => ⟨S32x32x62x62, .f32⟩
  | 2 => ⟨S32x32x62x62, .f32⟩
  | 3 => ⟨S1x32x1x1, .f32⟩
  | 4 => ⟨S32x32x62x62, .f32⟩
  | 5 => ⟨S32x32x62x62, .f32⟩
  | 6 => ⟨S_, .f32⟩
  | 7 => ⟨S32x32x62x62, .f32⟩
  | 8 => ⟨S32x32x62x62, .f32⟩
  | 9 => ⟨S_, .i32⟩
  | 10 => ⟨S_, .f32⟩
  | 11 => ⟨S32x32x64x64, .f32⟩
  | 12 => ⟨S32x32x31x31, .f32⟩
  | 13 => ⟨S32x32x31x31, .f32⟩
  | 14 => ⟨S32x32x31x31, .f32⟩
  | 15 => ⟨S32x32x31x31, .f32⟩
  | 16 => ⟨S32x32x31x31, .f32⟩
  | 17 => ⟨S32x32x31x31, .f32⟩
  | 18 => ⟨S32x32x31x31, .f32⟩
  | 19 => ⟨S32x32x31x31, .f32⟩
  | 20 => ⟨S32x32x31x31, .f32⟩
  | 21 => ⟨S32x32x31x31, .f32⟩
  | 22 => ⟨S32x32x31x31, .f32⟩
  | 23 => ⟨S32x32x31x31, .f32⟩
  | 24 => ⟨S32x32x31x31, .f32⟩
  | 25 => ⟨S32x32x31x31, .f32⟩
  | 26 => ⟨S32x32x31x31, .f32⟩
  | 27 => ⟨S32x32x31x31, .f32⟩
  | 28 => ⟨S32x512x31x31, .f32⟩
  | 29 => ⟨S16x4x4x32, .f32⟩
  | 30 => ⟨S16x512, .f32⟩
  | 31 => ⟨S16x32x31x31, .f32⟩
  | 32 => ⟨S32x16x31x31, .f32⟩
  | 33 => ⟨S1x16x1x1, .f32⟩
  | 34 => ⟨S32x16x31x31, .f32⟩
  | 35 => ⟨S32x16x31x31, .f32⟩
  | 36 => ⟨S_, .f32⟩
  | 37 => ⟨S32x16x31x31, .f32⟩
  | 38 => ⟨S32x16x31x31, .f32⟩
  | 39 => ⟨S_, .i32⟩
  | 40 => ⟨S_, .f32⟩
  | 41 => ⟨S32x16x33x33, .f32⟩
  | 42 => ⟨S32x16x15x15, .f32⟩
  | 43 => ⟨S32x16x15x15, .f32⟩
  | 44 => ⟨S32x16x15x15, .f32⟩
  | 45 => ⟨S32x16x15x15, .f32⟩
  | 46 => ⟨S32x16x15x15, .f32⟩
  | 47 => ⟨S32x16x15x15, .f32⟩
  | 48 => ⟨S32x16x15x15, .f32⟩
  | 49 => ⟨S32x16x15x15, .f32⟩
  | 50 => ⟨S32x16x15x15, .f32⟩
  | 51 => ⟨S32x16x15x15, .f32⟩
  | 52 => ⟨S32x16x15x15, .f32⟩
  | 53 => ⟨S32x16x15x15, .f32⟩
  | 54 => ⟨S32x16x15x15, .f32⟩
  | 55 => ⟨S32x16x15x15, .f32⟩
  | 56 => ⟨S32x16x15x15, .f32⟩
  | 57 => ⟨S32x16x15x15, .f32⟩
  | 58 => ⟨S32x256x15x15, .f32⟩
  | 59 => ⟨S8x4x4x16, .f32⟩
  | 60 => ⟨S8x256, .f32⟩
  | 61 => ⟨S8x32x15x15, .f32⟩
  | 62 => ⟨S32x8x15x15, .f32⟩
  | 63 => ⟨S1x8x1x1, .f32⟩
  | 64 => ⟨S32x8x15x15, .f32⟩
  | 65 => ⟨S32x8x15x15, .f32⟩
  | 66 => ⟨S_, .f32⟩
  | 67 => ⟨S32x8x15x15, .f32⟩
  | 68 => ⟨S32x8x15x15, .f32⟩
  | 69 => ⟨S_, .i32⟩
  | 70 => ⟨S_, .f32⟩
  | 71 => ⟨S32x8x17x17, .f32⟩
  | 72 => ⟨S32x8x7x7, .f32⟩
  | 73 => ⟨S32x8x7x7, .f32⟩
  | 74 => ⟨S32x8x7x7, .f32⟩
  | 75 => ⟨S32x8x7x7, .f32⟩
  | 76 => ⟨S32x8x7x7, .f32⟩
  | 77 => ⟨S32x8x7x7, .f32⟩
  | 78 => ⟨S32x8x7x7, .f32⟩
  | 79 => ⟨S32x8x7x7, .f32⟩
  | 80 => ⟨S32x8x7x7, .f32⟩
  | 81 => ⟨S32x8x7x7, .f32⟩
  | 82 => ⟨S32x8x7x7, .f32⟩
  | 83 => ⟨S32x8x7x7, .f32⟩
  | 84 => ⟨S32x8x7x7, .f32⟩
  | 85 => ⟨S32x8x7x7, .f32⟩
  | 86 => ⟨S32x8x7x7, .f32⟩
  | 87 => ⟨S32x8x7x7, .f32⟩
  | 88 => ⟨S32x128x7x7, .f32⟩
  | 89 => ⟨S1x4x4x8, .f32⟩
  | 90 => ⟨S1x128, .f32⟩
  | 91 => ⟨S1x32x7x7, .f32⟩
  | 92 => ⟨S32x1x7x7, .f32⟩
  | 93 => ⟨S1x1x1x1, .f32⟩
  | 94 => ⟨S32x1x7x7, .f32⟩
  | 95 => ⟨S32x1x7x7, .f32⟩
  | 96 => ⟨S32x1x7x7, .f32⟩
  | 97 => ⟨S32x1x7x7, .f32⟩
  | 98 => ⟨S_, .f32⟩
  | 99 => ⟨S32x1x7x7, .f32⟩
  | 100 => ⟨S32x1x7x7, .f32⟩
  | 101 => ⟨S_, .f32⟩
  | 102 => ⟨S32x1x7x7, .f32⟩
  | 103 => ⟨S32x1x7x7, .f32⟩
  | 104 => ⟨S32x1x1x1, .f32⟩
  | 105 => ⟨S32x1x1x1, .f32⟩
  | 106 => ⟨S_, .f32⟩
  | 107 => ⟨S32x1x1x1, .f32⟩
  | 108 => ⟨S32x1x1x1, .f32⟩
  | 109 => ⟨S_, .f32⟩
  | 110 => ⟨S32x1x1x1, .f32⟩
  | 111 => ⟨S32x1x1x1, .f32⟩
  | 112 => ⟨S32x1x7x7, .f32⟩
  | 113 => ⟨S32x1x7x7, .f32⟩
  | 114 => ⟨S_, .f32⟩
  | 115 => ⟨S32x1x7x7, .f32⟩
  | 116 => ⟨S32x1x7x7, .f32⟩
  | _ => ⟨S16384x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_cst_0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_cst_1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst_2 : Ref sig .tc := ⟨.hbm, 40, rfl⟩
abbrev main_v8 : Ref sig .tc := ⟨.hbm, 41, rfl⟩
abbrev main_cst_3 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_4 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_c : Ref sig .tc := ⟨.hbm, 54, rfl⟩
abbrev main_v19 : Ref sig .tc := ⟨.hbm, 55, rfl⟩
abbrev main_v20 : Ref sig .tc := ⟨.hbm, 56, rfl⟩
abbrev main_c_5 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_6 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_call0_cst : Ref sig .tc := ⟨.hbm, 69, rfl⟩
abbrev main_call0_v0 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_c_7 : Ref sig .tc := ⟨.hbm, 75, rfl⟩
abbrev main_v35 : Ref sig .tc := ⟨.hbm, 76, rfl⟩
abbrev main_v36 : Ref sig .tc := ⟨.hbm, 77, rfl⟩
abbrev main_c_8 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_9 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_call1_cst : Ref sig .tc := ⟨.hbm, 90, rfl⟩
abbrev main_call1_v0 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_c_10 : Ref sig .tc := ⟨.hbm, 96, rfl⟩
abbrev main_v51 : Ref sig .tc := ⟨.hbm, 97, rfl⟩
abbrev main_v52 : Ref sig .tc := ⟨.hbm, 98, rfl⟩
abbrev main_c_11 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_12 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_c_13 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_c_14 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_15 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_c_16 : Ref sig .tc := ⟨.hbm, 126, rfl⟩
abbrev main_v75 : Ref sig .tc := ⟨.hbm, 127, rfl⟩
abbrev main_v76 : Ref sig .tc := ⟨.hbm, 128, rfl⟩
abbrev main_c_17 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_cst_18 : Ref sig .tc := ⟨.hbm, 135, rfl⟩
abbrev main_call2_v0 : Ref sig .tc := ⟨.hbm, 136, rfl⟩
abbrev main_call2_v1 : Ref sig .tc := ⟨.hbm, 137, rfl⟩
abbrev main_call2_v2 : Ref sig .tc := ⟨.hbm, 138, rfl⟩
abbrev main_v82 : Ref sig .tc := ⟨.hbm, 139, rfl⟩
abbrev main_c_19 : Ref sig .tc := ⟨.hbm, 140, rfl⟩
abbrev main_v83 : Ref sig .tc := ⟨.hbm, 141, rfl⟩
abbrev main_v84 : Ref sig .tc := ⟨.hbm, 142, rfl⟩
abbrev main_c_20 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_c_21 : Ref sig .tc := ⟨.hbm, 150, rfl⟩
abbrev main_call3_v0 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_call4_cst : Ref sig .tc := ⟨.hbm, 170, rfl⟩
abbrev main_call4_v0 : Ref sig .tc := ⟨.hbm, 171, rfl⟩
abbrev main_v109 : Ref sig .tc := ⟨.hbm, 172, rfl⟩
abbrev main_c_22 : Ref sig .tc := ⟨.hbm, 173, rfl⟩
abbrev main_call5_v0 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_call6_cst : Ref sig .tc := ⟨.hbm, 193, rfl⟩
abbrev main_call6_v0 : Ref sig .tc := ⟨.hbm, 194, rfl⟩
abbrev main_v128 : Ref sig .tc := ⟨.hbm, 195, rfl⟩
abbrev main_c_23 : Ref sig .tc := ⟨.hbm, 196, rfl⟩
abbrev main_call7_v0 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_c_24 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_c_25 : Ref sig .tc := ⟨.hbm, 222, rfl⟩
abbrev main_call8_v0 : Ref sig .tc := ⟨.hbm, 223, rfl⟩
abbrev main_call8_v1 : Ref sig .tc := ⟨.hbm, 224, rfl⟩
abbrev main_call8_v2 : Ref sig .tc := ⟨.hbm, 225, rfl⟩
abbrev main_v152 : Ref sig .tc := ⟨.hbm, 226, rfl⟩
abbrev main_c_26 : Ref sig .tc := ⟨.hbm, 227, rfl⟩
abbrev main_v153 : Ref sig .tc := ⟨.hbm, 228, rfl⟩
abbrev main_c_27 : Ref sig .tc := ⟨.hbm, 229, rfl⟩
abbrev main_v154 : Ref sig .tc := ⟨.hbm, 230, rfl⟩
abbrev main_v155 : Ref sig .tc := ⟨.hbm, 231, rfl⟩
abbrev main_c_28 : Ref sig .tc := ⟨.hbm, 232, rfl⟩
abbrev main_call9_v0 : Ref sig .tc := ⟨.hbm, 233, rfl⟩
abbrev main_call9_v1 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_c_29 : Ref sig .tc := ⟨.hbm, 238, rfl⟩
abbrev main_v159 : Ref sig .tc := ⟨.hbm, 239, rfl⟩
abbrev main_v160 : Ref sig .tc := ⟨.hbm, 240, rfl⟩
abbrev main_c_30 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_c_31 : Ref sig .tc := ⟨.hbm, 245, rfl⟩
abbrev main_v164 : Ref sig .tc := ⟨.hbm, 246, rfl⟩
abbrev main_v165 : Ref sig .tc := ⟨.hbm, 247, rfl⟩
abbrev main_c_32 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_cst_33 : Ref sig .tc := ⟨.hbm, 257, rfl⟩
abbrev main_v174 : Ref sig .tc := ⟨.hbm, 258, rfl⟩
abbrev main_cst_34 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_cst_35 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_cst_36 : Ref sig .tc := ⟨.hbm, 268, rfl⟩
abbrev main_v182 : Ref sig .tc := ⟨.hbm, 269, rfl⟩
abbrev main_cst_37 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_cst_38 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_c_39 : Ref sig .tc := ⟨.hbm, 282, rfl⟩
abbrev main_v193 : Ref sig .tc := ⟨.hbm, 283, rfl⟩
abbrev main_v194 : Ref sig .tc := ⟨.hbm, 284, rfl⟩
abbrev main_c_40 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_cst_41 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_call10_cst : Ref sig .tc := ⟨.hbm, 297, rfl⟩
abbrev main_call10_v0 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_v208 : Ref sig .tc := ⟨.hbm, 302, rfl⟩
abbrev main_c_42 : Ref sig .tc := ⟨.hbm, 303, rfl⟩
abbrev main_v209 : Ref sig .tc := ⟨.hbm, 304, rfl⟩
abbrev main_v210 : Ref sig .tc := ⟨.hbm, 305, rfl⟩
abbrev main_c_43 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_cst_44 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_call11_cst : Ref sig .tc := ⟨.hbm, 318, rfl⟩
abbrev main_call11_v0 : Ref sig .tc := ⟨.hbm, 319, rfl⟩
abbrev main_v221 : Ref sig .tc := ⟨.hbm, 320, rfl⟩
abbrev main_v222 : Ref sig .tc := ⟨.hbm, 321, rfl⟩
abbrev main_v223 : Ref sig .tc := ⟨.hbm, 322, rfl⟩
abbrev main_v224 : Ref sig .tc := ⟨.hbm, 323, rfl⟩
abbrev main_c_45 : Ref sig .tc := ⟨.hbm, 324, rfl⟩
abbrev main_v225 : Ref sig .tc := ⟨.hbm, 325, rfl⟩
abbrev main_v226 : Ref sig .tc := ⟨.hbm, 326, rfl⟩
abbrev main_c_46 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_cst_47 : Ref sig .tc := ⟨.hbm, 333, rfl⟩
abbrev main_v232 : Ref sig .tc := ⟨.hbm, 334, rfl⟩
abbrev main_v233 : Ref sig .tc := ⟨.hbm, 335, rfl⟩
abbrev main_v234 : Ref sig .tc := ⟨.hbm, 336, rfl⟩
abbrev main_v235 : Ref sig .tc := ⟨.hbm, 337, rfl⟩
abbrev main_v236 : Ref sig .tc := ⟨.hbm, 338, rfl⟩
abbrev main_v237 : Ref sig .tc := ⟨.hbm, 339, rfl⟩
abbrev main_v238 : Ref sig .tc := ⟨.hbm, 340, rfl⟩
abbrev main_c_48 : Ref sig .tc := ⟨.hbm, 341, rfl⟩
abbrev main_v239 : Ref sig .tc := ⟨.hbm, 342, rfl⟩
abbrev main_v240 : Ref sig .tc := ⟨.hbm, 343, rfl⟩
abbrev main_v241 : Ref sig .tc := ⟨.hbm, 344, rfl⟩
abbrev main_c_49 : Ref sig .tc := ⟨.hbm, 345, rfl⟩
abbrev main_v242 : Ref sig .tc := ⟨.hbm, 346, rfl⟩
abbrev main_v243 : Ref sig .tc := ⟨.hbm, 347, rfl⟩
abbrev main_v244 : Ref sig .tc := ⟨.hbm, 348, rfl⟩
abbrev main_v245 : Ref sig .tc := ⟨.hbm, 349, rfl⟩
abbrev main_c_50 : Ref sig .tc := ⟨.hbm, 350, rfl⟩
abbrev main_v246 : Ref sig .tc := ⟨.hbm, 351, rfl⟩
abbrev main_v247 : Ref sig .tc := ⟨.hbm, 352, rfl⟩
abbrev main_v248 : Ref sig .tc := ⟨.hbm, 353, rfl⟩
abbrev main_c_51 : Ref sig .tc := ⟨.hbm, 354, rfl⟩
abbrev main_v249 : Ref sig .tc := ⟨.hbm, 355, rfl⟩
abbrev main_v250 : Ref sig .tc := ⟨.hbm, 356, rfl⟩
abbrev main_c_52 : Ref sig .tc := ⟨.hbm, 357, rfl⟩
abbrev main_v251 : Ref sig .tc := ⟨.hbm, 358, rfl⟩
abbrev main_v252 : Ref sig .tc := ⟨.hbm, 359, rfl⟩
abbrev main_v253 : Ref sig .tc := ⟨.hbm, 360, rfl⟩
abbrev main_v254 : Ref sig .tc := ⟨.hbm, 361, rfl⟩
abbrev main_v255 : Ref sig .tc := ⟨.hbm, 362, rfl⟩
abbrev main_cst_53 : Ref sig .tc := ⟨.hbm, 363, rfl⟩
abbrev main_call12_v0 : Ref sig .tc := ⟨.hbm, 364, rfl⟩
abbrev main_call12_v1 : Ref sig .tc := ⟨.hbm, 365, rfl⟩
abbrev main_call12_v2 : Ref sig .tc := ⟨.hbm, 366, rfl⟩
abbrev main_v256 : Ref sig .tc := ⟨.hbm, 367, rfl⟩
abbrev main_c_54 : Ref sig .tc := ⟨.hbm, 368, rfl⟩
abbrev main_v257 : Ref sig .tc := ⟨.hbm, 369, rfl⟩
abbrev main_v258 : Ref sig .tc := ⟨.hbm, 370, rfl⟩
abbrev main_c_55 : Ref sig .tc := ⟨.hbm, 371, rfl⟩
abbrev main_v259 : Ref sig .tc := ⟨.hbm, 372, rfl⟩
abbrev main_v260 : Ref sig .tc := ⟨.hbm, 373, rfl⟩
abbrev main_v261 : Ref sig .tc := ⟨.hbm, 374, rfl⟩
abbrev main_v262 : Ref sig .tc := ⟨.hbm, 375, rfl⟩
abbrev main_v263 : Ref sig .tc := ⟨.hbm, 376, rfl⟩
abbrev main_v264 : Ref sig .tc := ⟨.hbm, 377, rfl⟩
abbrev main_c_56 : Ref sig .tc := ⟨.hbm, 378, rfl⟩
abbrev main_call13_v0 : Ref sig .tc := ⟨.hbm, 379, rfl⟩
abbrev main_v265 : Ref sig .tc := ⟨.hbm, 380, rfl⟩
abbrev main_v266 : Ref sig .tc := ⟨.hbm, 381, rfl⟩
abbrev main_v267 : Ref sig .tc := ⟨.hbm, 382, rfl⟩
abbrev main_v268 : Ref sig .tc := ⟨.hbm, 383, rfl⟩
abbrev main_v269 : Ref sig .tc := ⟨.hbm, 384, rfl⟩
abbrev main_v270 : Ref sig .tc := ⟨.hbm, 385, rfl⟩
abbrev main_v271 : Ref sig .tc := ⟨.hbm, 386, rfl⟩
abbrev main_v272 : Ref sig .tc := ⟨.hbm, 387, rfl⟩
abbrev main_v273 : Ref sig .tc := ⟨.hbm, 388, rfl⟩
abbrev main_v274 : Ref sig .tc := ⟨.hbm, 389, rfl⟩
abbrev main_v275 : Ref sig .tc := ⟨.hbm, 390, rfl⟩
abbrev main_v276 : Ref sig .tc := ⟨.hbm, 391, rfl⟩
abbrev main_v277 : Ref sig .tc := ⟨.hbm, 392, rfl⟩
abbrev main_v278 : Ref sig .tc := ⟨.hbm, 393, rfl⟩
abbrev main_v279 : Ref sig .tc := ⟨.hbm, 394, rfl⟩
abbrev main_v280 : Ref sig .tc := ⟨.hbm, 395, rfl⟩
abbrev main_v281 : Ref sig .tc := ⟨.hbm, 396, rfl⟩
abbrev main_v282 : Ref sig .tc := ⟨.hbm, 397, rfl⟩
abbrev main_call14_cst : Ref sig .tc := ⟨.hbm, 398, rfl⟩
abbrev main_call14_v0 : Ref sig .tc := ⟨.hbm, 399, rfl⟩
abbrev main_v283 : Ref sig .tc := ⟨.hbm, 400, rfl⟩
abbrev main_c_57 : Ref sig .tc := ⟨.hbm, 401, rfl⟩
abbrev main_call15_v0 : Ref sig .tc := ⟨.hbm, 402, rfl⟩
abbrev main_v284 : Ref sig .tc := ⟨.hbm, 403, rfl⟩
abbrev main_v285 : Ref sig .tc := ⟨.hbm, 404, rfl⟩
abbrev main_v286 : Ref sig .tc := ⟨.hbm, 405, rfl⟩
abbrev main_v287 : Ref sig .tc := ⟨.hbm, 406, rfl⟩
abbrev main_v288 : Ref sig .tc := ⟨.hbm, 407, rfl⟩
abbrev main_v289 : Ref sig .tc := ⟨.hbm, 408, rfl⟩
abbrev main_v290 : Ref sig .tc := ⟨.hbm, 409, rfl⟩
abbrev main_v291 : Ref sig .tc := ⟨.hbm, 410, rfl⟩
abbrev main_v292 : Ref sig .tc := ⟨.hbm, 411, rfl⟩
abbrev main_v293 : Ref sig .tc := ⟨.hbm, 412, rfl⟩
abbrev main_v294 : Ref sig .tc := ⟨.hbm, 413, rfl⟩
abbrev main_v295 : Ref sig .tc := ⟨.hbm, 414, rfl⟩
abbrev main_v296 : Ref sig .tc := ⟨.hbm, 415, rfl⟩
abbrev main_v297 : Ref sig .tc := ⟨.hbm, 416, rfl⟩
abbrev main_v298 : Ref sig .tc := ⟨.hbm, 417, rfl⟩
abbrev main_v299 : Ref sig .tc := ⟨.hbm, 418, rfl⟩
abbrev main_v300 : Ref sig .tc := ⟨.hbm, 419, rfl⟩
abbrev main_v301 : Ref sig .tc := ⟨.hbm, 420, rfl⟩
abbrev main_call16_cst : Ref sig .tc := ⟨.hbm, 421, rfl⟩
abbrev main_call16_v0 : Ref sig .tc := ⟨.hbm, 422, rfl⟩
abbrev main_v302 : Ref sig .tc := ⟨.hbm, 423, rfl⟩
abbrev main_c_58 : Ref sig .tc := ⟨.hbm, 424, rfl⟩
abbrev main_call17_v0 : Ref sig .tc := ⟨.hbm, 425, rfl⟩
abbrev main_v303 : Ref sig .tc := ⟨.hbm, 426, rfl⟩
abbrev main_v304 : Ref sig .tc := ⟨.hbm, 427, rfl⟩
abbrev main_v305 : Ref sig .tc := ⟨.hbm, 428, rfl⟩
abbrev main_v306 : Ref sig .tc := ⟨.hbm, 429, rfl⟩
abbrev main_v307 : Ref sig .tc := ⟨.hbm, 430, rfl⟩
abbrev main_v308 : Ref sig .tc := ⟨.hbm, 431, rfl⟩
abbrev main_v309 : Ref sig .tc := ⟨.hbm, 432, rfl⟩
abbrev main_v310 : Ref sig .tc := ⟨.hbm, 433, rfl⟩
abbrev main_v311 : Ref sig .tc := ⟨.hbm, 434, rfl⟩
abbrev main_v312 : Ref sig .tc := ⟨.hbm, 435, rfl⟩
abbrev main_v313 : Ref sig .tc := ⟨.hbm, 436, rfl⟩
abbrev main_v314 : Ref sig .tc := ⟨.hbm, 437, rfl⟩
abbrev main_v315 : Ref sig .tc := ⟨.hbm, 438, rfl⟩
abbrev main_v316 : Ref sig .tc := ⟨.hbm, 439, rfl⟩
abbrev main_v317 : Ref sig .tc := ⟨.hbm, 440, rfl⟩
abbrev main_v318 : Ref sig .tc := ⟨.hbm, 441, rfl⟩
abbrev main_v319 : Ref sig .tc := ⟨.hbm, 442, rfl⟩
abbrev main_v320 : Ref sig .tc := ⟨.hbm, 443, rfl⟩
abbrev main_v321 : Ref sig .tc := ⟨.hbm, 444, rfl⟩
abbrev main_c_59 : Ref sig .tc := ⟨.hbm, 445, rfl⟩
abbrev main_v322 : Ref sig .tc := ⟨.hbm, 446, rfl⟩
abbrev main_v323 : Ref sig .tc := ⟨.hbm, 447, rfl⟩
abbrev main_v324 : Ref sig .tc := ⟨.hbm, 448, rfl⟩
abbrev main_v325 : Ref sig .tc := ⟨.hbm, 449, rfl⟩
abbrev main_c_60 : Ref sig .tc := ⟨.hbm, 450, rfl⟩
abbrev main_call18_v0 : Ref sig .tc := ⟨.hbm, 451, rfl⟩
abbrev main_call18_v1 : Ref sig .tc := ⟨.hbm, 452, rfl⟩
abbrev main_call18_v2 : Ref sig .tc := ⟨.hbm, 453, rfl⟩
abbrev main_v326 : Ref sig .tc := ⟨.hbm, 454, rfl⟩
abbrev main_c_61 : Ref sig .tc := ⟨.hbm, 455, rfl⟩
abbrev main_v327 : Ref sig .tc := ⟨.hbm, 456, rfl⟩
abbrev main_c_62 : Ref sig .tc := ⟨.hbm, 457, rfl⟩
abbrev main_v328 : Ref sig .tc := ⟨.hbm, 458, rfl⟩
abbrev main_v329 : Ref sig .tc := ⟨.hbm, 459, rfl⟩
abbrev main_c_63 : Ref sig .tc := ⟨.hbm, 460, rfl⟩
abbrev main_call19_v0 : Ref sig .tc := ⟨.hbm, 461, rfl⟩
abbrev main_call19_v1 : Ref sig .tc := ⟨.hbm, 462, rfl⟩
abbrev main_v330 : Ref sig .tc := ⟨.hbm, 463, rfl⟩
abbrev main_v331 : Ref sig .tc := ⟨.hbm, 464, rfl⟩
abbrev main_v332 : Ref sig .tc := ⟨.hbm, 465, rfl⟩
abbrev main_c_64 : Ref sig .tc := ⟨.hbm, 466, rfl⟩
abbrev main_v333 : Ref sig .tc := ⟨.hbm, 467, rfl⟩
abbrev main_v334 : Ref sig .tc := ⟨.hbm, 468, rfl⟩
abbrev main_c_65 : Ref sig .tc := ⟨.hbm, 469, rfl⟩
abbrev main_v335 : Ref sig .tc := ⟨.hbm, 470, rfl⟩
abbrev main_v336 : Ref sig .tc := ⟨.hbm, 471, rfl⟩
abbrev main_v337 : Ref sig .tc := ⟨.hbm, 472, rfl⟩
abbrev main_c_66 : Ref sig .tc := ⟨.hbm, 473, rfl⟩
abbrev main_v338 : Ref sig .tc := ⟨.hbm, 474, rfl⟩
abbrev main_v339 : Ref sig .tc := ⟨.hbm, 475, rfl⟩
abbrev main_c_67 : Ref sig .tc := ⟨.hbm, 476, rfl⟩
abbrev main_v340 : Ref sig .tc := ⟨.hbm, 477, rfl⟩
abbrev main_v341 : Ref sig .tc := ⟨.hbm, 478, rfl⟩
abbrev main_v342 : Ref sig .tc := ⟨.hbm, 479, rfl⟩
abbrev main_v343 : Ref sig .tc := ⟨.hbm, 480, rfl⟩
abbrev main_v344 : Ref sig .tc := ⟨.hbm, 481, rfl⟩
abbrev main_v345 : Ref sig .tc := ⟨.hbm, 482, rfl⟩
abbrev main_v346 : Ref sig .tc := ⟨.hbm, 483, rfl⟩
abbrev main_v347 : Ref sig .tc := ⟨.hbm, 484, rfl⟩
abbrev main_v348 : Ref sig .tc := ⟨.hbm, 485, rfl⟩
abbrev main_v349 : Ref sig .tc := ⟨.hbm, 486, rfl⟩
abbrev main_v350 : Ref sig .tc := ⟨.hbm, 487, rfl⟩
abbrev main_v351 : Ref sig .tc := ⟨.hbm, 488, rfl⟩
abbrev main_v352 : Ref sig .tc := ⟨.hbm, 489, rfl⟩
abbrev main_v353 : Ref sig .tc := ⟨.hbm, 490, rfl⟩
abbrev main_call20_cst : Ref sig .tc := ⟨.hbm, 491, rfl⟩
abbrev main_call20_v0 : Ref sig .tc := ⟨.hbm, 492, rfl⟩
abbrev main_v354 : Ref sig .tc := ⟨.hbm, 493, rfl⟩
abbrev main_v355 : Ref sig .tc := ⟨.hbm, 494, rfl⟩
abbrev main_v356 : Ref sig .tc := ⟨.hbm, 495, rfl⟩
abbrev main_v357 : Ref sig .tc := ⟨.hbm, 496, rfl⟩
abbrev main_v358 : Ref sig .tc := ⟨.hbm, 497, rfl⟩
abbrev main_v359 : Ref sig .tc := ⟨.hbm, 498, rfl⟩
abbrev main_v360 : Ref sig .tc := ⟨.hbm, 499, rfl⟩
abbrev main_v361 : Ref sig .tc := ⟨.hbm, 500, rfl⟩
abbrev main_v362 : Ref sig .tc := ⟨.hbm, 501, rfl⟩
abbrev main_v363 : Ref sig .tc := ⟨.hbm, 502, rfl⟩
abbrev main_v364 : Ref sig .tc := ⟨.hbm, 503, rfl⟩
abbrev main_v365 : Ref sig .tc := ⟨.hbm, 504, rfl⟩
abbrev main_v366 : Ref sig .tc := ⟨.hbm, 505, rfl⟩
abbrev main_v367 : Ref sig .tc := ⟨.hbm, 506, rfl⟩
abbrev main_v368 : Ref sig .tc := ⟨.hbm, 507, rfl⟩
abbrev main_v369 : Ref sig .tc := ⟨.hbm, 508, rfl⟩
abbrev main_v370 : Ref sig .tc := ⟨.hbm, 509, rfl⟩
abbrev main_v371 : Ref sig .tc := ⟨.hbm, 510, rfl⟩
abbrev main_v372 : Ref sig .tc := ⟨.hbm, 511, rfl⟩
abbrev main_v373 : Ref sig .tc := ⟨.hbm, 512, rfl⟩
abbrev main_v374 : Ref sig .tc := ⟨.hbm, 513, rfl⟩
abbrev main_v375 : Ref sig .tc := ⟨.hbm, 514, rfl⟩
abbrev main_v376 : Ref sig .tc := ⟨.hbm, 515, rfl⟩
abbrev main_v377 : Ref sig .tc := ⟨.hbm, 516, rfl⟩
abbrev main_v378 : Ref sig .tc := ⟨.hbm, 517, rfl⟩
abbrev main_call21_cst : Ref sig .tc := ⟨.hbm, 518, rfl⟩
abbrev main_call21_v0 : Ref sig .tc := ⟨.hbm, 519, rfl⟩
abbrev main_v379 : Ref sig .tc := ⟨.hbm, 520, rfl⟩
abbrev main_c_68 : Ref sig .tc := ⟨.hbm, 521, rfl⟩
abbrev main_call22_v0 : Ref sig .tc := ⟨.hbm, 522, rfl⟩
abbrev main_v380 : Ref sig .tc := ⟨.hbm, 523, rfl⟩
abbrev main_v381 : Ref sig .tc := ⟨.hbm, 524, rfl⟩
abbrev main_v382 : Ref sig .tc := ⟨.hbm, 525, rfl⟩
abbrev main_v383 : Ref sig .tc := ⟨.hbm, 526, rfl⟩
abbrev main_v384 : Ref sig .tc := ⟨.hbm, 527, rfl⟩
abbrev main_v385 : Ref sig .tc := ⟨.hbm, 528, rfl⟩
abbrev main_v386 : Ref sig .tc := ⟨.hbm, 529, rfl⟩
abbrev main_v387 : Ref sig .tc := ⟨.hbm, 530, rfl⟩
abbrev main_v388 : Ref sig .tc := ⟨.hbm, 531, rfl⟩
abbrev main_v389 : Ref sig .tc := ⟨.hbm, 532, rfl⟩
abbrev main_v390 : Ref sig .tc := ⟨.hbm, 533, rfl⟩
abbrev main_v391 : Ref sig .tc := ⟨.hbm, 534, rfl⟩
abbrev main_v392 : Ref sig .tc := ⟨.hbm, 535, rfl⟩
abbrev main_v393 : Ref sig .tc := ⟨.hbm, 536, rfl⟩
abbrev main_v394 : Ref sig .tc := ⟨.hbm, 537, rfl⟩
abbrev main_v395 : Ref sig .tc := ⟨.hbm, 538, rfl⟩
abbrev main_v396 : Ref sig .tc := ⟨.hbm, 539, rfl⟩
abbrev main_v397 : Ref sig .tc := ⟨.hbm, 540, rfl⟩
abbrev main_v398 : Ref sig .tc := ⟨.hbm, 541, rfl⟩
abbrev main_v399 : Ref sig .tc := ⟨.hbm, 542, rfl⟩
abbrev main_v400 : Ref sig .tc := ⟨.hbm, 543, rfl⟩
abbrev main_v401 : Ref sig .tc := ⟨.hbm, 544, rfl⟩
abbrev main_v402 : Ref sig .tc := ⟨.hbm, 545, rfl⟩
abbrev main_v403 : Ref sig .tc := ⟨.hbm, 546, rfl⟩
abbrev main_v404 : Ref sig .tc := ⟨.hbm, 547, rfl⟩
abbrev main_call23_cst : Ref sig .tc := ⟨.hbm, 548, rfl⟩
abbrev main_call23_v0 : Ref sig .tc := ⟨.hbm, 549, rfl⟩
abbrev main_v405 : Ref sig .tc := ⟨.hbm, 550, rfl⟩
abbrev main_c_69 : Ref sig .tc := ⟨.hbm, 551, rfl⟩
abbrev main_call24_v0 : Ref sig .tc := ⟨.hbm, 552, rfl⟩
abbrev main_v406 : Ref sig .tc := ⟨.hbm, 553, rfl⟩
abbrev main_v407 : Ref sig .tc := ⟨.hbm, 554, rfl⟩
abbrev main_v408 : Ref sig .tc := ⟨.hbm, 555, rfl⟩
abbrev main_v409 : Ref sig .tc := ⟨.hbm, 556, rfl⟩
abbrev main_v410 : Ref sig .tc := ⟨.hbm, 557, rfl⟩
abbrev main_v411 : Ref sig .tc := ⟨.hbm, 558, rfl⟩
abbrev main_v412 : Ref sig .tc := ⟨.hbm, 559, rfl⟩
abbrev main_v413 : Ref sig .tc := ⟨.hbm, 560, rfl⟩
abbrev main_v414 : Ref sig .tc := ⟨.hbm, 561, rfl⟩
abbrev main_v415 : Ref sig .tc := ⟨.hbm, 562, rfl⟩
abbrev main_v416 : Ref sig .tc := ⟨.hbm, 563, rfl⟩
abbrev main_v417 : Ref sig .tc := ⟨.hbm, 564, rfl⟩
abbrev main_v418 : Ref sig .tc := ⟨.hbm, 565, rfl⟩
abbrev main_v419 : Ref sig .tc := ⟨.hbm, 566, rfl⟩
abbrev main_v420 : Ref sig .tc := ⟨.hbm, 567, rfl⟩
abbrev main_v421 : Ref sig .tc := ⟨.hbm, 568, rfl⟩
abbrev main_v422 : Ref sig .tc := ⟨.hbm, 569, rfl⟩
abbrev main_v423 : Ref sig .tc := ⟨.hbm, 570, rfl⟩
abbrev main_v424 : Ref sig .tc := ⟨.hbm, 571, rfl⟩
abbrev main_v425 : Ref sig .tc := ⟨.hbm, 572, rfl⟩
abbrev main_v426 : Ref sig .tc := ⟨.hbm, 573, rfl⟩
abbrev main_v427 : Ref sig .tc := ⟨.hbm, 574, rfl⟩
abbrev main_v428 : Ref sig .tc := ⟨.hbm, 575, rfl⟩
abbrev main_v429 : Ref sig .tc := ⟨.hbm, 576, rfl⟩
abbrev main_v430 : Ref sig .tc := ⟨.hbm, 577, rfl⟩
abbrev main_call25_cst : Ref sig .tc := ⟨.hbm, 578, rfl⟩
abbrev main_call25_v0 : Ref sig .tc := ⟨.hbm, 579, rfl⟩
abbrev main_v431 : Ref sig .tc := ⟨.hbm, 580, rfl⟩
abbrev main_c_70 : Ref sig .tc := ⟨.hbm, 581, rfl⟩
abbrev main_call26_v0 : Ref sig .tc := ⟨.hbm, 582, rfl⟩
abbrev main_v432 : Ref sig .tc := ⟨.hbm, 583, rfl⟩
abbrev main_v433 : Ref sig .tc := ⟨.hbm, 584, rfl⟩
abbrev main_v434 : Ref sig .tc := ⟨.hbm, 585, rfl⟩
abbrev main_v435 : Ref sig .tc := ⟨.hbm, 586, rfl⟩
abbrev main_v436 : Ref sig .tc := ⟨.hbm, 587, rfl⟩
abbrev main_v437 : Ref sig .tc := ⟨.hbm, 588, rfl⟩
abbrev main_v438 : Ref sig .tc := ⟨.hbm, 589, rfl⟩
abbrev main_v439 : Ref sig .tc := ⟨.hbm, 590, rfl⟩
abbrev main_v440 : Ref sig .tc := ⟨.hbm, 591, rfl⟩
abbrev main_v441 : Ref sig .tc := ⟨.hbm, 592, rfl⟩
abbrev main_v442 : Ref sig .tc := ⟨.hbm, 593, rfl⟩
abbrev main_v443 : Ref sig .tc := ⟨.hbm, 594, rfl⟩
abbrev main_v444 : Ref sig .tc := ⟨.hbm, 595, rfl⟩
abbrev main_v445 : Ref sig .tc := ⟨.hbm, 596, rfl⟩
abbrev main_v446 : Ref sig .tc := ⟨.hbm, 597, rfl⟩
abbrev main_v447 : Ref sig .tc := ⟨.hbm, 598, rfl⟩
abbrev main_v448 : Ref sig .tc := ⟨.hbm, 599, rfl⟩
abbrev main_v449 : Ref sig .tc := ⟨.hbm, 600, rfl⟩
abbrev main_v450 : Ref sig .tc := ⟨.hbm, 601, rfl⟩
abbrev main_v451 : Ref sig .tc := ⟨.hbm, 602, rfl⟩
abbrev main_v452 : Ref sig .tc := ⟨.hbm, 603, rfl⟩
abbrev main_v453 : Ref sig .tc := ⟨.hbm, 604, rfl⟩
abbrev main_v454 : Ref sig .tc := ⟨.hbm, 605, rfl⟩
abbrev main_v455 : Ref sig .tc := ⟨.hbm, 606, rfl⟩
abbrev main_v456 : Ref sig .tc := ⟨.hbm, 607, rfl⟩
abbrev main_v457 : Ref sig .tc := ⟨.hbm, 608, rfl⟩
abbrev main_v458 : Ref sig .tc := ⟨.hbm, 609, rfl⟩
abbrev main_cst_71 : Ref sig .tc := ⟨.hbm, 610, rfl⟩
abbrev main_v459 : Ref sig .tc := ⟨.hbm, 611, rfl⟩
abbrev main_v460 : Ref sig .tc := ⟨.hbm, 612, rfl⟩
abbrev main_cst_72 : Ref sig .tc := ⟨.hbm, 613, rfl⟩
abbrev main_v461 : Ref sig .tc := ⟨.hbm, 614, rfl⟩
abbrev main_v462 : Ref sig .tc := ⟨.hbm, 615, rfl⟩
abbrev main_v463 : Ref sig .tc := ⟨.hbm, 616, rfl⟩
abbrev main_v464 : Ref sig .tc := ⟨.hbm, 617, rfl⟩
abbrev main_cst_73 : Ref sig .tc := ⟨.hbm, 618, rfl⟩
abbrev main_v465 : Ref sig .tc := ⟨.hbm, 619, rfl⟩
abbrev main_v466 : Ref sig .tc := ⟨.hbm, 620, rfl⟩
abbrev main_cst_74 : Ref sig .tc := ⟨.hbm, 621, rfl⟩
abbrev main_v467 : Ref sig .tc := ⟨.hbm, 622, rfl⟩
abbrev main_v468 : Ref sig .tc := ⟨.hbm, 623, rfl⟩
abbrev main_v469 : Ref sig .tc := ⟨.hbm, 624, rfl⟩
abbrev main_v470 : Ref sig .tc := ⟨.hbm, 625, rfl⟩
abbrev main_cst_75 : Ref sig .tc := ⟨.hbm, 626, rfl⟩
abbrev main_v471 : Ref sig .tc := ⟨.hbm, 627, rfl⟩
abbrev main_v472 : Ref sig .tc := ⟨.hbm, 628, rfl⟩

abbrev nD : Nat := 1
abbrev τ : Topo := Topo.v7x

variable {F : FTy → Type} [FloatOps F]
-- ==== Proof.IdealBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_graph_conv_map` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x1x8192 := Rect.unit (s := S1x1x8192) ![0, 0, 0] S1x1x2048.size inb_S1x1x8192_S1x1x2048_0_0_0
abbrev r0_1 : Rect S1x1x8192 := Rect.unit (s := S1x1x8192) ![0, 0, 2048] S1x1x2048.size inb_S1x1x8192_S1x1x2048_0_0_2048
abbrev r0_2 : Rect S1x1x8192 := Rect.unit (s := S1x1x8192) ![0, 0, 4096] S1x1x2048.size inb_S1x1x8192_S1x1x2048_0_0_4096
abbrev r0_3 : Rect S1x1x8192 := Rect.unit (s := S1x1x8192) ![0, 0, 6144] S1x1x2048.size inb_S1x1x8192_S1x1x2048_0_0_6144
abbrev r0_4 : Rect S1x512x128 := Rect.unit (s := S1x512x128) ![0, 0, 0] S1x512x128.size inb_S1x512x128_S1x512x128_0_0_0
abbrev r0_5 : Rect S128x128 := Rect.unit (s := S128x128) ![0, 0] S128x128.size inb_S128x128_S128x128_0_0
abbrev r0_6 : Rect S128x64 := Rect.unit (s := S128x64) ![0, 0] S128x64.size inb_S128x64_S128x64_0_0
abbrev r0_7 : Rect S1x1x4096 := Rect.unit (s := S1x1x4096) ![0, 0, 0] S1x1x2048.size inb_S1x1x4096_S1x1x2048_0_0_0
abbrev r0_8 : Rect S1x4096x64 := Rect.unit (s := S1x4096x64) ![0, 0, 0] S1x2048x64.size inb_S1x4096x64_S1x2048x64_0_0_0
abbrev r0_9 : Rect S1x1x4096 := Rect.unit (s := S1x1x4096) ![0, 0, 2048] S1x1x2048.size inb_S1x1x4096_S1x1x2048_0_0_2048
abbrev r0_10 : Rect S1x4096x64 := Rect.unit (s := S1x4096x64) ![0, 2048, 0] S1x2048x64.size inb_S1x4096x64_S1x2048x64_0_2048_0
abbrev r0_11 : Rect S1x1x64 := Rect.unit (s := S1x1x64) ![0, 0, 0] S1x1x64.size inb_S1x1x64_S1x1x64_0_0_0

/-! ## What the body leaves in each output window's buffer -/

/-! ### Values of the body that the stores' payloads, spelt out, would write more than once

    Each is a vector the body binds (often a part call's result), stated over the input windows' blocks and
    numbered on from the skeleton's payload functions (`k0_pay16` …, after `k0_pay15`), so that
    `out0_W` and the values after it name it instead of spelling it out; the comment after each is the printed function's
    name for the value (a count appended where that name is bound again). -/

def k0_pay16 (x0 : Vec F S1x512x128 .f32) (x1 : Vec F S1x1x8192 .i32) (x2 : Vec F S1x1x8192 .i32) (x3 : Vec F S1x1x4096 .i32) (x4 : Vec F S128x128 .f32) (x5 : Vec F S128x128 .f32) (x6 : Vec F S128x64 .f32) : IVec S512x2048 16 :=
  iota .tc S512x2048 16 [0] iota_S512x2048_d0_w16 -- `v0`
def k0_pay17 (x0 : Vec F S1x512x128 .f32) (x1 : Vec F S1x1x8192 .i32) (x2 : Vec F S1x1x8192 .i32) (x3 : Vec F S1x1x4096 .i32) (x4 : Vec F S128x128 .f32) (x5 : Vec F S128x128 .f32) (x6 : Vec F S128x64 .f32) : FVec F S512x512 .f32 :=
  k0_pay6 (k0_pay16 x0 x1 x2 x3 x4 x5 x6) (k0_pay2 (View.ld x1 r0_0) (View.ld x2 r0_0)) (k0_pay3 (View.ld x1 r0_1)) (k0_pay4 (View.ld x2 r0_1)) (Scalar.ofBits .bf16 0x0000#16) (k0_pay5 (F := F)) (View.ld x1 r0_2) (View.ld x2 r0_2) -- `v61`
def k0_pay18 (x0 : Vec F S1x512x128 .f32) (x1 : Vec F S1x1x8192 .i32) (x2 : Vec F S1x1x8192 .i32) (x3 : Vec F S1x1x4096 .i32) (x4 : Vec F S128x128 .f32) (x5 : Vec F S128x128 .f32) (x6 : Vec F S128x64 .f32) : FVec F S512x2048 .fp8e4m3 :=
  k0_pay7 (k0_pay16 x0 x1 x2 x3 x4 x5 x6) (View.ld x1 r0_3) -- `v73`
def k0_pay19 (x0 : Vec F S1x512x128 .f32) (x1 : Vec F S1x1x8192 .i32) (x2 : Vec F S1x1x8192 .i32) (x3 : Vec F S1x1x4096 .i32) (x4 : Vec F S128x128 .f32) (x5 : Vec F S128x128 .f32) (x6 : Vec F S128x64 .f32) : IVec S512x2048 1 :=
  k0_pay8 (k0_pay16 x0 x1 x2 x3 x4 x5 x6) (View.ld x2 r0_3) -- `v75`
def k0_pay20 (x0 : Vec F S1x512x128 .f32) (x1 : Vec F S1x1x8192 .i32) (x2 : Vec F S1x1x8192 .i32) (x3 : Vec F S1x1x4096 .i32) (x4 : Vec F S128x128 .f32) (x5 : Vec F S128x128 .f32) (x6 : Vec F S128x64 .f32) : FVec F S512x512 .bf16 :=
  k0_pay9 (k0_pay17 x0 x1 x2 x3 x4 x5 x6) (k0_pay18 x0 x1 x2 x3 x4 x5 x6) (k0_pay19 x0 x1 x2 x3 x4 x5 x6) (Scalar.ofBits .bf16 0x3F80#16) -- `v96`
def k0_pay21 (x0 : Vec F S1x512x128 .f32) (x1 : Vec F S1x1x8192 .i32) (x2 : Vec F S1x1x8192 .i32) (x3 : Vec F S1x1x4096 .i32) (x4 : Vec F S128x128 .f32) (x5 : Vec F S128x128 .f32) (x6 : Vec F S128x64 .f32) : FVec F S512x128 .f32 :=
  k0_pay10 (k0_pay17 x0 x1 x2 x3 x4 x5 x6) (k0_pay18 x0 x1 x2 x3 x4 x5 x6) (k0_pay19 x0 x1 x2 x3 x4 x5 x6) (Scalar.ofBits .bf16 0x3F80#16) (View.ld x0 r0_4) (View.ld x4 r0_5) (View.ld x5 r0_5) -- `v114`

/-- Window 7's staging buffer after the body, from the input windows' blocks: its 2 stores as pieces, LAST
    FIRST (Lib/Pipeline/FrameBody.lean `View.canon`; the payloads are the skeleton's and the values stated above). -/
def out0_7 (x0 : Vec F S1x512x128 .f32) (x1 : Vec F S1x1x8192 .i32) (x2 : Vec F S1x1x8192 .i32) (x3 : Vec F S1x1x4096 .i32) (x4 : Vec F S128x128 .f32) (x5 : Vec F S128x128 .f32) (x6 : Vec F S128x64 .f32) : Vec F S1x4096x64 .bf16 :=
  View.canon [⟨r0_10, k0_pay14 (k0_pay20 x0 x1 x2 x3 x4 x5 x6) (k0_pay21 x0 x1 x2 x3 x4 x5 x6) (View.ld x6 r0_6) (View.ld x3 r0_9)⟩,
    ⟨r0_8, k0_pay13 (k0_pay20 x0 x1 x2 x3 x4 x5 x6) (k0_pay21 x0 x1 x2 x3 x4 x5 x6) (View.ld x6 r0_6) (View.ld x3 r0_7)⟩]

/-- Its stores tile the buffer (checked by evaluation), so they cover it. -/
theorem cover0_7 (p0 : Vec F S1x2048x64 .bf16) (p1 : Vec F S1x2048x64 .bf16) (y : S1x4096x64.Idx) :
    ∃ pc ∈ ([⟨r0_10, p0⟩, ⟨r0_8, p1⟩] : List (View.Piece (Elt F) S1x4096x64 .bf16)), y ∈ pc.1.set :=
  View.cover_of_tiled [⟨r0_10, p0⟩, ⟨r0_8, p1⟩] S1x2048x64.size (by rfl) y

/-- Window 8's staging buffer after the body, from the input windows' blocks: its 1 store as pieces, LAST
    FIRST (Lib/Pipeline/FrameBody.lean `View.canon`; the payloads are the skeleton's and the values stated above). -/
def out0_8 (x0 : Vec F S1x512x128 .f32) (x1 : Vec F S1x1x8192 .i32) (x2 : Vec F S1x1x8192 .i32) (x3 : Vec F S1x1x4096 .i32) (x4 : Vec F S128x128 .f32) (x5 : Vec F S128x128 .f32) (x6 : Vec F S128x64 .f32) : Vec F S1x1x64 .f32 :=
  View.canon [⟨r0_11, k0_pay1 (k0_pay15 (k0_pay20 x0 x1 x2 x3 x4 x5 x6) (k0_pay21 x0 x1 x2 x3 x4 x5 x6) (View.ld x6 r0_6))⟩]

/-- Its stores tile the buffer (checked by evaluation), so they cover it. -/
theorem cover0_8 (p0 : Vec F S1x1x64 .f32) (y : S1x1x64.Idx) :
    ∃ pc ∈ ([⟨r0_11, p0⟩] : List (View.Piece (Elt F) S1x1x64 .f32)), y ∈ pc.1.set :=
  View.cover_of_tiled [⟨r0_11, p0⟩] S1x1x64.size (by rfl) y

/-! ## The body's triple -/

set_option maxHeartbeats 0 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x512x128 .f32) (harg1 : arg1.IsWhole) (arg2 : Memref sig .tc .vmem S1x1x8192 .i32) (harg2 : arg2.IsWhole) (arg3 : Memref sig .tc .vmem S1x1x8192 .i32) (harg3 : arg3.IsWhole) (arg4 : Memref sig .tc .vmem S1x1x4096 .i32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x64 .f32) (harg7 : arg7.IsWhole) (arg8 : Memref sig .tc .vmem S1x4096x64 .bf16) (harg8 : arg8.IsWhole) (arg9 : Memref sig .tc .vmem S1x1x64 .f32) (harg9 : arg9.IsWhole)
    (x0 : Vec F S1x512x128 .f32) (x1 : Vec F S1x1x8192 .i32) (x2 : Vec F S1x1x8192 .i32) (x3 : Vec F S1x1x4096 .i32) (x4 : Vec F S128x128 .f32) (x5 : Vec F S128x128 .f32) (x6 : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0_graph_conv_map i arg1 harg1 arg2 harg2 arg3 harg3 arg4 harg4 arg5 harg5 arg6 harg6 arg7 harg7 arg8 harg8 arg9 harg9) K := by
  simp only [cc0_graph_conv_map_eq_skeleton]; unfold cc0_graph_conv_map_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _ _)).trans ?_
    rfl
  iexists _; isplitr
  swap; · iexact H8
  ipureintro
  refine (View.read_writes_eq_canon _ _ _ (cover0_8 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_conv_head` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_20_of {c : Dev nD} (dat : Dat τ (Elt F) Unit ℕ (UR sig nD τ) ℕ cfg1 c) (hA : dat.A 20 = V c (Pipeline.arrRef spec1 20))
    (hafter : ∀ t, dat.after 20 t = iblk1 V c 20 t) (t : Fin cfg1.N) (d) : dat.before 20 t d = iblk1 V c 20 t :=
  (dat.before_in_eq_fetched 20 rfl (fun _ => rfl) (fun _ _ _ => rfl) (fun t => by rw [hafter]; unfold Dat.blockOf iblk1; rw [hA]; try rfl) t d).trans
    (by unfold Dat.fetched Dat.blockOf iblk1; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_21_of {c : Dev nD} (dat : Dat τ (Elt F) Unit ℕ (UR sig nD τ) ℕ cfg1 c) (hA : dat.A 21 = V c (Pipeline.arrRef spec1 21))
    (hafter : ∀ t, dat.after 21 t = iblk1 V c 21 t) (t : Fin cfg1.N) (d) : dat.before 21 t d = iblk1 V c 21 t :=
  (dat.before_in_eq_fetched 21 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 22, through which its contents are stated (`View.read_writes_of_cover`: the
    choice does not matter). -/
abbrev VO1_22 : View sig .tc .vmem S1x1x7x7 .f32 := (Memref.whole cc1_stg22_0 : Memref sig .tc .vmem S1x1x7x7 .f32).view
/-- One staging buffer of output window 23, through which its contents are stated (`View.read_writes_of_cover`: the
    choice does not matter). -/
abbrev VO1_23 : View sig .tc .vmem S1x4096x64 .f32 := (Memref.whole cc1_stg23_0 : Memref sig .tc .vmem S1x4096x64 .f32).view
/-- Each window's current staging memref at point `t`, spelled as the pipeline passes it (`bodyAt1`), and its wholeness. -/
abbrev ms1_0 (t : Fin cfg1.N) : Memref sig .tc .vmem S1x4096x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S192x768 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S768x384 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S384x192 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S384x96 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x32 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S16x32x16 .bf16 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x16 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S16x16x8 .bf16 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1x8 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S16x8x1 .bf16 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x1 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S256x32 .f32 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S1x32 .f32 := win1_19.stage (cfg1.slots t 19)
abbrev hs1_19 (t : Fin cfg1.N) : (ms1_19 t).IsWhole := hstage1_19 ((cfg1.slots t 19).cast nbuf1_19)
abbrev ms1_20 (t : Fin cfg1.N) : Memref sig .tc .vmem S32x1 .f32 := win1_20.stage (cfg1.slots t 20)
abbrev hs1_20 (t : Fin cfg1.N) : (ms1_20 t).IsWhole := hstage1_20 ((cfg1.slots t 20).cast nbuf1_20)
abbrev ms1_21 (t : Fin cfg1.N) : Memref sig .tc .vmem S1x1 .f32 := win1_21.stage (cfg1.slots t 21)
abbrev hs1_21 (t : Fin cfg1.N) : (ms1_21 t).IsWhole := hstage1_21 ((cfg1.slots t 21).cast nbuf1_21)
abbrev ms1_22 (t : Fin cfg1.N) : Memref sig .tc .vmem S1x1x7x7 .f32 := win1_22.stage (cfg1.slots t 22)
abbrev hs1_22 (t : Fin cfg1.N) : (ms1_22 t).IsWhole := hstage1_22 ((cfg1.slots t 22).cast nbuf1_22)
abbrev ms1_23 (t : Fin cfg1.N) : Memref sig .tc .vmem S1x4096x64 .f32 := win1_23.stage (cfg1.slots t 23)
abbrev hs1_23 (t : Fin cfg1.N) : (ms1_23 t).IsWhole := hstage1_23 ((cfg1.slots t 23).cast nbuf1_23)
/-- The scratch operands: whole scoped buffers of the kernel's own, passed beside the windows. -/
abbrev scM1_0 : Memref sig .tc .vmem S64x64x32 .f32 := Memref.whole cc1_scratch0
abbrev scM1_1 : Memref sig .tc .vmem S32x32x16 .f32 := Memref.whole cc1_scratch1
abbrev scM1_2 : Memref sig .tc .vmem S16x16x8 .f32 := Memref.whole cc1_scratch2

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

-- (the run's proof term is large: the definition's epilogue — `abstractNestedProofs` — walks it past the default budget)
set_option maxHeartbeats 0 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S1x4096x64 .bf16) (harg1 : arg1.IsWhole) (arg2 : Memref sig .tc .vmem S1x4096x64 .bf16) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S192x768 .bf16) (harg5 : arg5.IsWhole) (arg6 : Memref sig .tc .vmem S1x256 .f32) (harg6 : arg6.IsWhole) (arg7 : Memref sig .tc .vmem S768x384 .bf16) (harg7 : arg7.IsWhole) (arg8 : Memref sig .tc .vmem S1x128 .f32) (harg8 : arg8.IsWhole) (arg9 : Memref sig .tc .vmem S384x192 .bf16) (harg9 : arg9.IsWhole) (arg10 : Memref sig .tc .vmem S1x64 .f32) (harg10 : arg10.IsWhole) (arg11 : Memref sig .tc .vmem S384x96 .bf16) (harg11 : arg11.IsWhole) (arg12 : Memref sig .tc .vmem S1x32 .f32) (harg12 : arg12.IsWhole) (arg13 : Memref sig .tc .vmem S16x32x16 .bf16) (harg13 : arg13.IsWhole) (arg14 : Memref sig .tc .vmem S1x16 .f32) (harg14 : arg14.IsWhole) (arg15 : Memref sig .tc .vmem S16x16x8 .bf16) (harg15 : arg15.IsWhole) (arg16 : Memref sig .tc .vmem S1x8 .f32) (harg16 : arg16.IsWhole) (arg17 : Memref sig .tc .vmem S16x8x1 .bf16) (harg17 : arg17.IsWhole) (arg18 : Memref sig .tc .vmem S1x1 .f32) (harg18 : arg18.IsWhole) (arg19 : Memref sig .tc .vmem S256x32 .f32) (harg19 : arg19.IsWhole) (arg20 : Memref sig .tc .vmem S1x32 .f32) (harg20 : arg20.IsWhole) (arg21 : Memref sig .tc .vmem S32x1 .f32) (harg21 : arg21.IsWhole) (arg22 : Memref sig .tc .vmem S1x1 .f32) (harg22 : arg22.IsWhole) (arg23 : Memref sig .tc .vmem S1x1x7x7 .f32) (harg23 : arg23.IsWhole) (arg24 : Memref sig .tc .vmem S1x4096x64 .f32) (harg24 : arg24.IsWhole) (arg25 : Memref sig .tc .vmem S64x64x32 .f32) (harg25 : arg25.IsWhole) (arg26 : Memref sig .tc .vmem S32x32x16 .f32) (harg26 : arg26.IsWhole) (arg27 : Memref sig .tc .vmem S16x16x8 .f32) (harg27 : arg27.IsWhole)
    (x0 : Vec F S1x4096x64 .bf16) (x1 : Vec F S1x4096x64 .bf16) (x2 : Vec F S1x1x64 .f32) (x3 : Vec F S1x1x64 .f32) (x4 : Vec F S192x768 .bf16) (x5 : Vec F S1x256 .f32) (x6 : Vec F S768x384 .bf16) (x7 : Vec F S1x128 .f32) (x8 : Vec F S384x192 .bf16) (x9 : Vec F S1x64 .f32) (x10 : Vec F S384x96 .bf16) (x11 : Vec F S1x32 .f32) (x12 : Vec F S16x32x16 .bf16) (x13 : Vec F S1x16 .f32) (x14 : Vec F S16x16x8 .bf16) (x15 : Vec F S1x8 .f32) (x16 : Vec F S16x8x1 .bf16) (x17 : Vec F S1x1 .f32) (x18 : Vec F S256x32 .f32) (x19 : Vec F S1x32 .f32) (x20 : Vec F S32x1 .f32) (x21 : Vec F S1x1 .f32) :
    Σ' (L22 : List (View.Piece (Elt F) S1x1x7x7 .f32)), Σ' (L23 : List (View.Piece (Elt F) S1x4096x64 .f32)), Σ' (LT0 : List (View.Piece (Elt F) S64x64x32 .f32)), Σ' (LT1 : List (View.Piece (Elt F) S32x32x16 .f32)), { LT2 : List (View.Piece (Elt F) S16x16x8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f LT0) ∗ (∃ f, arg26.view.loc (c : Thread nD τ) ↦[arg26.view.set]{fullShare} arg26.view.writes (Elt F) f LT1) ∗ (∃ f, arg27.view.loc (c : Thread nD τ) ↦[arg27.view.set]{fullShare} arg27.view.writes (Elt F) f LT2)) -∗ K ⟨⟩))
          ⊢ wp frame (wpE (defs₀ (F := F)) Variants.none c none) E (cc1_conv_head i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, fun E K => ?run⟩
  case run =>
    simp only [cc1_conv_head_eq_skeleton]; unfold cc1_conv_head_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [H23]; · iexists _; iexact H23
    isplitl [HS0]; · iexists _; iexact HS0
    isplitl [HS1]; · iexists _; iexact HS1
    iexists _; iexact HS2

/-- The run's pieces for output 22 tile its block (1 store of `S1x1x7x7`, checked by the kernel's evaluation: Lib/Ring.lean `Piece.tiledL`, linear in the pieces, through a loop's `@[irreducible]` trip theorem too), so they cover it. -/
theorem cover1_A_22 (c : Dev nD) (i : grid1.Coords) (arg1 : Memref sig .tc .vmem S1x4096x64 .bf16) (harg1 : arg1.IsWhole) (arg2 : Memref sig .tc .vmem S1x4096x64 .bf16) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S192x768 .bf16) (harg5 : arg5.IsWhole) (arg6 : Memref sig .tc .vmem S1x256 .f32) (harg6 : arg6.IsWhole) (arg7 : Memref sig .tc .vmem S768x384 .bf16) (harg7 : arg7.IsWhole) (arg8 : Memref sig .tc .vmem S1x128 .f32) (harg8 : arg8.IsWhole) (arg9 : Memref sig .tc .vmem S384x192 .bf16) (harg9 : arg9.IsWhole) (arg10 : Memref sig .tc .vmem S1x64 .f32) (harg10 : arg10.IsWhole) (arg11 : Memref sig .tc .vmem S384x96 .bf16) (harg11 : arg11.IsWhole) (arg12 : Memref sig .tc .vmem S1x32 .f32) (harg12 : arg12.IsWhole) (arg13 : Memref sig .tc .vmem S16x32x16 .bf16) (harg13 : arg13.IsWhole) (arg14 : Memref sig .tc .vmem S1x16 .f32) (harg14 : arg14.IsWhole) (arg15 : Memref sig .tc .vmem S16x16x8 .bf16) (harg15 : arg15.IsWhole) (arg16 : Memref sig .tc .vmem S1x8 .f32) (harg16 : arg16.IsWhole) (arg17 : Memref sig .tc .vmem S16x8x1 .bf16) (harg17 : arg17.IsWhole) (arg18 : Memref sig .tc .vmem S1x1 .f32) (harg18 : arg18.IsWhole) (arg19 : Memref sig .tc .vmem S256x32 .f32) (harg19 : arg19.IsWhole) (arg20 : Memref sig .tc .vmem S1x32 .f32) (harg20 : arg20.IsWhole) (arg21 : Memref sig .tc .vmem S32x1 .f32) (harg21 : arg21.IsWhole) (arg22 : Memref sig .tc .vmem S1x1 .f32) (harg22 : arg22.IsWhole) (arg23 : Memref sig .tc .vmem S1x1x7x7 .f32) (harg23 : arg23.IsWhole) (arg24 : Memref sig .tc .vmem S1x4096x64 .f32) (harg24 : arg24.IsWhole) (arg25 : Memref sig .tc .vmem S64x64x32 .f32) (harg25 : arg25.IsWhole) (arg26 : Memref sig .tc .vmem S32x32x16 .f32) (harg26 : arg26.IsWhole) (arg27 : Memref sig .tc .vmem S16x16x8 .f32) (harg27 : arg27.IsWhole)
    (x0 : Vec F S1x4096x64 .bf16) (x1 : Vec F S1x4096x64 .bf16) (x2 : Vec F S1x1x64 .f32) (x3 : Vec F S1x1x64 .f32) (x4 : Vec F S192x768 .bf16) (x5 : Vec F S1x256 .f32) (x6 : Vec F S768x384 .bf16) (x7 : Vec F S1x128 .f32) (x8 : Vec F S384x192 .bf16) (x9 : Vec F S1x64 .f32) (x10 : Vec F S384x96 .bf16) (x11 : Vec F S1x32 .f32) (x12 : Vec F S16x32x16 .bf16) (x13 : Vec F S1x16 .f32) (x14 : Vec F S16x16x8 .bf16) (x15 : Vec F S1x8 .f32) (x16 : Vec F S16x8x1 .bf16) (x17 : Vec F S1x1 .f32) (x18 : Vec F S256x32 .f32) (x19 : Vec F S1x32 .f32) (x20 : Vec F S32x1 .f32) (x21 : Vec F S1x1 .f32) (y : S1x1x7x7.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21).1 S1x1x7x7.size (by sl_kernel_rfl) y

/-- What the run leaves in output 22's staging buffer: its pieces read back over junk. -/
def out1_A_22 (c : Dev nD) (i : grid1.Coords) (arg1 : Memref sig .tc .vmem S1x4096x64 .bf16) (harg1 : arg1.IsWhole) (arg2 : Memref sig .tc .vmem S1x4096x64 .bf16) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S192x768 .bf16) (harg5 : arg5.IsWhole) (arg6 : Memref sig .tc .vmem S1x256 .f32) (harg6 : arg6.IsWhole) (arg7 : Memref sig .tc .vmem S768x384 .bf16) (harg7 : arg7.IsWhole) (arg8 : Memref sig .tc .vmem S1x128 .f32) (harg8 : arg8.IsWhole) (arg9 : Memref sig .tc .vmem S384x192 .bf16) (harg9 : arg9.IsWhole) (arg10 : Memref sig .tc .vmem S1x64 .f32) (harg10 : arg10.IsWhole) (arg11 : Memref sig .tc .vmem S384x96 .bf16) (harg11 : arg11.IsWhole) (arg12 : Memref sig .tc .vmem S1x32 .f32) (harg12 : arg12.IsWhole) (arg13 : Memref sig .tc .vmem S16x32x16 .bf16) (harg13 : arg13.IsWhole) (arg14 : Memref sig .tc .vmem S1x16 .f32) (harg14 : arg14.IsWhole) (arg15 : Memref sig .tc .vmem S16x16x8 .bf16) (harg15 : arg15.IsWhole) (arg16 : Memref sig .tc .vmem S1x8 .f32) (harg16 : arg16.IsWhole) (arg17 : Memref sig .tc .vmem S16x8x1 .bf16) (harg17 : arg17.IsWhole) (arg18 : Memref sig .tc .vmem S1x1 .f32) (harg18 : arg18.IsWhole) (arg19 : Memref sig .tc .vmem S256x32 .f32) (harg19 : arg19.IsWhole) (arg20 : Memref sig .tc .vmem S1x32 .f32) (harg20 : arg20.IsWhole) (arg21 : Memref sig .tc .vmem S32x1 .f32) (harg21 : arg21.IsWhole) (arg22 : Memref sig .tc .vmem S1x1 .f32) (harg22 : arg22.IsWhole) (arg23 : Memref sig .tc .vmem S1x1x7x7 .f32) (harg23 : arg23.IsWhole) (arg24 : Memref sig .tc .vmem S1x4096x64 .f32) (harg24 : arg24.IsWhole) (arg25 : Memref sig .tc .vmem S64x64x32 .f32) (harg25 : arg25.IsWhole) (arg26 : Memref sig .tc .vmem S32x32x16 .f32) (harg26 : arg26.IsWhole) (arg27 : Memref sig .tc .vmem S16x16x8 .f32) (harg27 : arg27.IsWhole)
    (x0 : Vec F S1x4096x64 .bf16) (x1 : Vec F S1x4096x64 .bf16) (x2 : Vec F S1x1x64 .f32) (x3 : Vec F S1x1x64 .f32) (x4 : Vec F S192x768 .bf16) (x5 : Vec F S1x256 .f32) (x6 : Vec F S768x384 .bf16) (x7 : Vec F S1x128 .f32) (x8 : Vec F S384x192 .bf16) (x9 : Vec F S1x64 .f32) (x10 : Vec F S384x96 .bf16) (x11 : Vec F S1x32 .f32) (x12 : Vec F S16x32x16 .bf16) (x13 : Vec F S1x16 .f32) (x14 : Vec F S16x16x8 .bf16) (x15 : Vec F S1x8 .f32) (x16 : Vec F S16x8x1 .bf16) (x17 : Vec F S1x1 .f32) (x18 : Vec F S256x32 .f32) (x19 : Vec F S1x32 .f32) (x20 : Vec F S32x1 .f32) (x21 : Vec F S1x1 .f32) : Vec F S1x1x7x7 .f32 :=
  VO1_22.read (Elt F) (VO1_22.writes (Elt F) VO1_22.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21).1)

/-- The run's pieces for output 23 tile its block (1 store of `S1x4096x64`, checked by the kernel's evaluation: Lib/Ring.lean `Piece.tiledL`, linear in the pieces, through a loop's `@[irreducible]` trip theorem too), so they cover it. -/
theorem cover1_A_23 (c : Dev nD) (i : grid1.Coords) (arg1 : Memref sig .tc .vmem S1x4096x64 .bf16) (harg1 : arg1.IsWhole) (arg2 : Memref sig .tc .vmem S1x4096x64 .bf16) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S192x768 .bf16) (harg5 : arg5.IsWhole) (arg6 : Memref sig .tc .vmem S1x256 .f32) (harg6 : arg6.IsWhole) (arg7 : Memref sig .tc .vmem S768x384 .bf16) (harg7 : arg7.IsWhole) (arg8 : Memref sig .tc .vmem S1x128 .f32) (harg8 : arg8.IsWhole) (arg9 : Memref sig .tc .vmem S384x192 .bf16) (harg9 : arg9.IsWhole) (arg10 : Memref sig .tc .vmem S1x64 .f32) (harg10 : arg10.IsWhole) (arg11 : Memref sig .tc .vmem S384x96 .bf16) (harg11 : arg11.IsWhole) (arg12 : Memref sig .tc .vmem S1x32 .f32) (harg12 : arg12.IsWhole) (arg13 : Memref sig .tc .vmem S16x32x16 .bf16) (harg13 : arg13.IsWhole) (arg14 : Memref sig .tc .vmem S1x16 .f32) (harg14 : arg14.IsWhole) (arg15 : Memref sig .tc .vmem S16x16x8 .bf16) (harg15 : arg15.IsWhole) (arg16 : Memref sig .tc .vmem S1x8 .f32) (harg16 : arg16.IsWhole) (arg17 : Memref sig .tc .vmem S16x8x1 .bf16) (harg17 : arg17.IsWhole) (arg18 : Memref sig .tc .vmem S1x1 .f32) (harg18 : arg18.IsWhole) (arg19 : Memref sig .tc .vmem S256x32 .f32) (harg19 : arg19.IsWhole) (arg20 : Memref sig .tc .vmem S1x32 .f32) (harg20 : arg20.IsWhole) (arg21 : Memref sig .tc .vmem S32x1 .f32) (harg21 : arg21.IsWhole) (arg22 : Memref sig .tc .vmem S1x1 .f32) (harg22 : arg22.IsWhole) (arg23 : Memref sig .tc .vmem S1x1x7x7 .f32) (harg23 : arg23.IsWhole) (arg24 : Memref sig .tc .vmem S1x4096x64 .f32) (harg24 : arg24.IsWhole) (arg25 : Memref sig .tc .vmem S64x64x32 .f32) (harg25 : arg25.IsWhole) (arg26 : Memref sig .tc .vmem S32x32x16 .f32) (harg26 : arg26.IsWhole) (arg27 : Memref sig .tc .vmem S16x16x8 .f32) (harg27 : arg27.IsWhole)
    (x0 : Vec F S1x4096x64 .bf16) (x1 : Vec F S1x4096x64 .bf16) (x2 : Vec F S1x1x64 .f32) (x3 : Vec F S1x1x64 .f32) (x4 : Vec F S192x768 .bf16) (x5 : Vec F S1x256 .f32) (x6 : Vec F S768x384 .bf16) (x7 : Vec F S1x128 .f32) (x8 : Vec F S384x192 .bf16) (x9 : Vec F S1x64 .f32) (x10 : Vec F S384x96 .bf16) (x11 : Vec F S1x32 .f32) (x12 : Vec F S16x32x16 .bf16) (x13 : Vec F S1x16 .f32) (x14 : Vec F S16x16x8 .bf16) (x15 : Vec F S1x8 .f32) (x16 : Vec F S16x8x1 .bf16) (x17 : Vec F S1x1 .f32) (x18 : Vec F S256x32 .f32) (x19 : Vec F S1x32 .f32) (x20 : Vec F S32x1 .f32) (x21 : Vec F S1x1 .f32) (y : S1x4096x64.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21).2.1 S1x4096x64.size (by sl_kernel_rfl) y

/-- What the run leaves in output 23's staging buffer: its pieces read back over junk. -/
def out1_A_23 (c : Dev nD) (i : grid1.Coords) (arg1 : Memref sig .tc .vmem S1x4096x64 .bf16) (harg1 : arg1.IsWhole) (arg2 : Memref sig .tc .vmem S1x4096x64 .bf16) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S192x768 .bf16) (harg5 : arg5.IsWhole) (arg6 : Memref sig .tc .vmem S1x256 .f32) (harg6 : arg6.IsWhole) (arg7 : Memref sig .tc .vmem S768x384 .bf16) (harg7 : arg7.IsWhole) (arg8 : Memref sig .tc .vmem S1x128 .f32) (harg8 : arg8.IsWhole) (arg9 : Memref sig .tc .vmem S384x192 .bf16) (harg9 : arg9.IsWhole) (arg10 : Memref sig .tc .vmem S1x64 .f32) (harg10 : arg10.IsWhole) (arg11 : Memref sig .tc .vmem S384x96 .bf16) (harg11 : arg11.IsWhole) (arg12 : Memref sig .tc .vmem S1x32 .f32) (harg12 : arg12.IsWhole) (arg13 : Memref sig .tc .vmem S16x32x16 .bf16) (harg13 : arg13.IsWhole) (arg14 : Memref sig .tc .vmem S1x16 .f32) (harg14 : arg14.IsWhole) (arg15 : Memref sig .tc .vmem S16x16x8 .bf16) (harg15 : arg15.IsWhole) (arg16 : Memref sig .tc .vmem S1x8 .f32) (harg16 : arg16.IsWhole) (arg17 : Memref sig .tc .vmem S16x8x1 .bf16) (harg17 : arg17.IsWhole) (arg18 : Memref sig .tc .vmem S1x1 .f32) (harg18 : arg18.IsWhole) (arg19 : Memref sig .tc .vmem S256x32 .f32) (harg19 : arg19.IsWhole) (arg20 : Memref sig .tc .vmem S1x32 .f32) (harg20 : arg20.IsWhole) (arg21 : Memref sig .tc .vmem S32x1 .f32) (harg21 : arg21.IsWhole) (arg22 : Memref sig .tc .vmem S1x1 .f32) (harg22 : arg22.IsWhole) (arg23 : Memref sig .tc .vmem S1x1x7x7 .f32) (harg23 : arg23.IsWhole) (arg24 : Memref sig .tc .vmem S1x4096x64 .f32) (harg24 : arg24.IsWhole) (arg25 : Memref sig .tc .vmem S64x64x32 .f32) (harg25 : arg25.IsWhole) (arg26 : Memref sig .tc .vmem S32x32x16 .f32) (harg26 : arg26.IsWhole) (arg27 : Memref sig .tc .vmem S16x16x8 .f32) (harg27 : arg27.IsWhole)
    (x0 : Vec F S1x4096x64 .bf16) (x1 : Vec F S1x4096x64 .bf16) (x2 : Vec F S1x1x64 .f32) (x3 : Vec F S1x1x64 .f32) (x4 : Vec F S192x768 .bf16) (x5 : Vec F S1x256 .f32) (x6 : Vec F S768x384 .bf16) (x7 : Vec F S1x128 .f32) (x8 : Vec F S384x192 .bf16) (x9 : Vec F S1x64 .f32) (x10 : Vec F S384x96 .bf16) (x11 : Vec F S1x32 .f32) (x12 : Vec F S16x32x16 .bf16) (x13 : Vec F S1x16 .f32) (x14 : Vec F S16x16x8 .bf16) (x15 : Vec F S1x8 .f32) (x16 : Vec F S16x8x1 .bf16) (x17 : Vec F S1x1 .f32) (x18 : Vec F S256x32 .f32) (x19 : Vec F S1x32 .f32) (x20 : Vec F S32x1 .f32) (x21 : Vec F S1x1 .f32) : Vec F S1x4096x64 .f32 :=
  VO1_23.read (Elt F) (VO1_23.writes (Elt F) VO1_23.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21).2.1)

end Regions

end Cert.KernelIdeal.Gen

end
-- ==== Proof.IdealFrame.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.IdealBody
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! ## What the outputs hold after each point -/

/-- What the outputs' staging buffers hold after the body at point `t` (as a tuple, in window order): the run's contents at
    the point's memrefs and input blocks. -/
def outsAt1 (c : Dev nD) (t : Fin cfg1.N) : Vec F S1x1x7x7 .f32 × Vec F S1x4096x64 .f32 :=
  (out1_A_22 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) (ms1_21 t) (hs1_21 t) (ms1_22 t) (hs1_22 t) (ms1_23 t) (hs1_23 t) scM1_0 (Memref.isWhole_whole _) scM1_1 (Memref.isWhole_whole _) scM1_2 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t), out1_A_23 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) (ms1_21 t) (hs1_21 t) (ms1_22 t) (hs1_22 t) (ms1_23 t) (hs1_23 t) scM1_0 (Memref.isWhole_whole _) scM1_1 (Memref.isWhole_whole _) scM1_2 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => (outsAt1 V c t).1
    | ⟨23, _⟩ => (outsAt1 V c t).2
    | ⟨_ + 24, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = (outsAt1 V c t).1 := by dsimp only [dat1]
theorem after1_23 (c : Dev nD) (t : Fin cfg1.N) : (dat1 V c).after 23 t = (outsAt1 V c t).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d
theorem before1_20 (c : Dev nD) (t : Fin cfg1.N) (d) : (dat1 V c).before 20 t d = iblk1 V c 20 t :=
  before1_20_of V (dat1 V c) (A_eq1 V c 20) (after1_20 V c) t d
theorem before1_21 (c : Dev nD) (t : Fin cfg1.N) (d) : (dat1 V c).before 21 t d = iblk1 V c 21 t :=
  before1_21_of V (dat1 V c) (A_eq1 V c 21) (after1_21 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d))
    ∗ (∃ d, owns (c : Thread nD τ) (ms1_20 t) fullShare ((dat1 V c).before 20 t d))
    ∗ (∃ d, owns (c : Thread nD τ) (ms1_21 t) fullShare ((dat1 V c).before 21 t d))
    ∗ (∃ d, owns (c : Thread nD τ) (ms1_22 t) fullShare ((dat1 V c).before 22 t d))
    ∗ (∃ d, owns (c : Thread nD τ) (ms1_23 t) fullShare ((dat1 V c).before 23 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t)
    ∗ owns (c : Thread nD τ) (ms1_19 t) fullShare ((dat1 V c).after 19 t)
    ∗ owns (c : Thread nD τ) (ms1_20 t) fullShare ((dat1 V c).after 20 t)
    ∗ owns (c : Thread nD τ) (ms1_21 t) fullShare ((dat1 V c).after 21 t)
    ∗ owns (c : Thread nD τ) (ms1_22 t) fullShare ((dat1 V c).after 22 t)
    ∗ owns (c : Thread nD τ) (ms1_23 t) fullShare ((dat1 V c).after 23 t))

set_option maxHeartbeats 2400000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23]
  rw [show (dat1 V c).Φ t.castSucc = Pipeline.ΦA spec1 c from rfl, PhiA1_eq]
  unfold outsAt1
  unfold out1_A_22 out1_A_23; (try dsimp only)
  iintro ⟨⟨⟨HR0, HR1, HR2, HR3, HR4, HR5, HR6, HR7, HR8, HR9, HR10, HR11, HR12, HR13, HR14, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun1_A c (grid1.coords t) _ _ _ _ _ _ _ _ _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, ⟨%e22, H22⟩, ⟨%e23, H23⟩, ⟨%fT0, HS0⟩, ⟨%fT1, HS1⟩, ⟨%fT2, HS2⟩⟩
  isplitl [HR0 HR1 HR2 HR3 HR4 HR5 HR6 HR7 HR8 HR9 HR10 HR11 HR12 HR13 HR14 HS0 HS1 HS2 Hg]
  · isplitl [HR0 HR1 HR2 HR3 HR4 HR5 HR6 HR7 HR8 HR9 HR10 HR11 HR12 HR13 HR14 HS0 HS1 HS2]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]
  · unfold owns; iexists _; isplitr
    swap; · iexact H22
    ipureintro; exact View.read_writes_of_cover _ _ _ _ _ (cover1_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H23
  ipureintro; exact View.read_writes_of_cover _ _ _ _ _ (cover1_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

set_option maxHeartbeats 4000000 in
/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_c, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v64, main_v65]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)
theorem W5_main_arg12 (c : Dev nD) : W5 m ρ c (Proc.devRef .tc main_arg12) = m ((c : Thread nD τ).loc main_arg12) :=
  W5_args m ρ c main_arg12 (by decide)
theorem W5_main_arg13 (c : Dev nD) : W5 m ρ c (Proc.devRef .tc main_arg13) = m ((c : Thread nD τ).loc main_arg13) :=
  W5_args m ρ c main_arg13 (by decide)
theorem W5_main_arg14 (c : Dev nD) : W5 m ρ c (Proc.devRef .tc main_arg14) = m ((c : Thread nD τ).loc main_arg14) :=
  W5_args m ρ c main_arg14 (by decide)
theorem W5_main_arg15 (c : Dev nD) : W5 m ρ c (Proc.devRef .tc main_arg15) = m ((c : Thread nD τ).loc main_arg15) :=
  W5_args m ρ c main_arg15 (by decide)
theorem W5_main_arg16 (c : Dev nD) : W5 m ρ c (Proc.devRef .tc main_arg16) = m ((c : Thread nD τ).loc main_arg16) :=
  W5_args m ρ c main_arg16 (by decide)
theorem W5_main_arg17 (c : Dev nD) : W5 m ρ c (Proc.devRef .tc main_arg17) = m ((c : Thread nD τ).loc main_arg17) :=
  W5_args m ρ c main_arg17 (by decide)
theorem W5_main_arg18 (c : Dev nD) : W5 m ρ c (Proc.devRef .tc main_arg18) = m ((c : Thread nD τ).loc main_arg18) :=
  W5_args m ρ c main_arg18 (by decide)
theorem W5_main_arg19 (c : Dev nD) : W5 m ρ c (Proc.devRef .tc main_arg19) = m ((c : Thread nD τ).loc main_arg19) :=
  W5_args m ρ c main_arg19 (by decide)
theorem W5_main_arg20 (c : Dev nD) : W5 m ρ c (Proc.devRef .tc main_arg20) = m ((c : Thread nD τ).loc main_arg20) :=
  W5_args m ρ c main_arg20 (by decide)
theorem W5_main_arg21 (c : Dev nD) : W5 m ρ c (Proc.devRef .tc main_arg21) = m ((c : Thread nD τ).loc main_arg21) :=
  W5_args m ρ c main_arg21 (by decide)
theorem W5_main_arg22 (c : Dev nD) : W5 m ρ c (Proc.devRef .tc main_arg22) = m ((c : Thread nD τ).loc main_arg22) :=
  W5_args m ρ c main_arg22 (by decide)
theorem W5_main_arg23 (c : Dev nD) : W5 m ρ c (Proc.devRef .tc main_arg23) = m ((c : Thread nD τ).loc main_arg23) :=
  W5_args m ρ c main_arg23 (by decide)
theorem W5_main_arg24 (c : Dev nD) : W5 m ρ c (Proc.devRef .tc main_arg24) = m ((c : Thread nD τ).loc main_arg24) :=
  W5_args m ρ c main_arg24 (by decide)
theorem W5_main_arg25 (c : Dev nD) : W5 m ρ c (Proc.devRef .tc main_arg25) = m ((c : Thread nD τ).loc main_arg25) :=
  W5_args m ρ c main_arg25 (by decide)
theorem W5_main_arg26 (c : Dev nD) : W5 m ρ c (Proc.devRef .tc main_arg26) = m ((c : Thread nD τ).loc main_arg26) :=
  W5_args m ρ c main_arg26 (by decide)
theorem W5_main_arg27 (c : Dev nD) : W5 m ρ c (Proc.devRef .tc main_arg27) = m ((c : Thread nD τ).loc main_arg27) :=
  W5_args m ρ c main_arg27 (by decide)
theorem W5_main_arg28 (c : Dev nD) : W5 m ρ c (Proc.devRef .tc main_arg28) = m ((c : Thread nD τ).loc main_arg28) :=
  W5_args m ρ c main_arg28 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every run from zero counters ends; every unscoped array then holds what the last segment's contents say, and every counter is zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: every run ends with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))
      ∧ r.2.sem = fun _ => 0) :=
  (θ_run defs _ _).mono (fun _ hr => ⟨fun c =>
      ⟨(hr.1 c _ (mem_uc main_arg0 (by decide))).trans (W5_main_arg0 m ρ c),
       (hr.1 c _ (mem_uc main_arg1 (by decide))).trans (W5_main_arg1 m ρ c),
       (hr.1 c _ (mem_uc main_arg2 (by decide))).trans (W5_main_arg2 m ρ c),
       (hr.1 c _ (mem_uc main_arg3 (by decide))).trans (W5_main_arg3 m ρ c),
       (hr.1 c _ (mem_uc main_arg4 (by decide))).trans (W5_main_arg4 m ρ c),
       (hr.1 c _ (mem_uc main_arg5 (by decide))).trans (W5_main_arg5 m ρ c),
       (hr.1 c _ (mem_uc main_arg6 (by decide))).trans (W5_main_arg6 m ρ c),
       (hr.1 c _ (mem_uc main_arg7 (by decide))).trans (W5_main_arg7 m ρ c),
       (hr.1 c _ (mem_uc main_arg8 (by decide))).trans (W5_main_arg8 m ρ c),
       (hr.1 c _ (mem_uc main_arg9 (by decide))).trans (W5_main_arg9 m ρ c),
       (hr.1 c _ (mem_uc main_arg10 (by decide))).trans (W5_main_arg10 m ρ c),
       (hr.1 c _ (mem_uc main_arg11 (by decide))).trans (W5_main_arg11 m ρ c),
       (hr.1 c _ (mem_uc main_arg12 (by decide))).trans (W5_main_arg12 m ρ c),
       (hr.1 c _ (mem_uc main_arg13 (by decide))).trans (W5_main_arg13 m ρ c),
       (hr.1 c _ (mem_uc main_arg14 (by decide))).trans (W5_main_arg14 m ρ c),
       (hr.1 c _ (mem_uc main_arg15 (by decide))).trans (W5_main_arg15 m ρ c),
       (hr.1 c _ (mem_uc main_arg16 (by decide))).trans (W5_main_arg16 m ρ c),
       (hr.1 c _ (mem_uc main_arg17 (by decide))).trans (W5_main_arg17 m ρ c),
       (hr.1 c _ (mem_uc main_arg18 (by decide))).trans (W5_main_arg18 m ρ c),
       (hr.1 c _ (mem_uc main_arg19 (by decide))).trans (W5_main_arg19 m ρ c),
       (hr.1 c _ (mem_uc main_arg20 (by decide))).trans (W5_main_arg20 m ρ c),
       (hr.1 c _ (mem_uc main_arg21 (by decide))).trans (W5_main_arg21 m ρ c),
       (hr.1 c _ (mem_uc main_arg22 (by decide))).trans (W5_main_arg22 m ρ c),
       (hr.1 c _ (mem_uc main_arg23 (by decide))).trans (W5_main_arg23 m ρ c),
       (hr.1 c _ (mem_uc main_arg24 (by decide))).trans (W5_main_arg24 m ρ c),
       (hr.1 c _ (mem_uc main_arg25 (by decide))).trans (W5_main_arg25 m ρ c),
       (hr.1 c _ (mem_uc main_arg26 (by decide))).trans (W5_main_arg26 m ρ c),
       (hr.1 c _ (mem_uc main_arg27 (by decide))).trans (W5_main_arg27 m ρ c),
       (hr.1 c _ (mem_uc main_arg28 (by decide))).trans (W5_main_arg28 m ρ c)⟩, hr.2⟩) (run_all m ρ)

end Cert.KernelIdeal.Gen

end
-- ==== Proof.Net.lean ====
module

public import Idealize.ShloMosaic.Lib.Pointwise

@[expose] public section

noncomputable section

namespace Cert.Net

open Idealize.ShloMosaic

/-! ## A graph layer: messages along edges, or a matrix of edge counts -/

variable {ι κ : Type} [Fintype ι] [Fintype κ] [DecidableEq κ]

/-- One over the root of the number of edges with that end, or of one if there is none. -/
def scale (S : ι → κ) (n : κ) : EReal := Ideal.rsqrt (max (∑ e, if S e = n then 1 else 0) 1)

/-- What a node receives: every edge into it brings its source's scaled row, and the total is scaled. -/
def conv (S D : ι → κ) (t : κ → EReal) (d : κ) : EReal :=
  (∑ e, if D e = d then t (S e) * scale S (S e) else 0) * scale D d

/-- Such a scale is not negative and not infinite. -/
theorem rsqrt_bounds (x : EReal) (h : 1 ≤ x) : 0 ≤ Ideal.rsqrt x ∧ Ideal.rsqrt x ≠ ⊤ := by
  induction x using EReal.rec with
  | bot => exact absurd (le_bot_iff.mp h) (EReal.coe_ne_bot 1)
  | top => exact ⟨le_rfl, EReal.zero_ne_top⟩
  | coe r =>
    have hr : (1 : ℝ) ≤ r := by exact_mod_cast h
    have e : Ideal.rsqrt (r : EReal) = ((Real.sqrt r)⁻¹ : ℝ) := by
      show (if r < 0 then ⊥ else if r = 0 then ⊤ else (((Real.sqrt r)⁻¹ : ℝ) : EReal)) = _
      rw [if_neg (by linarith), if_neg (by linarith)]
    rw [e]
    exact ⟨by exact_mod_cast inv_nonneg.mpr (Real.sqrt_nonneg r), EReal.coe_ne_top _⟩

theorem scale_nonneg (S : ι → κ) (n : κ) : 0 ≤ scale S n := (rsqrt_bounds _ (le_max_right _ _)).1
theorem scale_ne_top (S : ι → κ) (n : κ) : scale S n ≠ ⊤ := (rsqrt_bounds _ (le_max_right _ _)).2

/-- A count times a number is that number once for each thing counted. -/
theorem count_mul {α : Type} (s : Finset α) (p : α → Prop) [DecidablePred p] (z : EReal) :
    (∑ e ∈ s, if p e then (1 : EReal) else 0) * z = ∑ e ∈ s, if p e then z else 0 := by
  classical
  induction s using Finset.induction_on with
  | empty => simp
  | insert a s ha ih =>
    rw [Finset.sum_insert ha, Finset.sum_insert ha, EReal.right_distrib_of_nonneg, ih]
    · split_ifs <;> simp
    · split_ifs <;> simp
    · exact Finset.sum_nonneg fun e _ => by split_ifs <;> simp

/-- A finite number not below zero multiplies a sum term by term. -/
theorem sum_mul_nonneg {α : Type} (s : Finset α) (f : α → EReal) (r : EReal) (h : 0 ≤ r) (h' : r ≠ ⊤) :
    (∑ e ∈ s, f e) * r = ∑ e ∈ s, f e * r := by
  classical
  induction s using Finset.induction_on with
  | empty => simp
  | insert a s ha ih =>
    rw [Finset.sum_insert ha, Finset.sum_insert ha, mul_comm, EReal.left_distrib_of_nonneg_of_ne_top h h', ← ih, mul_comm r, mul_comm r]

/-- The number of edges from `s` to `d`. -/
def count (S D : ι → κ) (d s : κ) : EReal := ∑ e, (if D e = d then 1 else 0) * (if S e = s then 1 else 0)

theorem count_eq (S D : ι → κ) (d s : κ) : count S D d s = ∑ e, if D e = d ∧ S e = s then 1 else 0 :=
  Finset.sum_congr rfl fun e _ => by
    by_cases h : D e = d <;> by_cases h' : S e = s <;> simp [h, h']

/-- Row sums of the counts. -/
theorem count_row (S D : ι → κ) (d : κ) : (∑ s, count S D d s) = ∑ e, if D e = d then 1 else 0 := by
  simp only [count_eq]
  rw [Finset.sum_comm]
  refine Finset.sum_congr rfl fun e _ => ?_
  by_cases h : D e = d <;> simp [h]

/-- Column sums of the counts. -/
theorem count_col (S D : ι → κ) (s : κ) : (∑ d, count S D d s) = ∑ e, if S e = s then 1 else 0 := by
  simp only [count_eq]
  rw [Finset.sum_comm]
  refine Finset.sum_congr rfl fun e _ => ?_
  by_cases h : S e = s <;> simp [h]

/-- The matrix of scaled counts against a column is what the nodes receive. -/
theorem counts_conv (S D : ι → κ) (t : κ → EReal) (d : κ) :
    (∑ s, (count S D d s * Ideal.rsqrt (max (∑ s, count S D d s) 1) * Ideal.rsqrt (max (∑ d, count S D d s) 1)) * t s) = conv S D t d := by
  simp only [count_row, count_col]
  show (∑ s, (count S D d s * scale D d * scale S s) * t s) = (∑ e, if D e = d then t (S e) * scale S (S e) else 0) * scale D d
  rw [sum_mul_nonneg _ _ _ (scale_nonneg D d) (scale_ne_top D d)]
  have e1 : ∀ s, (count S D d s * scale D d * scale S s) * t s = ∑ e, if D e = d ∧ S e = s then t s * scale S s * scale D d else 0 := fun s => by
    rw [count_eq, mul_assoc, mul_assoc, count_mul]
    refine Finset.sum_congr rfl fun e _ => if_congr Iff.rfl ?_ rfl
    rw [mul_comm, mul_comm (scale S s)]
  simp only [e1]
  rw [Finset.sum_comm]
  refine Finset.sum_congr rfl fun e _ => ?_
  by_cases h : D e = d <;> simp [h]

/-- A layer of the network at a node: its neighbours' rows through the weights. -/
def layer {C : ℕ} {C' : ℕ} (S D : ι → κ) (x : κ → Fin C → EReal) (w : Fin C → Fin C' → EReal) (d : κ) (c : Fin C') : EReal :=
  conv S D (fun s => ∑ k, x s k * w k c) d

/-- The network's three layers. -/
def net {A B C E : ℕ} (S D : ι → κ) (x : κ → Fin A → EReal) (w1 : Fin A → Fin B → EReal) (w2 : Fin B → Fin C → EReal) (w3 : Fin C → Fin E → EReal)
    (d : κ) (c : Fin E) : EReal :=
  Ideal.tanh (layer S D (fun n k => max (layer S D (fun n k => max (layer S D x w1 n k) 0) w2 n k) 0) w3 d c)

/-- A row of weights picks a node's row. -/
theorem pick_sum (g : κ → EReal) (n : κ) : (∑ k, (if k = n then (1 : EReal) else 0) * g k) = g n := by
  simp

end Cert.Net

end
-- ==== Proof.Rows.lean ====
module

public import Idealize.ShloMosaic.Lib.Pointwise
public import Idealize.ShloMosaic.Lib.ValueIdx

@[expose] public section

noncomputable section

namespace Cert.Rows

open Idealize.ShloMosaic

/-! ## Rows gathered and rows added up, read at an index -/

/-- An index gathers: row `idx e` of a table, read as a signed number and clamped into the table. -/
theorem gather_rows {α : Type} {N C E : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1) (h7 : d.sliceSizes = ![1, C])
    (x : (⟨2, ![N, C]⟩ : Shape).Idx → α) (idx : IVec ⟨2, ![E, 1]⟩ 32) (e : Fin E) (c : Fin C) :
    Host.gather d x idx (ix2 e c) = x (ix2 ⟨min (idx (ix2 e 0)).toInt.toNat (N - 1), by omega⟩ c) := by
  obtain ⟨o, cs, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>
    show GatherDims.start (⟨[1], [0], [], [], [0], 1, ![1, C], wf⟩ : GatherDims ⟨2, ![N, C]⟩ ⟨2, ![E, 1]⟩ ⟨2, ![E, C]⟩) (ix2 e c) idx 0 + GatherDims.batchCoord (⟨[1], [0], [], [], [0], 1, ![1, C], wf⟩ : GatherDims ⟨2, ![N, C]⟩ ⟨2, ![E, 1]⟩ ⟨2, ![E, C]⟩) (ix2 e c) 0
      + GatherDims.offCoord (⟨[1], [0], [], [], [0], 1, ![1, C], wf⟩ : GatherDims ⟨2, ![N, C]⟩ ⟨2, ![E, 1]⟩ ⟨2, ![E, C]⟩) (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    refine congrArg (fun k => min (idx k).toInt.toNat (N - 1)) (funext fun b => ?_)
    match b with
    | ⟨0, _⟩ => rfl
    | ⟨1, _⟩ => rfl
  | ⟨1, _⟩ =>
    show GatherDims.start (⟨[1], [0], [], [], [0], 1, ![1, C], wf⟩ : GatherDims ⟨2, ![N, C]⟩ ⟨2, ![E, 1]⟩ ⟨2, ![E, C]⟩) (ix2 e c) idx 1 + GatherDims.batchCoord (⟨[1], [0], [], [], [0], 1, ![1, C], wf⟩ : GatherDims ⟨2, ![N, C]⟩ ⟨2, ![E, 1]⟩ ⟨2, ![E, C]⟩) (ix2 e c) 1
      + GatherDims.offCoord (⟨[1], [0], [], [], [0], 1, ![1, C], wf⟩ : GatherDims ⟨2, ![N, C]⟩ ⟨2, ![E, 1]⟩ ⟨2, ![E, C]⟩) (ix2 e c) 1 = c.val
    rw [GatherDims.batchCoord_eq_zero _ _ _ List.not_mem_nil,
      show GatherDims.start (⟨[1], [0], [], [], [0], 1, ![1, C], wf⟩ : GatherDims ⟨2, ![N, C]⟩ ⟨2, ![E, 1]⟩ ⟨2, ![E, C]⟩) (ix2 e c) idx 1 = 0 from rfl,
      show GatherDims.offCoord (⟨[1], [0], [], [], [0], 1, ![1, C], wf⟩ : GatherDims ⟨2, ![N, C]⟩ ⟨2, ![E, 1]⟩ ⟨2, ![E, C]⟩) (ix2 e c) 1 = c.val from rfl]
    omega

/-- The same with the indices in a box: each entry of the box gathers a row. -/
theorem gather_box {α : Type} {N C A B D : Nat} (hN : 0 < N) (d : GatherDims ⟨2, ![N, C]⟩ ⟨4, ![A, B, D, 1]⟩ ⟨4, ![A, B, D, C]⟩)
    (h1 : d.offsetDims = [3]) (h2 : d.collapsedSliceDims = [0]) (h3 : d.operandBatchingDims = [])
    (h4 : d.startIndicesBatchingDims = []) (h5 : d.startIndexMap = [0]) (h6 : d.indexVectorDim = 3) (h7 : d.sliceSizes = ![1, C])
    (x : (⟨2, ![N, C]⟩ : Shape).Idx → α) (idx : IVec ⟨4, ![A, B, D, 1]⟩ 32) (n : Fin A) (i : Fin B) (j : Fin D) (c : Fin C) :
    Host.gather d x idx (ix4 n i j c) = x (ix2 ⟨min (idx (ix4 n i j 0)).toInt.toNat (N - 1), by omega⟩ c) := by
  obtain ⟨o, cs, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>
    show GatherDims.start (⟨[3], [0], [], [], [0], 3, ![1, C], wf⟩ : GatherDims ⟨2, ![N, C]⟩ ⟨4, ![A, B, D, 1]⟩ ⟨4, ![A, B, D, C]⟩) (ix4 n i j c) idx 0 + GatherDims.batchCoord (⟨[3], [0], [], [], [0], 3, ![1, C], wf⟩ : GatherDims ⟨2, ![N, C]⟩ ⟨4, ![A, B, D, 1]⟩ ⟨4, ![A, B, D, C]⟩) (ix4 n i j c) 0
      + GatherDims.offCoord (⟨[3], [0], [], [], [0], 3, ![1, C], wf⟩ : GatherDims ⟨2, ![N, C]⟩ ⟨4, ![A, B, D, 1]⟩ ⟨4, ![A, B, D, C]⟩) (ix4 n i j c) 0 = min (idx (ix4 n i j 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    refine congrArg (fun k => min (idx k).toInt.toNat (N - 1)) (funext fun b => ?_)
    match b with
    | ⟨0, _⟩ => rfl
    | ⟨1, _⟩ => rfl
    | ⟨2, _⟩ => rfl
    | ⟨3, _⟩ => rfl
  | ⟨1, _⟩ =>
    show GatherDims.start (⟨[3], [0], [], [], [0], 3, ![1, C], wf⟩ : GatherDims ⟨2, ![N, C]⟩ ⟨4, ![A, B, D, 1]⟩ ⟨4, ![A, B, D, C]⟩) (ix4 n i j c) idx 1 + GatherDims.batchCoord (⟨[3], [0], [], [], [0], 3, ![1, C], wf⟩ : GatherDims ⟨2, ![N, C]⟩ ⟨4, ![A, B, D, 1]⟩ ⟨4, ![A, B, D, C]⟩) (ix4 n i j c) 1
      + GatherDims.offCoord (⟨[3], [0], [], [], [0], 3, ![1, C], wf⟩ : GatherDims ⟨2, ![N, C]⟩ ⟨4, ![A, B, D, 1]⟩ ⟨4, ![A, B, D, C]⟩) (ix4 n i j c) 1 = c.val
    rw [GatherDims.batchCoord_eq_zero _ _ _ List.not_mem_nil,
      show GatherDims.start (⟨[3], [0], [], [], [0], 3, ![1, C], wf⟩ : GatherDims ⟨2, ![N, C]⟩ ⟨4, ![A, B, D, 1]⟩ ⟨4, ![A, B, D, C]⟩) (ix4 n i j c) idx 1 = 0 from rfl,
      show GatherDims.offCoord (⟨[3], [0], [], [], [0], 3, ![1, C], wf⟩ : GatherDims ⟨2, ![N, C]⟩ ⟨4, ![A, B, D, 1]⟩ ⟨4, ![A, B, D, C]⟩) (ix4 n i j c) 1 = c.val from rfl]
    omega

/-- A plane's entry gathered at two numbers: the plane, and the place within its rows. -/
theorem gather_plane {α : Type} {N C P B : Nat} (hN : 0 < N) (hP : 0 < P) (d : GatherDims ⟨3, ![N, C, P]⟩ ⟨2, ![B, 2]⟩ ⟨2, ![B, C]⟩)
    (h1 : d.offsetDims = [1]) (h2 : d.collapsedSliceDims = [0, 2]) (h3 : d.operandBatchingDims = [])
    (h4 : d.startIndicesBatchingDims = []) (h5 : d.startIndexMap = [0, 2]) (h6 : d.indexVectorDim = 1) (h7 : d.sliceSizes = ![1, C, 1])
    (x : (⟨3, ![N, C, P]⟩ : Shape).Idx → α) (idx : IVec ⟨2, ![B, 2]⟩ 32) (b : Fin B) (c : Fin C) :
    Host.gather d x idx (ix2 b c) = x (ix3 ⟨min (idx (ix2 b 0)).toInt.toNat (N - 1), by omega⟩ c
      ⟨min (idx (ix2 b 1)).toInt.toNat (P - 1), by omega⟩) := by
  obtain ⟨o, cs, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>
    show GatherDims.start (⟨[1], [0, 2], [], [], [0, 2], 1, ![1, C, 1], wf⟩ : GatherDims ⟨3, ![N, C, P]⟩ ⟨2, ![B, 2]⟩ ⟨2, ![B, C]⟩) (ix2 b c) idx 0 + GatherDims.batchCoord (⟨[1], [0, 2], [], [], [0, 2], 1, ![1, C, 1], wf⟩ : GatherDims ⟨3, ![N, C, P]⟩ ⟨2, ![B, 2]⟩ ⟨2, ![B, C]⟩) (ix2 b c) 0 + GatherDims.offCoord (⟨[1], [0, 2], [], [], [0, 2], 1, ![1, C, 1], wf⟩ : GatherDims ⟨3, ![N, C, P]⟩ ⟨2, ![B, 2]⟩ ⟨2, ![B, C]⟩) (ix2 b c) 0 = min (idx (ix2 b 0)).toInt.toNat (N - 1)
    rw [GatherDims.batchCoord_eq_zero _ _ _ List.not_mem_nil,
      GatherDims.offCoord_eq_zero _ _ _ (fun h => ((GatherDims.mem_sKept _ _).mp h).1 (by simp))]
    unfold GatherDims.start
    rw [dif_pos (by simp)]
    refine congrArg (fun k => min (idx k).toInt.toNat (N - 1)) (funext fun b => ?_)
    match b with
    | ⟨0, _⟩ => rfl
    | ⟨1, _⟩ => rfl
  | ⟨1, _⟩ =>
    show GatherDims.start (⟨[1], [0, 2], [], [], [0, 2], 1, ![1, C, 1], wf⟩ : GatherDims ⟨3, ![N, C, P]⟩ ⟨2, ![B, 2]⟩ ⟨2, ![B, C]⟩) (ix2 b c) idx 1 + GatherDims.batchCoord (⟨[1], [0, 2], [], [], [0, 2], 1, ![1, C, 1], wf⟩ : GatherDims ⟨3, ![N, C, P]⟩ ⟨2, ![B, 2]⟩ ⟨2, ![B, C]⟩) (ix2 b c) 1 + GatherDims.offCoord (⟨[1], [0, 2], [], [], [0, 2], 1, ![1, C, 1], wf⟩ : GatherDims ⟨3, ![N, C, P]⟩ ⟨2, ![B, 2]⟩ ⟨2, ![B, C]⟩) (ix2 b c) 1 = c.val
    rw [GatherDims.batchCoord_eq_zero _ _ _ List.not_mem_nil,
      show GatherDims.start (⟨[1], [0, 2], [], [], [0, 2], 1, ![1, C, 1], wf⟩ : GatherDims ⟨3, ![N, C, P]⟩ ⟨2, ![B, 2]⟩ ⟨2, ![B, C]⟩) (ix2 b c) idx 1 = 0 from rfl, show GatherDims.offCoord (⟨[1], [0, 2], [], [], [0, 2], 1, ![1, C, 1], wf⟩ : GatherDims ⟨3, ![N, C, P]⟩ ⟨2, ![B, 2]⟩ ⟨2, ![B, C]⟩) (ix2 b c) 1 = c.val from rfl]
    omega
  | ⟨2, _⟩ =>
    show GatherDims.start (⟨[1], [0, 2], [], [], [0, 2], 1, ![1, C, 1], wf⟩ : GatherDims ⟨3, ![N, C, P]⟩ ⟨2, ![B, 2]⟩ ⟨2, ![B, C]⟩) (ix2 b c) idx 2 + GatherDims.batchCoord (⟨[1], [0, 2], [], [], [0, 2], 1, ![1, C, 1], wf⟩ : GatherDims ⟨3, ![N, C, P]⟩ ⟨2, ![B, 2]⟩ ⟨2, ![B, C]⟩) (ix2 b c) 2 + GatherDims.offCoord (⟨[1], [0, 2], [], [], [0, 2], 1, ![1, C, 1], wf⟩ : GatherDims ⟨3, ![N, C, P]⟩ ⟨2, ![B, 2]⟩ ⟨2, ![B, C]⟩) (ix2 b c) 2 = min (idx (ix2 b 1)).toInt.toNat (P - 1)
    rw [GatherDims.batchCoord_eq_zero _ _ _ List.not_mem_nil,
      GatherDims.offCoord_eq_zero _ _ _ (fun h => ((GatherDims.mem_sKept _ _).mp h).1 (by simp))]
    unfold GatherDims.start
    rw [dif_pos (by simp)]
    refine congrArg (fun k => min (idx k).toInt.toNat (P - 1)) (funext fun b => ?_)
    match b with
    | ⟨0, _⟩ => rfl
    | ⟨1, _⟩ => rfl

/-- Where the update at `(e, c)` lands: at row `idx e`, read signed, and column `c`. -/
theorem lands_rows {N C E : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (c' : Fin C) (n : Fin N) (c : Fin C) :
    d.resultIdx? (ix2 e c') idx = some (ix2 n c) ↔ (idx (ix2 e 0)).toInt = n ∧ c' = c := by
  obtain ⟨uw, iw, sd, iv, wf⟩ := d
  dsimp only at h1 h2 h3 h4
  subst h1 h2 h3 h4
  have s0 : ScatterDims.start (⟨[1], [0], [0], 1, wf⟩ : ScatterDims ⟨2, ![N, C]⟩ ⟨2, ![E, 1]⟩ ⟨2, ![E, C]⟩) (ix2 e c') idx 0 = (idx (ix2 e 0)).toInt := by
    unfold ScatterDims.start
    rw [dif_pos (List.mem_singleton.mpr rfl)]
    congr 2
    funext b
    match b with
    | ⟨0, _⟩ => rfl
    | ⟨1, _⟩ => rfl
  have s1 : ScatterDims.start (⟨[1], [0], [0], 1, wf⟩ : ScatterDims ⟨2, ![N, C]⟩ ⟨2, ![E, 1]⟩ ⟨2, ![E, C]⟩) (ix2 e c') idx 1 = 0 := rfl
  have w0 : ScatterDims.window (⟨[1], [0], [0], 1, wf⟩ : ScatterDims ⟨2, ![N, C]⟩ ⟨2, ![E, 1]⟩ ⟨2, ![E, C]⟩) (ix2 e c') 0 = 0 := rfl
  have w1 : ScatterDims.window (⟨[1], [0], [0], 1, wf⟩ : ScatterDims ⟨2, ![N, C]⟩ ⟨2, ![E, 1]⟩ ⟨2, ![E, C]⟩) (ix2 e c') 1 = c' := rfl
  unfold ScatterDims.resultIdx?
  constructor
  · intro h
    split at h
    case isFalse => exact absurd h (by simp)
    case isTrue hh =>
      have h := Option.some.inj h
      have a0 : (ScatterDims.start (⟨[1], [0], [0], 1, wf⟩ : ScatterDims ⟨2, ![N, C]⟩ ⟨2, ![E, 1]⟩ ⟨2, ![E, C]⟩) (ix2 e c') idx 0 + ScatterDims.window (⟨[1], [0], [0], 1, wf⟩ : ScatterDims ⟨2, ![N, C]⟩ ⟨2, ![E, 1]⟩ ⟨2, ![E, C]⟩) (ix2 e c') 0).toNat = n.val := congrArg Fin.val (congrFun h 0)
      have a1 : (ScatterDims.start (⟨[1], [0], [0], 1, wf⟩ : ScatterDims ⟨2, ![N, C]⟩ ⟨2, ![E, 1]⟩ ⟨2, ![E, C]⟩) (ix2 e c') idx 1 + ScatterDims.window (⟨[1], [0], [0], 1, wf⟩ : ScatterDims ⟨2, ![N, C]⟩ ⟨2, ![E, 1]⟩ ⟨2, ![E, C]⟩) (ix2 e c') 1).toNat = c.val := congrArg Fin.val (congrFun h 1)
      have b0 : 0 ≤ ScatterDims.start (⟨[1], [0], [0], 1, wf⟩ : ScatterDims ⟨2, ![N, C]⟩ ⟨2, ![E, 1]⟩ ⟨2, ![E, C]⟩) (ix2 e c') idx 0 + ScatterDims.window (⟨[1], [0], [0], 1, wf⟩ : ScatterDims ⟨2, ![N, C]⟩ ⟨2, ![E, 1]⟩ ⟨2, ![E, C]⟩) (ix2 e c') 0 := (hh 0).1
      rw [s0, w0] at a0 b0
      rw [s1, w1] at a1
      exact ⟨by omega, Fin.ext (by omega)⟩
  · rintro ⟨h, rfl⟩
    rw [dif_pos]
    · congr 1
      funext a
      refine Fin.ext ?_
      match a with
      | ⟨0, _⟩ =>
        show (ScatterDims.start (⟨[1], [0], [0], 1, wf⟩ : ScatterDims ⟨2, ![N, C]⟩ ⟨2, ![E, 1]⟩ ⟨2, ![E, C]⟩) (ix2 e c') idx 0 + ScatterDims.window (⟨[1], [0], [0], 1, wf⟩ : ScatterDims ⟨2, ![N, C]⟩ ⟨2, ![E, 1]⟩ ⟨2, ![E, C]⟩) (ix2 e c') 0).toNat = n.val
        rw [s0, w0]; omega
      | ⟨1, _⟩ =>
        show (ScatterDims.start (⟨[1], [0], [0], 1, wf⟩ : ScatterDims ⟨2, ![N, C]⟩ ⟨2, ![E, 1]⟩ ⟨2, ![E, C]⟩) (ix2 e c') idx 1 + ScatterDims.window (⟨[1], [0], [0], 1, wf⟩ : ScatterDims ⟨2, ![N, C]⟩ ⟨2, ![E, 1]⟩ ⟨2, ![E, C]⟩) (ix2 e c') 1).toNat = c'.val
        rw [s1, w1]; omega
    · intro a
      match a with
      | ⟨0, _⟩ =>
        show 0 ≤ ScatterDims.start (⟨[1], [0], [0], 1, wf⟩ : ScatterDims ⟨2, ![N, C]⟩ ⟨2, ![E, 1]⟩ ⟨2, ![E, C]⟩) (ix2 e c') idx 0 + ScatterDims.window (⟨[1], [0], [0], 1, wf⟩ : ScatterDims ⟨2, ![N, C]⟩ ⟨2, ![E, 1]⟩ ⟨2, ![E, C]⟩) (ix2 e c') 0
          ∧ ScatterDims.start (⟨[1], [0], [0], 1, wf⟩ : ScatterDims ⟨2, ![N, C]⟩ ⟨2, ![E, 1]⟩ ⟨2, ![E, C]⟩) (ix2 e c') idx 0 + ScatterDims.window (⟨[1], [0], [0], 1, wf⟩ : ScatterDims ⟨2, ![N, C]⟩ ⟨2, ![E, 1]⟩ ⟨2, ![E, C]⟩) (ix2 e c') 0 < (N : Int)
        rw [s0, w0]; omega
      | ⟨1, _⟩ =>
        show 0 ≤ ScatterDims.start (⟨[1], [0], [0], 1, wf⟩ : ScatterDims ⟨2, ![N, C]⟩ ⟨2, ![E, 1]⟩ ⟨2, ![E, C]⟩) (ix2 e c') idx 1 + ScatterDims.window (⟨[1], [0], [0], 1, wf⟩ : ScatterDims ⟨2, ![N, C]⟩ ⟨2, ![E, 1]⟩ ⟨2, ![E, C]⟩) (ix2 e c') 1
          ∧ ScatterDims.start (⟨[1], [0], [0], 1, wf⟩ : ScatterDims ⟨2, ![N, C]⟩ ⟨2, ![E, 1]⟩ ⟨2, ![E, C]⟩) (ix2 e c') idx 1 + ScatterDims.window (⟨[1], [0], [0], 1, wf⟩ : ScatterDims ⟨2, ![N, C]⟩ ⟨2, ![E, 1]⟩ ⟨2, ![E, C]⟩) (ix2 e c') 1 < (C : Int)
        rw [s1, w1]; omega

/-- Rows added into a table: each entry gets its column of every row sent to it. -/
theorem scatter_rows {N C E : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0]) (h4 : d.indexVectorDim = 1)
    (x : FVec Ideal ⟨2, ![N, C]⟩ .f32) (idx : IVec ⟨2, ![E, 1]⟩ 32) (u : FVec Ideal ⟨2, ![E, C]⟩ .f32) (n : Fin N) (c : Fin C) :
    Host.scatterAdd d x idx u (ix2 n c) = (x (ix2 n c) + ∑ e : Fin E, if (idx (ix2 e 0)).toInt = n then u (ix2 e c) else 0 : EReal) := by
  show (x (ix2 n c) + ∑ j ∈ Finset.univ.filter (fun j => d.resultIdx? j idx = some (ix2 n c)), u j : EReal) = _
  congr 1
  rw [Finset.sum_filter, sum_idx2]
  refine Finset.sum_congr rfl fun e _ => ?_
  rw [Finset.sum_eq_single c]
  · refine if_congr ?_ rfl rfl
    rw [lands_rows d h1 h2 h3 h4]; simp
  · intro c' _ hc
    rw [if_neg]
    rw [lands_rows d h1 h2 h3 h4]; exact fun h => hc h.2
  · simp

/-- Where the update at `e` lands in a list: at place `idx e`, read signed. -/
theorem lands_list {N E : Nat} (d : ScatterDims ⟨1, ![N]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (n : Fin N) :
    d.resultIdx? (ix1 e) idx = some (ix1 n) ↔ (idx (ix2 e 0)).toInt = n := by
  obtain ⟨uw, iw, sd, iv, wf⟩ := d
  dsimp only at h1 h2 h3 h4
  subst h1 h2 h3 h4
  have s0 : ScatterDims.start (⟨[], [0], [0], 1, wf⟩ : ScatterDims ⟨1, ![N]⟩ ⟨2, ![E, 1]⟩ ⟨1, ![E]⟩) (ix1 e) idx 0 = (idx (ix2 e 0)).toInt := by
    unfold ScatterDims.start
    rw [dif_pos (List.mem_singleton.mpr rfl)]
    congr 2
    funext b
    match b with
    | ⟨0, _⟩ => rfl
    | ⟨1, _⟩ => rfl
  have w0 : ScatterDims.window (⟨[], [0], [0], 1, wf⟩ : ScatterDims ⟨1, ![N]⟩ ⟨2, ![E, 1]⟩ ⟨1, ![E]⟩) (ix1 e) 0 = 0 := rfl
  unfold ScatterDims.resultIdx?
  constructor
  · intro h
    split at h
    case isFalse => exact absurd h (by simp)
    case isTrue hh =>
      have h := Option.some.inj h
      have a0 : (ScatterDims.start (⟨[], [0], [0], 1, wf⟩ : ScatterDims ⟨1, ![N]⟩ ⟨2, ![E, 1]⟩ ⟨1, ![E]⟩) (ix1 e) idx 0 + ScatterDims.window (⟨[], [0], [0], 1, wf⟩ : ScatterDims ⟨1, ![N]⟩ ⟨2, ![E, 1]⟩ ⟨1, ![E]⟩) (ix1 e) 0).toNat = n.val := congrArg Fin.val (congrFun h 0)
      have b0 : 0 ≤ ScatterDims.start (⟨[], [0], [0], 1, wf⟩ : ScatterDims ⟨1, ![N]⟩ ⟨2, ![E, 1]⟩ ⟨1, ![E]⟩) (ix1 e) idx 0 + ScatterDims.window (⟨[], [0], [0], 1, wf⟩ : ScatterDims ⟨1, ![N]⟩ ⟨2, ![E, 1]⟩ ⟨1, ![E]⟩) (ix1 e) 0 := (hh 0).1
      rw [s0, w0] at a0 b0
      omega
  · intro h
    rw [dif_pos]
    · congr 1
      funext a
      obtain rfl : a = 0 := Subsingleton.elim _ _
      refine Fin.ext ?_
      show (ScatterDims.start (⟨[], [0], [0], 1, wf⟩ : ScatterDims ⟨1, ![N]⟩ ⟨2, ![E, 1]⟩ ⟨1, ![E]⟩) (ix1 e) idx 0 + ScatterDims.window (⟨[], [0], [0], 1, wf⟩ : ScatterDims ⟨1, ![N]⟩ ⟨2, ![E, 1]⟩ ⟨1, ![E]⟩) (ix1 e) 0).toNat = n.val
      rw [s0, w0]; omega
    · intro a
      obtain rfl : a = 0 := Subsingleton.elim _ _
      show 0 ≤ ScatterDims.start (⟨[], [0], [0], 1, wf⟩ : ScatterDims ⟨1, ![N]⟩ ⟨2, ![E, 1]⟩ ⟨1, ![E]⟩) (ix1 e) idx 0 + ScatterDims.window (⟨[], [0], [0], 1, wf⟩ : ScatterDims ⟨1, ![N]⟩ ⟨2, ![E, 1]⟩ ⟨1, ![E]⟩) (ix1 e) 0
          ∧ ScatterDims.start (⟨[], [0], [0], 1, wf⟩ : ScatterDims ⟨1, ![N]⟩ ⟨2, ![E, 1]⟩ ⟨1, ![E]⟩) (ix1 e) idx 0 + ScatterDims.window (⟨[], [0], [0], 1, wf⟩ : ScatterDims ⟨1, ![N]⟩ ⟨2, ![E, 1]⟩ ⟨1, ![E]⟩) (ix1 e) 0 < (N : Int)
      rw [s0, w0]; omega

/-- Numbers added into a list: each place gets every number sent to it. -/
theorem scatter_list {N E : Nat} (d : ScatterDims ⟨1, ![N]⟩ ⟨2, ![E, 1]⟩ ⟨1, ![E]⟩)
    (h1 : d.updateWindowDims = []) (h2 : d.insertedWindowDims = [0]) (h3 : d.scatterDimsToOperandDims = [0]) (h4 : d.indexVectorDim = 1)
    (x : FVec Ideal ⟨1, ![N]⟩ .f32) (idx : IVec ⟨2, ![E, 1]⟩ 32) (u : FVec Ideal ⟨1, ![E]⟩ .f32) (n : Fin N) :
    Host.scatterAdd d x idx u (ix1 n) = (x (ix1 n) + ∑ e : Fin E, if (idx (ix2 e 0)).toInt = n then u (ix1 e) else 0 : EReal) := by
  show (x (ix1 n) + ∑ j ∈ Finset.univ.filter (fun j => d.resultIdx? j idx = some (ix1 n)), u j : EReal) = _
  congr 1
  rw [Finset.sum_filter, sum_idx1]
  exact Finset.sum_congr rfl fun e _ => if_congr (lands_list d h1 h2 h3 h4 idx e n) rfl rfl

end Cert.Rows

end
-- ==== Proof.Img.lean ====
module

public import Idealize.ShloMosaic.Lib.Pointwise

@[expose] public section

set_option maxRecDepth 16384

noncomputable section

namespace Cert.Img

open Idealize.ShloMosaic

/-- The integer zero read as a float is zero. -/
theorem sitofp_zero : (FloatOps.sitofp FTy.f32 0#32 : Ideal .f32) = 0 := by
  simp [FloatOps.sitofp]

/-- An image of side `S` with a border of zeros: entry `(a, b)` is pixel `(a - 1, b - 1)`, and zero outside. -/
def pd {S C : ℕ} (y : Fin S → Fin S → Fin C → EReal) (a b : ℕ) (c : Fin C) : EReal :=
  if h : (1 ≤ a ∧ a ≤ S) ∧ (1 ≤ b ∧ b ≤ S) then y ⟨a - 1, by omega⟩ ⟨b - 1, by omega⟩ c else 0

/-- A 3 × 3 correlation at `(i, j)`, of a padded image with the weights of one output channel, and the bias. -/
def conv3 {C : ℕ} (p : ℕ → ℕ → Fin C → EReal) (w : Fin 3 → Fin 3 → Fin C → EReal) (b : EReal) (i j : ℕ) : EReal :=
  (∑ ki : Fin 3, ∑ kj : Fin 3, ∑ c : Fin C, p (i + ki) (j + kj) c * w ki kj c) + b

/-- The border is zero: a column of the border contributes nothing to a correlation. -/
theorem sum_border {K C : ℕ} (p : ℕ → ℕ → Fin C → EReal) (w : Fin K → Fin C → EReal) (i j : ℕ)
    (h : ∀ a c, p a j c = 0) : ∑ k : Fin K, ∑ c : Fin C, p (i + k) j c * w k c = 0 := by
  simp [h]

/-- The correlation column by column, the bias first. -/
theorem conv3_cols {C : ℕ} (p : ℕ → ℕ → Fin C → EReal) (w : Fin 3 → Fin 3 → Fin C → EReal) (b : EReal) (i j : ℕ) :
    conv3 p w b i j =
      ((b + ∑ ki : Fin 3, ∑ c : Fin C, p (i + ki) (j + 0) c * w ki 0 c)
        + ∑ ki : Fin 3, ∑ c : Fin C, p (i + ki) (j + 1) c * w ki 1 c)
        + ∑ ki : Fin 3, ∑ c : Fin C, p (i + ki) (j + 2) c * w ki 2 c := by
  unfold conv3
  rw [Finset.sum_comm]
  simp only [Fin.sum_univ_three, Fin.val_zero, Fin.val_one, Fin.val_two]
  ac_rfl

/-- A 3 × 3 layer on a padded image: channel `o` of pixel `(i, j)`. -/
def layer {S C O : ℕ} (y : Fin S → Fin S → Fin C → EReal) (w : Fin O → Fin 3 → Fin 3 → Fin C → EReal) (b : Fin O → EReal)
    (i j : Fin S) (o : Fin O) : EReal := conv3 (pd y) (w o) (b o) i j

/-- The three layers of the map: two followed by the positive part, the last by the hyperbolic tangent. -/
def stack (y : Fin 64 → Fin 64 → Fin 64 → EReal)
    (w1 : Fin 256 → Fin 3 → Fin 3 → Fin 64 → EReal) (b1 : Fin 256 → EReal)
    (w2 : Fin 128 → Fin 3 → Fin 3 → Fin 256 → EReal) (b2 : Fin 128 → EReal)
    (w3 : Fin 64 → Fin 3 → Fin 3 → Fin 128 → EReal) (b3 : Fin 64 → EReal) (i j : Fin 64) (o : Fin 64) : EReal :=
  Ideal.tanh (layer (fun i j o => max (layer (fun i j o => max (layer y w1 b1 i j o) 0) w2 b2 i j o) 0) w3 b3 i j o)

end Cert.Img

end
-- ==== Proof.ConvR.lean ====
module

public import proofs.«01_k».proof.Proof.Gen.ReferenceIdeal.Run
public import proofs.«01_k».proof.Proof.Img
public import Idealize.ShloMosaic.Lib.Pointwise

@[expose] public section

set_option maxRecDepth 16384

noncomputable section

namespace Cert.ReferenceIdeal.ConvR

open Idealize.ShloMosaic Idealize.ShloMosaic.TcCoe Idealize.SL.Sem
open Cert.ReferenceIdeal Cert.ReferenceIdeal.Gen Cert.ReferenceIdeal.Value Cert.Img

/-! ## From 64 channels to 256 -/

/-- The windows of the padded image, tap by tap and channel by channel. -/
def windows64 (p : FVec Ideal S32x64x66x66 .f32) : FVec Ideal S32x576x64x64 .f32 :=
  concatenate S32x576x64x64 1
    [⟨S32x64x64x64, extractStridedSlice S32x64x64x64 ![0, 0, 0, 0] p slices_S32x64x66x66_S32x64x64x64_0_0_0_0⟩,
     ⟨S32x64x64x64, extractStridedSlice S32x64x64x64 ![0, 0, 0, 1] p slices_S32x64x66x66_S32x64x64x64_0_0_0_1⟩,
     ⟨S32x64x64x64, extractStridedSlice S32x64x64x64 ![0, 0, 0, 2] p slices_S32x64x66x66_S32x64x64x64_0_0_0_2⟩,
     ⟨S32x64x64x64, extractStridedSlice S32x64x64x64 ![0, 0, 1, 0] p slices_S32x64x66x66_S32x64x64x64_0_0_1_0⟩,
     ⟨S32x64x64x64, extractStridedSlice S32x64x64x64 ![0, 0, 1, 1] p slices_S32x64x66x66_S32x64x64x64_0_0_1_1⟩,
     ⟨S32x64x64x64, extractStridedSlice S32x64x64x64 ![0, 0, 1, 2] p slices_S32x64x66x66_S32x64x64x64_0_0_1_2⟩,
     ⟨S32x64x64x64, extractStridedSlice S32x64x64x64 ![0, 0, 2, 0] p slices_S32x64x66x66_S32x64x64x64_0_0_2_0⟩,
     ⟨S32x64x64x64, extractStridedSlice S32x64x64x64 ![0, 0, 2, 1] p slices_S32x64x66x66_S32x64x64x64_0_0_2_1⟩,
     ⟨S32x64x64x64, extractStridedSlice S32x64x64x64 ![0, 0, 2, 2] p slices_S32x64x66x66_S32x64x64x64_0_0_2_2⟩]
    concatenates_S32x64x64x64_S32x64x64x64_S32x64x64x64_S32x64x64x64_S32x64x64x64_S32x64x64x64_S32x64x64x64_S32x64x64x64_S32x64x64x64_S32x576x64x64_d1

/-- The weights, tap by tap and channel by channel. -/
def taps256 (w : FVec Ideal S256x64x3x3 .f32) : FVec Ideal S256x576 .f32 :=
  shapeCast _ (transpose S256x3x3x64 [0, 2, 3, 1] w transposes_S256x64x3x3_S256x3x3x64_0_2_3_1) shapeCasts_S256x3x3x64_S256x576

/-- The layer: the windows against the weights, and the bias. -/
def conv256 (p : FVec Ideal S32x64x66x66 .f32) (w : FVec Ideal S256x64x3x3 .f32) (b : FVec Ideal S256 .f32) : FVec Ideal S32x256x64x64 .f32 :=
  addf (transpose S32x256x64x64 [1, 0, 2, 3] (Host.dotGeneral dot_S256x576_S32x576x64x64_S256x32x64x64_1_1_0_023_n_n none (taps256 w) (windows64 p))
      transposes_S256x32x64x64_S32x256x64x64_1_0_2_3)
    (broadcastInDim S32x256x64x64 ![0, 1, 2, 3] bcast_S1x256x1x1_S32x256x64x64_0_1_2_3 (broadcastInDim S1x256x1x1 ![1] bcast_S256_S1x256x1x1_1 b))

/-- The windows at pixel `(i, j)` and tap `(a, b)`. -/
theorem windows64_apply (p : FVec Ideal S32x64x66x66 .f32) (n : Fin 32) (i j : Fin 64) (a b : Fin 3) (c : Fin 64) :
    windows64 p (ix4 n ⟨(a * 3 + b) * 64 + c, by omega⟩ i j) = p (ix4 n c ⟨i + a, by omega⟩ ⟨j + b, by omega⟩) := by
  pointwise [windows64]
  split_ifs <;> (refine congrArg p (congr (congr (congrArg (ix4 n) (Fin.ext ?_)) (Fin.ext ?_)) (Fin.ext ?_)) <;> dsimp only <;> omega)

/-- The weights at a tap and a channel. -/
theorem taps256_apply (w : FVec Ideal S256x64x3x3 .f32) (o : Fin 256) (a b : Fin 3) (c : Fin 64) :
    taps256 w (ix2 o ⟨(a * 3 + b) * 64 + c, by omega⟩) = w (ix4 o c a b) := by
  pointwise [taps256]

/-- The image with its border of zeros. -/
def border64 (y : FVec Ideal S32x64x64x64 .f32) : FVec Ideal S32x64x66x66 .f32 :=
  pad S32x64x66x66 ![0, 0, 1, 1] ![0, 0, 1, 1] ![0, 0, 0, 0] y (sitofp .f32 (constantI S_ 32 0#32)) pads_S32x64x64x64_S32x64x66x66_000_000_110_110 h_S_

/-- The image with its border, at an entry. -/
theorem border64_apply (y : FVec Ideal S32x64x64x64 .f32) (n : Fin 32) (c : Fin 64) (a b : Fin 66) :
    border64 y (ix4 n c a b) = pd (fun i j c => y (ix4 n c i j)) a b c := by
  pointwise [border64]
  unfold pd
  split_ifs <;> first | omega | rfl | exact sitofp_zero

/-- The layer at pixel `(i, j)` of image `n`: the correlation of the padded image. -/
theorem conv256_apply (y : FVec Ideal S32x64x64x64 .f32) (w : FVec Ideal S256x64x3x3 .f32) (b : FVec Ideal S256 .f32)
    (n : Fin 32) (i j : Fin 64) (o : Fin 256) :
    conv256 (border64 y) w b (ix4 n o i j)
      = layer (fun i j c => y (ix4 n c i j)) (fun o a b c => w (ix4 o c a b)) (fun o => b (ix1 o)) i j o := by
  pointwise [conv256]
  unfold layer conv3
  congr 1
  rw [Fin.sum_univ_tiles 9 64 rfl, Fin.sum_univ_tiles 3 3 rfl]
  refine Finset.sum_congr rfl fun a _ => Finset.sum_congr rfl fun b _ => Finset.sum_congr rfl fun c _ => ?_
  rw [mul_comm]
  exact congr (congrArg _ ((windows64_apply _ n i j a b c).trans (border64_apply ..))) (taps256_apply w o a b c)

/-! ## From 256 channels to 128 -/

/-- The windows of the padded image, tap by tap and channel by channel. -/
def windows256 (p : FVec Ideal S32x256x66x66 .f32) : FVec Ideal S32x2304x64x64 .f32 :=
  concatenate S32x2304x64x64 1
    [⟨S32x256x64x64, extractStridedSlice S32x256x64x64 ![0, 0, 0, 0] p slices_S32x256x66x66_S32x256x64x64_0_0_0_0⟩,
     ⟨S32x256x64x64, extractStridedSlice S32x256x64x64 ![0, 0, 0, 1] p slices_S32x256x66x66_S32x256x64x64_0_0_0_1⟩,
     ⟨S32x256x64x64, extractStridedSlice S32x256x64x64 ![0, 0, 0, 2] p slices_S32x256x66x66_S32x256x64x64_0_0_0_2⟩,
     ⟨S32x256x64x64, extractStridedSlice S32x256x64x64 ![0, 0, 1, 0] p slices_S32x256x66x66_S32x256x64x64_0_0_1_0⟩,
     ⟨S32x256x64x64, extractStridedSlice S32x256x64x64 ![0, 0, 1, 1] p slices_S32x256x66x66_S32x256x64x64_0_0_1_1⟩,
     ⟨S32x256x64x64, extractStridedSlice S32x256x64x64 ![0, 0, 1, 2] p slices_S32x256x66x66_S32x256x64x64_0_0_1_2⟩,
     ⟨S32x256x64x64, extractStridedSlice S32x256x64x64 ![0, 0, 2, 0] p slices_S32x256x66x66_S32x256x64x64_0_0_2_0⟩,
     ⟨S32x256x64x64, extractStridedSlice S32x256x64x64 ![0, 0, 2, 1] p slices_S32x256x66x66_S32x256x64x64_0_0_2_1⟩,
     ⟨S32x256x64x64, extractStridedSlice S32x256x64x64 ![0, 0, 2, 2] p slices_S32x256x66x66_S32x256x64x64_0_0_2_2⟩]
    concatenates_S32x256x64x64_S32x256x64x64_S32x256x64x64_S32x256x64x64_S32x256x64x64_S32x256x64x64_S32x256x64x64_S32x256x64x64_S32x256x64x64_S32x2304x64x64_d1

/-- The weights, tap by tap and channel by channel. -/
def taps128 (w : FVec Ideal S128x256x3x3 .f32) : FVec Ideal S128x2304 .f32 :=
  shapeCast _ (transpose S128x3x3x256 [0, 2, 3, 1] w transposes_S128x256x3x3_S128x3x3x256_0_2_3_1) shapeCasts_S128x3x3x256_S128x2304

/-- The layer: the windows against the weights, and the bias. -/
def conv128 (p : FVec Ideal S32x256x66x66 .f32) (w : FVec Ideal S128x256x3x3 .f32) (b : FVec Ideal S128 .f32) : FVec Ideal S32x128x64x64 .f32 :=
  addf (transpose S32x128x64x64 [1, 0, 2, 3] (Host.dotGeneral dot_S128x2304_S32x2304x64x64_S128x32x64x64_1_1_0_023_n_n none (taps128 w) (windows256 p))
      transposes_S128x32x64x64_S32x128x64x64_1_0_2_3)
    (broadcastInDim S32x128x64x64 ![0, 1, 2, 3] bcast_S1x128x1x1_S32x128x64x64_0_1_2_3 (broadcastInDim S1x128x1x1 ![1] bcast_S128_S1x128x1x1_1 b))

/-- The windows at pixel `(i, j)` and tap `(a, b)`. -/
theorem windows256_apply (p : FVec Ideal S32x256x66x66 .f32) (n : Fin 32) (i j : Fin 64) (a b : Fin 3) (c : Fin 256) :
    windows256 p (ix4 n ⟨(a * 3 + b) * 256 + c, by omega⟩ i j) = p (ix4 n c ⟨i + a, by omega⟩ ⟨j + b, by omega⟩) := by
  pointwise [windows256]
  split_ifs <;> (refine congrArg p (congr (congr (congrArg (ix4 n) (Fin.ext ?_)) (Fin.ext ?_)) (Fin.ext ?_)) <;> dsimp only <;> omega)

/-- The weights at a tap and a channel. -/
theorem taps128_apply (w : FVec Ideal S128x256x3x3 .f32) (o : Fin 128) (a b : Fin 3) (c : Fin 256) :
    taps128 w (ix2 o ⟨(a * 3 + b) * 256 + c, by omega⟩) = w (ix4 o c a b) := by
  pointwise [taps128]

/-- The image with its border of zeros. -/
def border256 (y : FVec Ideal S32x256x64x64 .f32) : FVec Ideal S32x256x66x66 .f32 :=
  pad S32x256x66x66 ![0, 0, 1, 1] ![0, 0, 1, 1] ![0, 0, 0, 0] y (sitofp .f32 (constantI S_ 32 0#32)) pads_S32x256x64x64_S32x256x66x66_000_000_110_110 h_S_

/-- The image with its border, at an entry. -/
theorem border256_apply (y : FVec Ideal S32x256x64x64 .f32) (n : Fin 32) (c : Fin 256) (a b : Fin 66) :
    border256 y (ix4 n c a b) = pd (fun i j c => y (ix4 n c i j)) a b c := by
  pointwise [border256]
  unfold pd
  split_ifs <;> first | omega | rfl | exact sitofp_zero

/-- The layer at pixel `(i, j)` of image `n`: the correlation of the padded image. -/
theorem conv128_apply (y : FVec Ideal S32x256x64x64 .f32) (w : FVec Ideal S128x256x3x3 .f32) (b : FVec Ideal S128 .f32)
    (n : Fin 32) (i j : Fin 64) (o : Fin 128) :
    conv128 (border256 y) w b (ix4 n o i j)
      = layer (fun i j c => y (ix4 n c i j)) (fun o a b c => w (ix4 o c a b)) (fun o => b (ix1 o)) i j o := by
  pointwise [conv128]
  unfold layer conv3
  congr 1
  rw [Fin.sum_univ_tiles 9 256 rfl, Fin.sum_univ_tiles 3 3 rfl]
  refine Finset.sum_congr rfl fun a _ => Finset.sum_congr rfl fun b _ => Finset.sum_congr rfl fun c _ => ?_
  rw [mul_comm]
  exact congr (congrArg _ ((windows256_apply _ n i j a b c).trans (border256_apply ..))) (taps128_apply w o a b c)

/-! ## From 128 channels to 64 -/

/-- The windows of the padded image, tap by tap and channel by channel. -/
def windows128 (p : FVec Ideal S32x128x66x66 .f32) : FVec Ideal S32x1152x64x64 .f32 :=
  concatenate S32x1152x64x64 1
    [⟨S32x128x64x64, extractStridedSlice S32x128x64x64 ![0, 0, 0, 0] p slices_S32x128x66x66_S32x128x64x64_0_0_0_0⟩,
     ⟨S32x128x64x64, extractStridedSlice S32x128x64x64 ![0, 0, 0, 1] p slices_S32x128x66x66_S32x128x64x64_0_0_0_1⟩,
     ⟨S32x128x64x64, extractStridedSlice S32x128x64x64 ![0, 0, 0, 2] p slices_S32x128x66x66_S32x128x64x64_0_0_0_2⟩,
     ⟨S32x128x64x64, extractStridedSlice S32x128x64x64 ![0, 0, 1, 0] p slices_S32x128x66x66_S32x128x64x64_0_0_1_0⟩,
     ⟨S32x128x64x64, extractStridedSlice S32x128x64x64 ![0, 0, 1, 1] p slices_S32x128x66x66_S32x128x64x64_0_0_1_1⟩,
     ⟨S32x128x64x64, extractStridedSlice S32x128x64x64 ![0, 0, 1, 2] p slices_S32x128x66x66_S32x128x64x64_0_0_1_2⟩,
     ⟨S32x128x64x64, extractStridedSlice S32x128x64x64 ![0, 0, 2, 0] p slices_S32x128x66x66_S32x128x64x64_0_0_2_0⟩,
     ⟨S32x128x64x64, extractStridedSlice S32x128x64x64 ![0, 0, 2, 1] p slices_S32x128x66x66_S32x128x64x64_0_0_2_1⟩,
     ⟨S32x128x64x64, extractStridedSlice S32x128x64x64 ![0, 0, 2, 2] p slices_S32x128x66x66_S32x128x64x64_0_0_2_2⟩]
    concatenates_S32x128x64x64_S32x128x64x64_S32x128x64x64_S32x128x64x64_S32x128x64x64_S32x128x64x64_S32x128x64x64_S32x128x64x64_S32x128x64x64_S32x1152x64x64_d1

/-- The weights, tap by tap and channel by channel. -/
def taps64 (w : FVec Ideal S64x128x3x3 .f32) : FVec Ideal S64x1152 .f32 :=
  shapeCast _ (transpose S64x3x3x128 [0, 2, 3, 1] w transposes_S64x128x3x3_S64x3x3x128_0_2_3_1) shapeCasts_S64x3x3x128_S64x1152

/-- The layer: the windows against the weights, and the bias. -/
def conv64 (p : FVec Ideal S32x128x66x66 .f32) (w : FVec Ideal S64x128x3x3 .f32) (b : FVec Ideal S64 .f32) : FVec Ideal S32x64x64x64 .f32 :=
  addf (transpose S32x64x64x64 [1, 0, 2, 3] (Host.dotGeneral dot_S64x1152_S32x1152x64x64_S64x32x64x64_1_1_0_023_n_n none (taps64 w) (windows128 p))
      transposes_S64x32x64x64_S32x64x64x64_1_0_2_3)
    (broadcastInDim S32x64x64x64 ![0, 1, 2, 3] bcast_S1x64x1x1_S32x64x64x64_0_1_2_3 (broadcastInDim S1x64x1x1 ![1] bcast_S64_S1x64x1x1_1 b))

/-- The windows at pixel `(i, j)` and tap `(a, b)`. -/
theorem windows128_apply (p : FVec Ideal S32x128x66x66 .f32) (n : Fin 32) (i j : Fin 64) (a b : Fin 3) (c : Fin 128) :
    windows128 p (ix4 n ⟨(a * 3 + b) * 128 + c, by omega⟩ i j) = p (ix4 n c ⟨i + a, by omega⟩ ⟨j + b, by omega⟩) := by
  pointwise [windows128]
  split_ifs <;> (refine congrArg p (congr (congr (congrArg (ix4 n) (Fin.ext ?_)) (Fin.ext ?_)) (Fin.ext ?_)) <;> dsimp only <;> omega)

/-- The weights at a tap and a channel. -/
theorem taps64_apply (w : FVec Ideal S64x128x3x3 .f32) (o : Fin 64) (a b : Fin 3) (c : Fin 128) :
    taps64 w (ix2 o ⟨(a * 3 + b) * 128 + c, by omega⟩) = w (ix4 o c a b) := by
  pointwise [taps64]

/-- The image with its border of zeros. -/
def border128 (y : FVec Ideal S32x128x64x64 .f32) : FVec Ideal S32x128x66x66 .f32 :=
  pad S32x128x66x66 ![0, 0, 1, 1] ![0, 0, 1, 1] ![0, 0, 0, 0] y (sitofp .f32 (constantI S_ 32 0#32)) pads_S32x128x64x64_S32x128x66x66_000_000_110_110 h_S_

/-- The image with its border, at an entry. -/
theorem border128_apply (y : FVec Ideal S32x128x64x64 .f32) (n : Fin 32) (c : Fin 128) (a b : Fin 66) :
    border128 y (ix4 n c a b) = pd (fun i j c => y (ix4 n c i j)) a b c := by
  pointwise [border128]
  unfold pd
  split_ifs <;> first | omega | rfl | exact sitofp_zero

/-- The layer at pixel `(i, j)` of image `n`: the correlation of the padded image. -/
theorem conv64_apply (y : FVec Ideal S32x128x64x64 .f32) (w : FVec Ideal S64x128x3x3 .f32) (b : FVec Ideal S64 .f32)
    (n : Fin 32) (i j : Fin 64) (o : Fin 64) :
    conv64 (border128 y) w b (ix4 n o i j)
      = layer (fun i j c => y (ix4 n c i j)) (fun o a b c => w (ix4 o c a b)) (fun o => b (ix1 o)) i j o := by
  pointwise [conv64]
  unfold layer conv3
  congr 1
  rw [Fin.sum_univ_tiles 9 128 rfl, Fin.sum_univ_tiles 3 3 rfl]
  refine Finset.sum_congr rfl fun a _ => Finset.sum_congr rfl fun b _ => Finset.sum_congr rfl fun c _ => ?_
  rw [mul_comm]
  exact congr (congrArg _ ((windows128_apply _ n i j a b c).trans (border128_apply ..))) (taps64_apply w o a b c)

/-! ## The three layers -/

/-- The positive part. -/
def relu256 (y : FVec Ideal S32x256x64x64 .f32) : FVec Ideal S32x256x64x64 .f32 :=
  maximumf y (broadcastInDim S32x256x64x64 ![] bcast_S_S32x256x64x64 (constant S_ .f32 0x00000000#32))

/-- The positive part. -/
def relu128 (y : FVec Ideal S32x128x64x64 .f32) : FVec Ideal S32x128x64x64 .f32 :=
  maximumf y (broadcastInDim S32x128x64x64 ![] bcast_S_S32x128x64x64 (constant S_ .f32 0x00000000#32))

theorem relu256_apply (y : FVec Ideal S32x256x64x64 .f32) (n : Fin 32) (o : Fin 256) (i j : Fin 64) :
    relu256 y (ix4 n o i j) = max (y (ix4 n o i j)) 0 := by
  pointwise [relu256]

theorem relu128_apply (y : FVec Ideal S32x128x64x64 .f32) (n : Fin 32) (o : Fin 128) (i j : Fin 64) :
    relu128 y (ix4 n o i j) = max (y (ix4 n o i j)) 0 := by
  pointwise [relu128]

/-- The three layers on the maps. -/
def rm (y : FVec Ideal S32x64x64x64 .f32) (w1 : FVec Ideal S256x64x3x3 .f32) (b1 : FVec Ideal S256 .f32)
    (w2 : FVec Ideal S128x256x3x3 .f32) (b2 : FVec Ideal S128 .f32) (w3 : FVec Ideal S64x128x3x3 .f32) (b3 : FVec Ideal S64 .f32) :
    FVec Ideal S32x64x64x64 .f32 :=
  Host.tanh (conv64 (border128 (relu128 (conv128 (border256 (relu256 (conv256 (border64 y) w1 b1))) w2 b2))) w3 b3)

/-- The three layers at pixel `(i, j)` of image `n`. -/
theorem rm_apply (y : FVec Ideal S32x64x64x64 .f32) (w1 : FVec Ideal S256x64x3x3 .f32) (b1 : FVec Ideal S256 .f32)
    (w2 : FVec Ideal S128x256x3x3 .f32) (b2 : FVec Ideal S128 .f32) (w3 : FVec Ideal S64x128x3x3 .f32) (b3 : FVec Ideal S64 .f32)
    (n : Fin 32) (o i j : Fin 64) :
    rm y w1 b1 w2 b2 w3 b3 (ix4 n o i j)
      = stack (fun i j c => y (ix4 n c i j)) (fun o a b c => w1 (ix4 o c a b)) (fun o => b1 (ix1 o))
          (fun o a b c => w2 (ix4 o c a b)) (fun o => b2 (ix1 o)) (fun o a b c => w3 (ix4 o c a b)) (fun o => b3 (ix1 o)) i j o := by
  unfold rm stack
  pointwise []
  simp only [conv64_apply, relu128_apply, conv128_apply, relu256_apply, conv256_apply]

/-- The map of the nodes' rows: each cell's node's row, and zero where the cell has none. -/
def rep (g : FVec Ideal S16384x64 .f32) (mp : IVec S32x64x64 32) : FVec Ideal S32x64x64x64 .f32 :=
  have gid : IVec S32x64x64 32 := addi (broadcastInDim S32x64x64 ![0, 1, 2] bcast_S32x1x1_S32x64x64_0_1_2 (broadcastInDim S32x1x1 ![0] bcast_S32_S32x1x1_0 (muli (iotaInDim S32 32 0) (broadcastInDim S32 ![] bcast_S_S32 (constantI S_ 32 512#32)))))
    (maxsi mp (broadcastInDim S32x64x64 ![] bcast_S_S32x64x64 (constantI S_ 32 0#32)))
  transpose S32x64x64x64 [0, 3, 1, 2] (select (broadcastInDim S32x64x64x64 ![0, 1, 2, 3] bcast_S32x64x64x1_S32x64x64x64_0_1_2_3
      (broadcastInDim S32x64x64x1 ![0, 1, 2] bcast_S32x64x64_S32x64x64x1_0_1_2 (cmpi .sge mp (broadcastInDim S32x64x64 ![] bcast_S_S32x64x64 (constantI S_ 32 0#32)))))
    (Host.gather gather_S16384x64_S32x64x64x1_S32x64x64x64_3_0_n_n_0_3_164 g
      (broadcastInDim S32x64x64x1 ![0, 1, 2] bcast_S32x64x64_S32x64x64x1_0_1_2
        (select (cmpi .slt gid (broadcastInDim S32x64x64 ![] bcast_S_S32x64x64 (constantI S_ 32 0#32)))
          (addi gid (broadcastInDim S32x64x64 ![] bcast_S_S32x64x64 (constantI S_ 32 16384#32))) gid)))
    (broadcastInDim S32x64x64x64 ![] bcast_S_S32x64x64x64 (id (constant S_ .f32 0x00000000#32)))) transposes_S32x64x64x64_S32x64x64x64_0_3_1_2

/-- The first map, three layers on. -/
theorem v147_eq (V0 : Valuation τ sig (Elt Ideal)) :
    res_main_v147 V0 = rm (rep (res_main_v63 V0) (V0 (Proc.devRef .tc main_arg3))) (V0 (Proc.devRef .tc main_arg11)) (V0 (Proc.devRef .tc main_arg12))
      (V0 (Proc.devRef .tc main_arg13)) (V0 (Proc.devRef .tc main_arg14)) (V0 (Proc.devRef .tc main_arg15)) (V0 (Proc.devRef .tc main_arg16)) := rfl

/-- The second map, three layers on. -/
theorem v321_eq (V0 : Valuation τ sig (Elt Ideal)) :
    res_main_v321 V0 = rm (rep (res_main_v237 V0) (V0 (Proc.devRef .tc main_arg7))) (V0 (Proc.devRef .tc main_arg11)) (V0 (Proc.devRef .tc main_arg12))
      (V0 (Proc.devRef .tc main_arg13)) (V0 (Proc.devRef .tc main_arg14)) (V0 (Proc.devRef .tc main_arg15)) (V0 (Proc.devRef .tc main_arg16)) := rfl

end Cert.ReferenceIdeal.ConvR

end
-- ==== Proof.GraphR.lean ====
module

public import proofs.«01_k».proof.Proof.Gen.ReferenceIdeal.Run
public import proofs.«01_k».proof.Proof.Net
public import proofs.«01_k».proof.Proof.Rows
public import proofs.«01_k».proof.Proof.ConvR
public import Idealize.ShloMosaic.Lib.Pointwise

@[expose] public section

set_option maxRecDepth 16384

noncomputable section

namespace Cert.ReferenceIdeal.GraphR

open Idealize.ShloMosaic Idealize.ShloMosaic.TcCoe Idealize.SL.Sem
open Cert.ReferenceIdeal Cert.ReferenceIdeal.Gen Cert.ReferenceIdeal.Value

/-- The ends of the edges as a column. -/
def col (e : IVec S262144 32) : IVec S262144x1 32 := broadcastInDim S262144x1 ![0] bcast_S262144_S262144x1_0 e

/-- The ends with negative numbers counted from the last node. -/
def wrap (e : IVec S262144 32) : IVec S262144 32 :=
  select (cmpi .slt e (broadcastInDim S262144 ![] bcast_S_S262144 (constantI S_ 32 0#32)))
    (addi e (broadcastInDim S262144 ![] bcast_S_S262144 (constantI S_ 32 16384#32))) e

/-- One over the root of each node's number of edges. -/
def inv (e : IVec S262144 32) : FVec Ideal S16384x1 .f32 :=
  broadcastInDim S16384x1 ![0] bcast_S16384_S16384x1_0 (Host.rsqrt (maximumf (Host.scatterAdd scatter_S16384_S262144x1_S262144_n_0_0_1
    (broadcastInDim S16384 ![] bcast_S_S16384 (constant (F := Ideal) S_ .f32 0x00000000#32)) (col e)
    (broadcastInDim S262144 ![] bcast_S_S262144 (constant (F := Ideal) S_ .f32 0x3F800000#32)))
    (broadcastInDim S16384 ![] bcast_S_S16384 (constant (F := Ideal) S_ .f32 0x3F800000#32))))

/-- The rows to send, 128 numbers each. -/
def send128 (x : FVec Ideal S16384x128 .f32) (w : FVec Ideal S128x128 .f32) (s : IVec S262144 32) : FVec Ideal S16384x128 .f32 :=
  mulf (Host.dotGeneral dot_S16384x128_S128x128_S16384x128_1_0_0_1_n_n none x w) (broadcastInDim S16384x128 ![0, 1] bcast_S16384x1_S16384x128_0_1 (inv s))

/-- A layer of 128 numbers a node. -/
def lay128 (x : FVec Ideal S16384x128 .f32) (w : FVec Ideal S128x128 .f32) (s d : IVec S262144 32) : FVec Ideal S16384x128 .f32 :=
  mulf (Host.scatterAdd scatter_S16384x128_S262144x1_S262144x128_1_0_0_1 (broadcastInDim S16384x128 ![] bcast_S_S16384x128 (constant (F := Ideal) S_ .f32 0x00000000#32))
    (col d) (Host.gather gather_S16384x128_S262144x1_S262144x128_1_0_n_n_0_1_1128 (send128 x w s) (col (wrap s))))
    (broadcastInDim S16384x128 ![0, 1] bcast_S16384x1_S16384x128_0_1 (inv d))

/-- The rows to send, 64 numbers each. -/
def send64 (x : FVec Ideal S16384x128 .f32) (w : FVec Ideal S128x64 .f32) (s : IVec S262144 32) : FVec Ideal S16384x64 .f32 :=
  mulf (Host.dotGeneral dot_S16384x128_S128x64_S16384x64_1_0_0_1_n_n none x w) (broadcastInDim S16384x64 ![0, 1] bcast_S16384x1_S16384x64_0_1 (inv s))

/-- A layer from 128 numbers a node to 64. -/
def lay64 (x : FVec Ideal S16384x128 .f32) (w : FVec Ideal S128x64 .f32) (s d : IVec S262144 32) : FVec Ideal S16384x64 .f32 :=
  mulf (Host.scatterAdd scatter_S16384x64_S262144x1_S262144x64_1_0_0_1 (broadcastInDim S16384x64 ![] bcast_S_S16384x64 (constant (F := Ideal) S_ .f32 0x00000000#32))
    (col d) (Host.gather gather_S16384x64_S262144x1_S262144x64_1_0_n_n_0_1_164 (send64 x w s) (col (wrap s))))
    (broadcastInDim S16384x64 ![0, 1] bcast_S16384x1_S16384x64_0_1 (inv d))

/-- The negative numbers cut off. -/
def relu (y : FVec Ideal S16384x128 .f32) : FVec Ideal S16384x128 .f32 :=
  maximumf y (broadcastInDim S16384x128 ![] bcast_S_S16384x128 (constant (F := Ideal) S_ .f32 0x00000000#32))

/-- The three layers on all the graphs. -/
def net (x : FVec Ideal S16384x128 .f32) (s d : IVec S262144 32) (w1 w2 : FVec Ideal S128x128 .f32) (w3 : FVec Ideal S128x64 .f32) : FVec Ideal S16384x64 .f32 :=
  Host.tanh (lay64 (relu (lay128 (relu (lay128 x w1 s d)) w2 s d)) w3 s d)

theorem v63_eq (V0 : Valuation τ sig (Elt Ideal)) : res_main_v63 V0 = net (V0 (Proc.devRef .tc main_arg0)) (V0 (Proc.devRef .tc main_arg1)) (V0 (Proc.devRef .tc main_arg2))
    (V0 (Proc.devRef .tc main_arg8)) (V0 (Proc.devRef .tc main_arg9)) (V0 (Proc.devRef .tc main_arg10)) := rfl

theorem v237_eq (V0 : Valuation τ sig (Elt Ideal)) : res_main_v237 V0 = net (V0 (Proc.devRef .tc main_arg4)) (V0 (Proc.devRef .tc main_arg5)) (V0 (Proc.devRef .tc main_arg6))
    (V0 (Proc.devRef .tc main_arg8)) (V0 (Proc.devRef .tc main_arg9)) (V0 (Proc.devRef .tc main_arg10)) := rfl

/-- The edges listed graph by graph, each joining two nodes of its own graph: `S b e` is the end of edge `e` of graph `b`. -/
def Ends (s : IVec S262144 32) (S : Fin 32 → Fin 8192 → Fin 512) : Prop :=
  ∀ (b : Fin 32) (e : Fin 8192), s (ix1 ⟨b * 8192 + e, by omega⟩) = BitVec.ofNat 32 (b * 512 + S b e)

theorem toInt_ofNat (k : ℕ) (h : k < 16384) : (BitVec.ofNat 32 k).toInt = k := by
  rw [BitVec.toInt_eq_toNat_of_lt] <;> rw [BitVec.toNat_ofNat] <;> omega

theorem col_apply (e : IVec S262144 32) (k : Fin 262144) : col e (ix2 k 0) = e (ix1 k) := by pointwise [col]

theorem wrap_apply (s : IVec S262144 32) (S : Fin 32 → Fin 8192 → Fin 512) (h : Ends s S) (b : Fin 32) (e : Fin 8192) :
    wrap s (ix1 ⟨b * 8192 + e, by omega⟩) = BitVec.ofNat 32 (b * 512 + S b e) := by
  have q : ∀ k, wrap s (ix1 k) = if (s (ix1 k)).slt 0#32 then s (ix1 k) + 16384#32 else s (ix1 k) := fun k => by
    have t : ∀ (p : Bool) (x y : BitVec 32), Scalar.select (BitVec.ofBool p) x y = if p then x else y := fun p x y => by cases p <;> rfl
    pointwise [wrap]
    exact t _ _ _
  rw [q, h b e, if_neg]
  rw [BitVec.slt, toInt_ofNat _ (by omega), BitVec.toInt_zero, decide_eq_true_eq]
  omega

/-- A sum over all the edges with an end in graph `b` runs over graph `b`'s edges. -/
theorem sum_edges (s : IVec S262144 32) (S : Fin 32 → Fin 8192 → Fin 512) (h : Ends s S) (b : Fin 32) (n : Fin 512) (u : Fin 262144 → EReal) :
    (∑ e : Fin 262144, if (col s (ix2 e 0)).toInt = ((b * 512 + n : ℕ) : ℤ) then u e else 0) = ∑ e : Fin 8192, if S b e = n then u ⟨b * 8192 + e, by omega⟩ else 0 := by
  rw [Fin.sum_univ_tiles 32 8192 rfl, Finset.sum_eq_single b]
  · refine Finset.sum_congr rfl fun e _ => if_congr ?_ rfl rfl
    rw [col_apply, h b e, toInt_ofNat _ (by omega), Fin.ext_iff]
    omega
  · intro b' _ hb
    refine Finset.sum_eq_zero fun e _ => if_neg ?_
    rw [col_apply, h b' e, toInt_ofNat _ (by omega)]
    have : b'.val ≠ b.val := fun h => hb (Fin.ext h)
    omega
  · simp

theorem inv_apply (s : IVec S262144 32) (S : Fin 32 → Fin 8192 → Fin 512) (h : Ends s S) (b : Fin 32) (n : Fin 512) :
    inv s (ix2 ⟨b * 512 + n, by omega⟩ 0) = Net.scale (S b) n := by
  have q : ∀ k, inv s (ix2 k 0) = Ideal.rsqrt (max (Host.scatterAdd scatter_S16384_S262144x1_S262144_n_0_0_1
    (broadcastInDim S16384 ![] bcast_S_S16384 (constant (F := Ideal) S_ .f32 0x00000000#32)) (col s)
    (broadcastInDim S262144 ![] bcast_S_S262144 (constant (F := Ideal) S_ .f32 0x3F800000#32)) (ix1 k)) 1) := fun k => by
    pointwise [inv]
  rw [q, Rows.scatter_list _ rfl rfl rfl rfl]
  have z : ∀ k, broadcastInDim S16384 ![] bcast_S_S16384 (constant (F := Ideal) S_ .f32 0x00000000#32) (ix1 k) = (0 : EReal) := fun k => by pointwise
  have o : ∀ k, broadcastInDim S262144 ![] bcast_S_S262144 (constant (F := Ideal) S_ .f32 0x3F800000#32) (ix1 k) = (1 : EReal) := fun k => by pointwise
  simp only [z, o]
  rw [zero_add, sum_edges s S h b n (fun _ => 1)]
  rfl

theorem send128_apply (x : FVec Ideal S16384x128 .f32) (w : FVec Ideal S128x128 .f32) (s : IVec S262144 32) (n : Fin 16384) (c : Fin 128) :
    send128 x w s (ix2 n c) = ((∑ k : Fin 128, x (ix2 n k) * w (ix2 k c)) * inv s (ix2 n 0) : EReal) := by
  pointwise [send128]

theorem send64_apply (x : FVec Ideal S16384x128 .f32) (w : FVec Ideal S128x64 .f32) (s : IVec S262144 32) (n : Fin 16384) (c : Fin 64) :
    send64 x w s (ix2 n c) = ((∑ k : Fin 128, x (ix2 n k) * w (ix2 k c)) * inv s (ix2 n 0) : EReal) := by
  pointwise [send64]

theorem relu_apply (y : FVec Ideal S16384x128 .f32) (n : Fin 16384) (c : Fin 128) : relu y (ix2 n c) = (max (y (ix2 n c)) 0 : EReal) := by
  pointwise [relu]

theorem lay128_apply (x : FVec Ideal S16384x128 .f32) (w : FVec Ideal S128x128 .f32) (s d : IVec S262144 32) (S D : Fin 32 → Fin 8192 → Fin 512)
    (hs : Ends s S) (hd : Ends d D) (b : Fin 32) (n : Fin 512) (c : Fin 128) :
    lay128 x w s d (ix2 ⟨b * 512 + n, by omega⟩ c)
      = Net.layer (S b) (D b) (fun n k => x (ix2 ⟨b * 512 + n, by omega⟩ k)) (fun k c => w (ix2 k c)) n c := by
  have q : ∀ n, lay128 x w s d (ix2 n c) = (Host.scatterAdd scatter_S16384x128_S262144x1_S262144x128_1_0_0_1 (broadcastInDim S16384x128 ![] bcast_S_S16384x128 (constant (F := Ideal) S_ .f32 0x00000000#32))
    (col d) (Host.gather gather_S16384x128_S262144x1_S262144x128_1_0_n_n_0_1_1128 (send128 x w s) (col (wrap s))) (ix2 n c) * inv d (ix2 n 0) : EReal) := fun n => by
    pointwise [lay128]
  rw [q, inv_apply d D hd, Rows.scatter_rows _ rfl rfl rfl rfl]
  have z : ∀ k, broadcastInDim S16384x128 ![] bcast_S_S16384x128 (constant (F := Ideal) S_ .f32 0x00000000#32) (ix2 k c) = (0 : EReal) := fun k => by pointwise
  rw [z, zero_add, sum_edges d D hd]
  unfold Net.layer Net.conv
  congr 1
  refine Finset.sum_congr rfl fun e _ => if_congr Iff.rfl ?_ rfl
  rw [Rows.gather_rows (by norm_num) _ rfl rfl rfl rfl rfl rfl rfl]
  have hk : (⟨min (col (wrap s) (ix2 ⟨b * 8192 + e, by omega⟩ 0)).toInt.toNat (16384 - 1), by omega⟩ : Fin 16384) = ⟨b * 512 + S b e, by omega⟩ := by
    refine Fin.ext ?_
    dsimp only
    rw [col_apply, wrap_apply s S hs, toInt_ofNat _ (by omega)]
    omega
  rw [hk, send128_apply, inv_apply s S hs]

theorem lay64_apply (x : FVec Ideal S16384x128 .f32) (w : FVec Ideal S128x64 .f32) (s d : IVec S262144 32) (S D : Fin 32 → Fin 8192 → Fin 512)
    (hs : Ends s S) (hd : Ends d D) (b : Fin 32) (n : Fin 512) (c : Fin 64) :
    lay64 x w s d (ix2 ⟨b * 512 + n, by omega⟩ c)
      = Net.layer (S b) (D b) (fun n k => x (ix2 ⟨b * 512 + n, by omega⟩ k)) (fun k c => w (ix2 k c)) n c := by
  have q : ∀ n, lay64 x w s d (ix2 n c) = (Host.scatterAdd scatter_S16384x64_S262144x1_S262144x64_1_0_0_1 (broadcastInDim S16384x64 ![] bcast_S_S16384x64 (constant (F := Ideal) S_ .f32 0x00000000#32))
    (col d) (Host.gather gather_S16384x64_S262144x1_S262144x64_1_0_n_n_0_1_164 (send64 x w s) (col (wrap s))) (ix2 n c) * inv d (ix2 n 0) : EReal) := fun n => by
    pointwise [lay64]
  rw [q, inv_apply d D hd, Rows.scatter_rows _ rfl rfl rfl rfl]
  have z : ∀ k, broadcastInDim S16384x64 ![] bcast_S_S16384x64 (constant (F := Ideal) S_ .f32 0x00000000#32) (ix2 k c) = (0 : EReal) := fun k => by pointwise
  rw [z, zero_add, sum_edges d D hd]
  unfold Net.layer Net.conv
  congr 1
  refine Finset.sum_congr rfl fun e _ => if_congr Iff.rfl ?_ rfl
  rw [Rows.gather_rows (by norm_num) _ rfl rfl rfl rfl rfl rfl rfl]
  have hk : (⟨min (col (wrap s) (ix2 ⟨b * 8192 + e, by omega⟩ 0)).toInt.toNat (16384 - 1), by omega⟩ : Fin 16384) = ⟨b * 512 + S b e, by omega⟩ := by
    refine Fin.ext ?_
    dsimp only
    rw [col_apply, wrap_apply s S hs, toInt_ofNat _ (by omega)]
    omega
  rw [hk, send64_apply, inv_apply s S hs]

theorem tanh_apply {s : Shape} (y : FVec Ideal s .f32) (k : s.Idx) : Host.tanh y k = Ideal.tanh (y k) := rfl

/-- The layers on all the graphs, at a node of graph `b`, are the network of graph `b`'s edges. -/
theorem net_apply (x : FVec Ideal S16384x128 .f32) (s d : IVec S262144 32) (w1 w2 : FVec Ideal S128x128 .f32) (w3 : FVec Ideal S128x64 .f32)
    (S D : Fin 32 → Fin 8192 → Fin 512) (hs : Ends s S) (hd : Ends d D) (b : Fin 32) (n : Fin 512) (c : Fin 64) :
    net x s d w1 w2 w3 (ix2 ⟨b * 512 + n, by omega⟩ c)
      = Net.net (S b) (D b) (fun n k => x (ix2 ⟨b * 512 + n, by omega⟩ k)) (fun k c => w1 (ix2 k c)) (fun k c => w2 (ix2 k c)) (fun k c => w3 (ix2 k c)) n c := by
  rw [net, tanh_apply]
  unfold Net.net
  simp only [lay64_apply _ _ s d S D hs hd b, relu_apply, lay128_apply _ _ s d S D hs hd b]

end Cert.ReferenceIdeal.GraphR

end
-- ==== Proof.Pre.lean ====
module

public import proofs.«01_k».proof.Defs
public import proofs.«01_k».proof.Proof.Gen.Pre_in_range
public import proofs.«01_k».proof.Proof.GraphR
public import Idealize.ShloMosaic.Lib.Pointwise
public import Idealize.ShloMosaic.Lib.StableHlo.Predicate

@[expose] public section

set_option maxRecDepth 16384

noncomputable section

namespace Cert.Pre

open Idealize.ShloMosaic Idealize.ShloMosaic.TcCoe Idealize.SL.Sem
open Cert.Pre_in_range Cert.Pre_in_range.Gen
open Cert.ReferenceIdeal.GraphR (Ends)

/-- The number of the first node of every graph. -/
def base : IVec S32x1 32 := broadcastInDim S32x1 ![0] bcast_S32_S32x1_0 (muli (iotaInDim S32 32 0) (broadcastInDim S32 ![] bcast_S_S32 (constantI S_ 32 512#32)))

/-- One bit per edge: whether its end is a node of the edge's own graph. -/
def own (e : IVec S262144 32) : IVec S262144 1 :=
  shapeCast S262144 (andi (cmpi .sge (shapeCast S32x8192 e shapeCasts_S262144_S32x8192) (broadcastInDim S32x8192 ![0, 1] bcast_S32x1_S32x8192_0_1 base))
    (cmpi .slt (shapeCast S32x8192 e shapeCasts_S262144_S32x8192)
      (broadcastInDim S32x8192 ![0, 1] bcast_S32x1_S32x8192_0_1 (addi base (broadcastInDim S32x1 ![] bcast_S_S32x1 (constantI S_ 32 512#32))))))
    shapeCasts_S32x8192_S262144

/-- One bit per cell: whether it holds −1 or the number of a node. -/
def cell (mp : IVec S32x64x64 32) : IVec S32x64x64 1 :=
  andi (cmpi .sge mp (broadcastInDim S32x64x64 ![] bcast_S_S32x64x64 (constantI S_ 32 4294967295#32)))
    (cmpi .slt mp (broadcastInDim S32x64x64 ![] bcast_S_S32x64x64 (constantI S_ 32 512#32)))

/-- One bit per image: whether its first cell holds node 0. -/
def corner (mp : IVec S32x64x64 32) : IVec S32 1 :=
  cmpi .eq (shapeCast S32 (extractStridedSlice S32x1x1 ![0, 0, 0] mp slices_S32x64x64_S32x1x1_0_0_0) shapeCasts_S32x1x1_S32)
    (broadcastInDim S32 ![] bcast_S_S32 (constantI S_ 32 0#32))

theorem bits2 (p q : Bool) (h : BitVec.ofBool p &&& BitVec.ofBool q = 1#1) : p = true ∧ q = true := by
  revert h; cases p <;> cases q <;> decide

theorem between (x : BitVec 32) (b : Fin 32) (h1 : (BitVec.ofNat 32 b * 512#32).sle x = true) (h2 : x.slt (BitVec.ofNat 32 b * 512#32 + 512#32) = true) :
    b * 512 ≤ x.toNat ∧ x.toNat < b * 512 + 512 := by
  have q : BitVec.ofNat 32 b * 512#32 = BitVec.ofNat 32 (b * 512) := by
    refine BitVec.eq_of_toNat_eq ?_
    simp only [BitVec.toNat_mul, BitVec.toNat_ofNat]
    omega
  have q' : BitVec.ofNat 32 b * 512#32 + 512#32 = BitVec.ofNat 32 (b * 512 + 512) := by
    refine BitVec.eq_of_toNat_eq ?_
    simp only [BitVec.toNat_add, BitVec.toNat_mul, BitVec.toNat_ofNat]
    omega
  rw [q'] at h2
  rw [q] at h1
  simp only [BitVec.sle, BitVec.slt, StableHlo.Predicate.toInt_ofNat_small _ (show b.val * 512 < 2 ^ 31 by omega),
    StableHlo.Predicate.toInt_ofNat_small _ (show b.val * 512 + 512 < 2 ^ 31 by omega), decide_eq_true_eq] at h1 h2
  have hx := x.isLt
  have := BitVec.toInt_eq_toNat_cond x
  split at this <;> omega

/-- If every edge's end is a node of its own graph, the ends are the numbers of nodes within the graphs. -/
theorem ends (e : IVec S262144 32) (h : own e = fun _ => 1#1) : ∃ S, Ends e S := by
  have hb : ∀ (b : Fin 32) (k : Fin 8192), b * 512 ≤ (e (ix1 ⟨b * 8192 + k, by omega⟩)).toNat ∧ (e (ix1 ⟨b * 8192 + k, by omega⟩)).toNat < b * 512 + 512 := fun b k => by
    have q : own e (ix1 ⟨b * 8192 + k, by omega⟩) = BitVec.ofBool ((BitVec.ofNat 32 b * 512#32).sle (e (ix1 ⟨b * 8192 + k, by omega⟩)))
        &&& BitVec.ofBool ((e (ix1 ⟨b * 8192 + k, by omega⟩)).slt (BitVec.ofNat 32 b * 512#32 + 512#32)) := by
      pointwise [own, base]
      rfl
    obtain ⟨h1, h2⟩ := bits2 _ _ (q.symm.trans (congrFun h _))
    exact between _ b h1 h2
  refine ⟨fun b k => ⟨(e (ix1 ⟨b * 8192 + k, by omega⟩)).toNat - b * 512, by have := hb b k; omega⟩, fun b k => ?_⟩
  have := hb b k
  refine BitVec.eq_of_toNat_eq ?_
  rw [BitVec.toNat_ofNat]
  dsimp only
  omega

theorem cell_one (x : BitVec 32) (h1 : (4294967295#32).sle x = true) (h2 : x.slt 512#32 = true) : x = -1#32 ∨ ∃ n : Fin 512, x = BitVec.ofNat 32 n := by
  simp only [BitVec.sle, BitVec.slt, StableHlo.Predicate.toInt_ofNat_small 512 (by omega), decide_eq_true_eq] at h1 h2
  rw [show (4294967295#32 : BitVec 32).toInt = -1 from by decide] at h1
  have := BitVec.toInt_eq_toNat_cond x
  have := x.isLt
  by_cases hx : x.toNat < 512
  · exact Or.inr ⟨⟨x.toNat, hx⟩, by rw [BitVec.ofNat_toNat, BitVec.setWidth_eq]⟩
  · left
    refine BitVec.eq_of_toNat_eq ?_
    rw [show (-1#32 : BitVec 32).toNat = 4294967295 from by decide]
    split at * <;> omega

/-- Every cell of the map holds −1 or the number of a node. -/
theorem cells (mp : IVec S32x64x64 32) (h : cell mp = fun _ => 1#1) (b : Fin 32) (i j : Fin 64) :
    mp (ix3 b i j) = -1#32 ∨ ∃ n : Fin 512, mp (ix3 b i j) = BitVec.ofNat 32 n := by
  have q : cell mp (ix3 b i j) = BitVec.ofBool ((4294967295#32).sle (mp (ix3 b i j))) &&& BitVec.ofBool ((mp (ix3 b i j)).slt 512#32) := by
    pointwise [cell]
    rfl
  obtain ⟨h1, h2⟩ := bits2 _ _ (q.symm.trans (congrFun h _))
  exact cell_one _ h1 h2

/-- The first cell of every image holds node 0. -/
theorem corners (mp : IVec S32x64x64 32) (h : corner mp = fun _ => 1#1) (b : Fin 32) : mp (ix3 b 0 0) = 0#32 := by
  have q : corner mp (ix1 b) = IntOp.cmpi .eq (mp (ix3 b 0 0)) 0#32 := by
    pointwise [corner]
    try rfl
  exact StableHlo.Predicate.cmpi_eq_iff.mp (q.symm.trans (congrFun h _))

open Cert.KernelIdeal in
/-- What the precondition says of the arguments on one device. -/
theorem of_pre (m : (ℓ : Loc nD τ sig) → Buf (Elt Ideal) ℓ) (h : Cert.Pre_KernelIdeal_in_range m) (c : Dev nD) :
    (∃ S, Ends (m ((c : Thread nD τ).loc main_arg1)) S) ∧ (∃ S, Ends (m ((c : Thread nD τ).loc main_arg2)) S)
    ∧ (∃ S, Ends (m ((c : Thread nD τ).loc main_arg5)) S) ∧ (∃ S, Ends (m ((c : Thread nD τ).loc main_arg6)) S)
    ∧ cell (m ((c : Thread nD τ).loc main_arg3)) = (fun _ => 1#1) ∧ cell (m ((c : Thread nD τ).loc main_arg7)) = (fun _ => 1#1)
    ∧ corner (m ((c : Thread nD τ).loc main_arg3)) = (fun _ => 1#1) ∧ corner (m ((c : Thread nD τ).loc main_arg7)) = (fun _ => 1#1) := by
  obtain ⟨h1, h2, h3, h4, h5, h6, h7, h8⟩ := h c
  exact ⟨ends _ h1, ends _ h2, ends _ h3, ends _ h4, h5, h6, h7, h8⟩

end Cert.Pre

end
-- ==== Proof.RepR.lean ====
module

public import proofs.«01_k».proof.Proof.ConvR
public import proofs.«01_k».proof.Proof.Rows
public import Idealize.ShloMosaic.Lib.Pointwise

@[expose] public section

set_option maxRecDepth 16384

noncomputable section

namespace Cert.ReferenceIdeal.RepR

open Idealize.ShloMosaic Idealize.ShloMosaic.TcCoe Idealize.SL.Sem
open Cert.ReferenceIdeal Cert.ReferenceIdeal.Gen Cert.ReferenceIdeal.Value

/-- The node a cell of the map shows, numbered over all the graphs. -/
def gid (mp : IVec S32x64x64 32) : IVec S32x64x64 32 := addi (broadcastInDim S32x64x64 ![0, 1, 2] bcast_S32x1x1_S32x64x64_0_1_2 (broadcastInDim S32x1x1 ![0] bcast_S32_S32x1x1_0 (muli (iotaInDim S32 32 0) (broadcastInDim S32 ![] bcast_S_S32 (constantI S_ 32 512#32)))))
    (maxsi mp (broadcastInDim S32x64x64 ![] bcast_S_S32x64x64 (constantI S_ 32 0#32)))

/-- The same with negative numbers counted from the last node, as a column. -/
def gidx (mp : IVec S32x64x64 32) : IVec S32x64x64x1 32 := broadcastInDim S32x64x64x1 ![0, 1, 2] bcast_S32x64x64_S32x64x64x1_0_1_2
        (select (cmpi .slt (gid mp) (broadcastInDim S32x64x64 ![] bcast_S_S32x64x64 (constantI S_ 32 0#32)))
          (addi (gid mp) (broadcastInDim S32x64x64 ![] bcast_S_S32x64x64 (constantI S_ 32 16384#32))) (gid mp))

/-- The rows the map's cells take. -/
def rows (g : FVec Ideal S16384x64 .f32) (mp : IVec S32x64x64 32) : FVec Ideal S32x64x64x64 .f32 :=
  Host.gather gather_S16384x64_S32x64x64x1_S32x64x64x64_3_0_n_n_0_3_164 g (gidx mp)

/-- The rows on the cells that show a node, none elsewhere. -/
def pick (r : FVec Ideal S32x64x64x64 .f32) (mp : IVec S32x64x64 32) : FVec Ideal S32x64x64x64 .f32 :=
  transpose S32x64x64x64 [0, 3, 1, 2] (select (broadcastInDim S32x64x64x64 ![0, 1, 2, 3] bcast_S32x64x64x1_S32x64x64x64_0_1_2_3
      (broadcastInDim S32x64x64x1 ![0, 1, 2] bcast_S32x64x64_S32x64x64x1_0_1_2 (cmpi .sge mp (broadcastInDim S32x64x64 ![] bcast_S_S32x64x64 (constantI S_ 32 0#32)))))
    r (broadcastInDim S32x64x64x64 ![] bcast_S_S32x64x64x64 (id (constant S_ .f32 0x00000000#32)))) transposes_S32x64x64x64_S32x64x64x64_0_3_1_2

theorem rep_eq (g : FVec Ideal S16384x64 .f32) (mp : IVec S32x64x64 32) : ConvR.rep g mp = pick (rows g mp) mp := rfl

theorem toInt_ofNat (k : ℕ) (h : k < 16384) : (BitVec.ofNat 32 k).toInt = k := by
  rw [BitVec.toInt_eq_toNat_of_lt] <;> rw [BitVec.toNat_ofNat] <;> omega

theorem gidx_apply (mp : IVec S32x64x64 32) (n : Fin 32) (i j : Fin 64) (k : Fin 512) (h : mp (ix3 n i j) = BitVec.ofNat 32 k) :
    gidx mp (ix4 n i j 0) = BitVec.ofNat 32 (n * 512 + k) := by
  have t : ∀ (p : Bool) (x y : BitVec 32), Scalar.select (BitVec.ofBool p) x y = if p then x else y := fun p x y => by cases p <;> rfl
  have q : gid mp (ix3 n i j) = BitVec.ofNat 32 (n * 512 + k) := by
    have q : gid mp (ix3 n i j) = BitVec.ofNat 32 n * 512#32 + IntOp.maxsi (mp (ix3 n i j)) 0#32 := by
      pointwise [gid]
      rfl
    have z : IntOp.maxsi (BitVec.ofNat 32 k) 0#32 = BitVec.ofNat 32 k := by
      rw [IntOp.maxsi, BitVec.slt, toInt_ofNat k (by omega), BitVec.toInt_zero]
      by_cases hk : (0 : ℤ) < (k.val : ℤ)
      · rw [if_pos (by rw [decide_eq_true_eq]; exact hk)]
      · rw [if_neg (by rw [decide_eq_true_eq]; exact hk), show k.val = 0 by omega]
    rw [q, h, z]
    refine BitVec.eq_of_toNat_eq ?_
    simp only [BitVec.toNat_add, BitVec.toNat_mul, BitVec.toNat_ofNat]
    omega
  have q' : gidx mp (ix4 n i j 0) = if (gid mp (ix3 n i j)).slt 0#32 then gid mp (ix3 n i j) + 16384#32 else gid mp (ix3 n i j) := by
    pointwise [gidx]
    exact t _ _ _
  rw [q', q, if_neg]
  rw [BitVec.slt, toInt_ofNat _ (by omega), BitVec.toInt_zero, decide_eq_true_eq]
  omega

theorem pick_apply (r : FVec Ideal S32x64x64x64 .f32) (mp : IVec S32x64x64 32) (n : Fin 32) (c i j : Fin 64) :
    pick r mp (ix4 n c i j) = (if (0#32).sle (mp (ix3 n i j)) then r (ix4 n i j c) else 0 : EReal) := by
  have t : ∀ (p : Bool) (x y : EReal), Scalar.select (BitVec.ofBool p) x y = if p then x else y := fun p x y => by cases p <;> rfl
  pointwise [pick]
  exact (t _ _ _).trans (if_congr Iff.rfl rfl (show constant (F := Ideal) S_ .f32 0x00000000#32 ix0 = (0 : EReal) by pointwise))

/-- A cell that shows node `k` of its graph takes that node's row. -/
theorem rep_node (g : FVec Ideal S16384x64 .f32) (mp : IVec S32x64x64 32) (n : Fin 32) (c i j : Fin 64) (k : Fin 512) (h : mp (ix3 n i j) = BitVec.ofNat 32 k) :
    ConvR.rep g mp (ix4 n c i j) = g (ix2 ⟨n * 512 + k, by omega⟩ c) := by
  rw [rep_eq, pick_apply, if_pos]
  · rw [rows, Rows.gather_box (by norm_num) _ rfl rfl rfl rfl rfl rfl rfl]
    congr 2
    refine Fin.ext ?_
    dsimp only
    rw [gidx_apply mp n i j k h, toInt_ofNat _ (by omega)]
    omega
  · rw [h, BitVec.sle, toInt_ofNat k (by omega), BitVec.toInt_zero, decide_eq_true_eq]
    omega

/-- A cell that shows no node holds zeros. -/
theorem rep_none (g : FVec Ideal S16384x64 .f32) (mp : IVec S32x64x64 32) (n : Fin 32) (c i j : Fin 64) (h : mp (ix3 n i j) = -1#32) :
    ConvR.rep g mp (ix4 n c i j) = (0 : EReal) := by
  rw [rep_eq, pick_apply, h, if_neg (by decide)]

end Cert.ReferenceIdeal.RepR

end
-- ==== Proof.GraphK.lean ====
module

public import proofs.«01_k».proof.Proof.Gen.KernelIdeal.Skeleton
public import proofs.«01_k».proof.Proof.Net
public import Idealize.ShloMosaic.Lib.Pointwise

@[expose] public section

set_option maxRecDepth 16384

noncomputable section

namespace Cert.KernelIdeal.GraphK

open Idealize.ShloMosaic Idealize.ShloMosaic.TcCoe Idealize.SL.Sem
open Cert.KernelIdeal Cert.KernelIdeal.Gen Cert.Net

/-- The 0/1 matrix of one run of 2048 numbers: row `n` marks where the number is `n`. -/
def marks (v : Vec Ideal S1x1x2048 .i32) : FVec Ideal S512x2048 .bf16 :=
  select (cmpi .eq (iota .tc S512x2048 16 [0] iota_S512x2048_d0_w16)
      (broadcastTo S512x2048 (trunci 16 (shapeCast S1x2048 v shapeCasts_S1x1x2048_S1x2048) natLt_16_32) broadcasts_S1x2048_S512x2048))
    (broadcast S512x2048 (Scalar.ofBits .bf16 0x3F80#16 : Ideal .bf16)) (broadcast S512x2048 (Scalar.ofBits .bf16 0x0000#16 : Ideal .bf16))

/-- The counts of one run of edges, from its ends' 0/1 matrices. -/
def pairs (s d : Vec Ideal S1x1x2048 .i32) : FVec Ideal S512x512 .f32 :=
  matmul dot_S512x2048_S512x2048_S512x512_1_1_0_0_n_n none (truncf .fp8e4m3 (marks d) bitsLt_fp8e4m3_bf16)
    (truncf .fp8e4m3 (marks s) bitsLt_fp8e4m3_bf16) (constant S512x512 .f32 0x00000000#32)

/-- The counts of four runs of edges. -/
def adj (s0 s1 s2 s3 d0 d1 d2 d3 : Vec Ideal S1x1x2048 .i32) : FVec Ideal S512x512 .f32 :=
  addf (addf (addf (addf (broadcast S512x512 (Scalar.ofBits .f32 0x00000000#32 : Ideal .f32)) (pairs s0 d0)) (pairs s1 d1)) (pairs s2 d2)) (pairs s3 d3)

/-- The counts scaled by the roots of the row sums and the column sums. -/
def norm (a : FVec Ideal S512x512 .f32) : FVec Ideal S512x512 .bf16 :=
  truncf .bf16 (mulf (mulf a (broadcastTo S512x512 (rsqrt (maximumf
      (shapeCast S512x1 (multiReduction .add [1] S512 a 0x00000000#32 reduces_S512x512_S512 (.inl rfl) rfl) shapeCasts_S512_S512x1)
      (broadcast S512x1 (Scalar.ofBits .f32 0x3F800000#32 : Ideal .f32)))) broadcasts_S512x1_S512x512))
    (broadcastTo S512x512 (rsqrt (maximumf
      (shapeCast S1x512 (multiReduction .add [0] S512 a 0x00000000#32 reduces_S512x512_S512_2 (.inl rfl) rfl) shapeCasts_S512_S1x512)
      (broadcast S1x512 (Scalar.ofBits .f32 0x3F800000#32 : Ideal .f32)))) broadcasts_S1x512_S512x512)) bitsLt_bf16_f32

/-- A layer of 128 numbers a node, before its nonlinearity. -/
def lay128 (n : FVec Ideal S512x512 .bf16) (x : FVec Ideal S512x128 .f32) (w : FVec Ideal S128x128 .f32) : FVec Ideal S512x128 .f32 :=
  matmul dot_S512x512_S512x128_S512x128_1_0_0_1_n_n none n
    (truncf .bf16 (matmul dot_S512x128_S128x128_S512x128_1_0_0_1_n_n none (truncf .bf16 x bitsLt_bf16_f32) (truncf .bf16 w bitsLt_bf16_f32)
      (constant S512x128 .f32 0x00000000#32)) bitsLt_bf16_f32) (constant S512x128 .f32 0x00000000#32)

/-- A layer from 128 numbers a node to 64, before its nonlinearity. -/
def lay64 (n : FVec Ideal S512x512 .bf16) (x : FVec Ideal S512x128 .f32) (w : FVec Ideal S128x64 .f32) : FVec Ideal S512x64 .f32 :=
  matmul dot_S512x512_S512x64_S512x64_1_0_0_1_n_n none n
    (truncf .bf16 (matmul dot_S512x128_S128x64_S512x64_1_0_0_1_n_n none (truncf .bf16 x bitsLt_bf16_f32) (truncf .bf16 w bitsLt_bf16_f32)
      (constant S512x64 .f32 0x00000000#32)) bitsLt_bf16_f32) (constant S512x64 .f32 0x00000000#32)

/-- The negative numbers cut off. -/
def relu128 (y : FVec Ideal S512x128 .f32) : FVec Ideal S512x128 .f32 :=
  maximumf y (broadcast S512x128 (Scalar.ofBits .f32 0x00000000#32 : Ideal .f32))

/-- The three layers on one graph. -/
def net (n : FVec Ideal S512x512 .bf16) (x : Vec Ideal S1x512x128 .f32) (w1 w2 : FVec Ideal S128x128 .f32) (w3 : FVec Ideal S128x64 .f32) :
    FVec Ideal S512x64 .f32 :=
  tanh (lay64 n (relu128 (lay128 n (relu128 (lay128 n (shapeCast S512x128 x shapeCasts_S1x512x128_S512x128) w1)) w2)) w3)

/-- Nodes' rows laid on one run of 2048 cells. -/
def cells (g : FVec Ideal S512x64 .f32) (m : Vec Ideal S1x1x2048 .i32) : FVec Ideal S1x2048x64 .bf16 :=
  shapeCast S1x2048x64 (truncf .bf16 (matmul dot_S512x2048_S512x64_S2048x64_0_0_1_1_n_n none (marks m) (truncf .bf16 g bitsLt_bf16_f32)
    (constant S2048x64 .f32 0x00000000#32)) bitsLt_bf16_f32) shapeCasts_S2048x64_S1x2048x64

theorem marks_apply (v : Vec Ideal S1x1x2048 .i32) (n : Fin 512) (e : Fin 2048) :
    marks v (ix2 n e) = (if BitVec.ofNat 16 n = (v (ix3 0 0 e)).truncate 16 then 1 else 0 : EReal) := by
  pointwise [marks]
  by_cases h : BitVec.ofNat 16 n = (v (ix3 0 0 e)).setWidth 16
  · simp [Scalar.select, IntOp.cmpi, h]
  · have hb : (BitVec.ofNat 16 n == (v (ix3 0 0 e)).setWidth 16) = false := beq_eq_false_iff_ne.mpr h
    simp only [Scalar.select, IntOp.cmpi, hb, BitVec.truncate_eq_setWidth, if_neg h]
    rfl

theorem pairs_apply (s d : Vec Ideal S1x1x2048 .i32) (i j : Fin 512) :
    pairs s d (ix2 i j) = (∑ e : Fin 2048, marks d (ix2 i e) * marks s (ix2 j e) : EReal) := by
  pointwise [pairs]

theorem norm_apply (a : FVec Ideal S512x512 .f32) (d s : Fin 512) :
    norm a (ix2 d s) = (a (ix2 d s) * Ideal.rsqrt (max (∑ s : Fin 512, a (ix2 d s)) 1) * Ideal.rsqrt (max (∑ d : Fin 512, a (ix2 d s)) 1) : EReal) := by
  pointwise [norm]

theorem lay128_apply (n : FVec Ideal S512x512 .bf16) (x : FVec Ideal S512x128 .f32) (w : FVec Ideal S128x128 .f32) (d : Fin 512) (c : Fin 128) :
    lay128 n x w (ix2 d c) = (∑ s : Fin 512, n (ix2 d s) * ∑ k : Fin 128, x (ix2 s k) * w (ix2 k c) : EReal) := by
  pointwise [lay128]

theorem lay64_apply (n : FVec Ideal S512x512 .bf16) (x : FVec Ideal S512x128 .f32) (w : FVec Ideal S128x64 .f32) (d : Fin 512) (c : Fin 64) :
    lay64 n x w (ix2 d c) = (∑ s : Fin 512, n (ix2 d s) * ∑ k : Fin 128, x (ix2 s k) * w (ix2 k c) : EReal) := by
  pointwise [lay64]

theorem relu128_apply (y : FVec Ideal S512x128 .f32) (d : Fin 512) (c : Fin 128) : relu128 y (ix2 d c) = (max (y (ix2 d c)) 0 : EReal) := by
  pointwise [relu128]

theorem cells_apply (g : FVec Ideal S512x64 .f32) (m : Vec Ideal S1x1x2048 .i32) (p : Fin 2048) (c : Fin 64) :
    cells g m (ix3 0 p c) = (∑ n : Fin 512, marks m (ix2 n p) * g (ix2 n c) : EReal) := by
  pointwise [cells]

/-- A node's mark, when the number is a node's. -/
theorem marks_node (v : Vec Ideal S1x1x2048 .i32) (n m : Fin 512) (e : Fin 2048) (h : v (ix3 0 0 e) = BitVec.ofNat 32 m) :
    marks v (ix2 n e) = (if m = n then 1 else 0 : EReal) := by
  rw [marks_apply, h]
  refine if_congr ⟨fun h => ?_, fun h => ?_⟩ rfl rfl
  · have := congrArg BitVec.toNat h
    simp only [BitVec.truncate_eq_setWidth, BitVec.toNat_setWidth, BitVec.toNat_ofNat] at this
    exact Fin.ext (by omega)
  · subst h
    apply BitVec.eq_of_toNat_eq
    simp only [BitVec.truncate_eq_setWidth, BitVec.toNat_setWidth, BitVec.toNat_ofNat]
    omega

/-- No mark, when the number is minus one. -/
theorem marks_none (v : Vec Ideal S1x1x2048 .i32) (n : Fin 512) (e : Fin 2048) (h : v (ix3 0 0 e) = -1#32) :
    marks v (ix2 n e) = (0 : EReal) := by
  rw [marks_apply, h, if_neg]
  intro h
  have := congrArg BitVec.toNat h
  simp only [BitVec.truncate_eq_setWidth, BitVec.toNat_setWidth, BitVec.toNat_ofNat] at this
  have h2 : (-1#32 : BitVec 32).toNat = 4294967295 := by decide
  omega

/-- The four runs' counts are the counts of all the edges. -/
theorem adj_apply (s0 s1 s2 s3 d0 d1 d2 d3 : Vec Ideal S1x1x2048 .i32) (S D : Fin 8192 → Fin 512)
    (hs0 : ∀ e : Fin 2048, s0 (ix3 0 0 e) = BitVec.ofNat 32 (S ⟨e, by omega⟩)) (hs1 : ∀ e : Fin 2048, s1 (ix3 0 0 e) = BitVec.ofNat 32 (S ⟨2048 + e, by omega⟩))
    (hs2 : ∀ e : Fin 2048, s2 (ix3 0 0 e) = BitVec.ofNat 32 (S ⟨4096 + e, by omega⟩)) (hs3 : ∀ e : Fin 2048, s3 (ix3 0 0 e) = BitVec.ofNat 32 (S ⟨6144 + e, by omega⟩))
    (hd0 : ∀ e : Fin 2048, d0 (ix3 0 0 e) = BitVec.ofNat 32 (D ⟨e, by omega⟩)) (hd1 : ∀ e : Fin 2048, d1 (ix3 0 0 e) = BitVec.ofNat 32 (D ⟨2048 + e, by omega⟩))
    (hd2 : ∀ e : Fin 2048, d2 (ix3 0 0 e) = BitVec.ofNat 32 (D ⟨4096 + e, by omega⟩)) (hd3 : ∀ e : Fin 2048, d3 (ix3 0 0 e) = BitVec.ofNat 32 (D ⟨6144 + e, by omega⟩))
    (d s : Fin 512) : adj s0 s1 s2 s3 d0 d1 d2 d3 (ix2 d s) = Net.count S D d s := by
  have p : ∀ (a b : Vec Ideal S1x1x2048 .i32) (A B : Fin 2048 → Fin 512), (∀ e, a (ix3 0 0 e) = BitVec.ofNat 32 (A e)) → (∀ e, b (ix3 0 0 e) = BitVec.ofNat 32 (B e)) →
      pairs a b (ix2 d s) = (∑ e : Fin 2048, (if B e = d then 1 else 0) * (if A e = s then 1 else 0) : EReal) := fun a b A B ha hb => by
    rw [pairs_apply]
    exact Finset.sum_congr rfl fun e _ => by rw [marks_node b d (B e) e (hb e), marks_node a s (A e) e (ha e)]
  have q : adj s0 s1 s2 s3 d0 d1 d2 d3 (ix2 d s) = (pairs s0 d0 (ix2 d s) + pairs s1 d1 (ix2 d s) + pairs s2 d2 (ix2 d s) + pairs s3 d3 (ix2 d s) : EReal) := by
    pointwise [adj]
  rw [q, p s0 d0 _ _ hs0 hd0, p s1 d1 _ _ hs1 hd1, p s2 d2 _ _ hs2 hd2, p s3 d3 _ _ hs3 hd3]
  unfold Net.count
  rw [Fin.sum_univ_tiles 4 2048 rfl, Fin.sum_univ_four]
  simp only [Fin.val_zero, Fin.val_one, Fin.val_two, show ((3 : Fin 4) : ℕ) = 3 from rfl, Nat.zero_mul, Nat.zero_add, Nat.one_mul, Nat.reduceMul]

/-- The layers on one graph are the network of its edges. -/
theorem net_apply (a : FVec Ideal S512x512 .f32) (x : Vec Ideal S1x512x128 .f32) (w1 w2 : FVec Ideal S128x128 .f32) (w3 : FVec Ideal S128x64 .f32)
    (S D : Fin 8192 → Fin 512) (ha : ∀ d s, a (ix2 d s) = Net.count S D d s) (d : Fin 512) (c : Fin 64) :
    GraphK.net (norm a) x w1 w2 w3 (ix2 d c) = Net.net S D (fun n k => x (ix3 0 n k)) (fun k c => w1 (ix2 k c)) (fun k c => w2 (ix2 k c)) (fun k c => w3 (ix2 k c)) d c := by
  have n128 : ∀ (y : FVec Ideal S512x128 .f32) (w : FVec Ideal S128x128 .f32) (d : Fin 512) (c : Fin 128),
      lay128 (norm a) y w (ix2 d c) = layer S D (fun n k => y (ix2 n k)) (fun k c => w (ix2 k c)) d c := fun y w d c => by
    rw [lay128_apply]
    unfold layer
    rw [← counts_conv]
    simp only [norm_apply, ha]
  have n64 : ∀ (y : FVec Ideal S512x128 .f32) (w : FVec Ideal S128x64 .f32) (d : Fin 512) (c : Fin 64),
      lay64 (norm a) y w (ix2 d c) = layer S D (fun n k => y (ix2 n k)) (fun k c => w (ix2 k c)) d c := fun y w d c => by
    rw [lay64_apply]
    unfold layer
    rw [← counts_conv]
    simp only [norm_apply, ha]
  have hx : ∀ (n : Fin 512) (k : Fin 128), shapeCast S512x128 x shapeCasts_S1x512x128_S512x128 (ix2 n k) = x (ix3 0 n k) := fun n k => by pointwise
  show Ideal.tanh (lay64 (norm a) (relu128 (lay128 (norm a) (relu128 (lay128 (norm a) (shapeCast S512x128 x shapeCasts_S1x512x128_S512x128) w1)) w2)) w3 (ix2 d c)) = _
  unfold Net.net
  simp only [n64, relu128_apply, n128, hx]

/-- A cell that holds a node shows the node's row. -/
theorem cells_node (g : FVec Ideal S512x64 .f32) (m : Vec Ideal S1x1x2048 .i32) (p : Fin 2048) (c : Fin 64) (n : Fin 512)
    (h : m (ix3 0 0 p) = BitVec.ofNat 32 n) : cells g m (ix3 0 p c) = g (ix2 n c) := by
  rw [cells_apply]
  simp only [marks_node m _ n p h]
  simp

/-- A cell that holds minus one shows zeros. -/
theorem cells_none (g : FVec Ideal S512x64 .f32) (m : Vec Ideal S1x1x2048 .i32) (p : Fin 2048) (c : Fin 64)
    (h : m (ix3 0 0 p) = -1#32) : cells g m (ix3 0 p c) = (0 : EReal) := by
  rw [cells_apply]
  simp only [marks_none m _ p h]
  simp

end Cert.KernelIdeal.GraphK

end
-- ==== Proof.RegG.lean ====
module

public import proofs.«01_k».proof.Proof.IdealBody
public import proofs.«01_k».proof.Proof.GraphK
public import Idealize.ShloMosaic.Lib.Pipeline.ValueKit
public import Idealize.ShloMosaic.Lib.Pointwise

@[expose] public section

set_option maxRecDepth 16384

noncomputable section

namespace Cert.KernelIdeal.RegG

open Idealize.ShloMosaic Idealize.ShloMosaic.TcCoe Idealize.SL.Sem
open Cert.KernelIdeal Cert.KernelIdeal.Gen

/-- The table of edges of a step's blocks. -/
def adjOf (x1 x2 : Vec Ideal S1x1x8192 .i32) : FVec Ideal S512x512 .f32 :=
  GraphK.adj (View.ld x1 r0_0) (View.ld x1 r0_1) (View.ld x1 r0_2) (View.ld x1 r0_3) (View.ld x2 r0_0) (View.ld x2 r0_1) (View.ld x2 r0_2) (View.ld x2 r0_3)

/-- The nodes' outputs of a step's blocks. -/
def nodes (x0 : Vec Ideal S1x512x128 .f32) (x1 x2 : Vec Ideal S1x1x8192 .i32) (x4 x5 : Vec Ideal S128x128 .f32) (x6 : Vec Ideal S128x64 .f32) : FVec Ideal S512x64 .f32 :=
  GraphK.net (GraphK.norm (adjOf x1 x2)) (View.ld x0 r0_4) (View.ld x4 r0_5) (View.ld x5 r0_5) (View.ld x6 r0_6)

theorem pay13_eq (x0 : Vec Ideal S1x512x128 .f32) (x1 x2 : Vec Ideal S1x1x8192 .i32) (x3 : Vec Ideal S1x1x4096 .i32) (x4 x5 : Vec Ideal S128x128 .f32) (x6 : Vec Ideal S128x64 .f32) :
    k0_pay13 (k0_pay20 x0 x1 x2 x3 x4 x5 x6) (k0_pay21 x0 x1 x2 x3 x4 x5 x6) (View.ld x6 r0_6) (View.ld x3 r0_7)
      = GraphK.cells (nodes x0 x1 x2 x4 x5 x6) (View.ld x3 r0_7) := rfl

theorem pay14_eq (x0 : Vec Ideal S1x512x128 .f32) (x1 x2 : Vec Ideal S1x1x8192 .i32) (x3 : Vec Ideal S1x1x4096 .i32) (x4 x5 : Vec Ideal S128x128 .f32) (x6 : Vec Ideal S128x64 .f32) :
    k0_pay14 (k0_pay20 x0 x1 x2 x3 x4 x5 x6) (k0_pay21 x0 x1 x2 x3 x4 x5 x6) (View.ld x6 r0_6) (View.ld x3 r0_9)
      = GraphK.cells (nodes x0 x1 x2 x4 x5 x6) (View.ld x3 r0_9) := rfl

/-- The first node's row. -/
def top (g : FVec Ideal S512x64 .f32) : FVec Ideal S1x1x64 .f32 :=
  shapeCast S1x1x64 (extractStridedSlice S1x64 ![0, 0] g slices_S512x64_o0_0_S1x64) shapeCasts_S1x64_S1x1x64

theorem top_apply (g : FVec Ideal S512x64 .f32) (c : Fin 64) : top g (ix3 0 0 c) = g (ix2 0 c) := by pointwise [top]

theorem pay15_eq (x0 : Vec Ideal S1x512x128 .f32) (x1 x2 : Vec Ideal S1x1x8192 .i32) (x3 : Vec Ideal S1x1x4096 .i32) (x4 x5 : Vec Ideal S128x128 .f32) (x6 : Vec Ideal S128x64 .f32) :
    k0_pay1 (k0_pay15 (k0_pay20 x0 x1 x2 x3 x4 x5 x6) (k0_pay21 x0 x1 x2 x3 x4 x5 x6) (View.ld x6 r0_6)) = top (nodes x0 x1 x2 x4 x5 x6) := rfl

/-- A step's nodes are the network over its edges. -/
theorem nodes_apply (x0 : Vec Ideal S1x512x128 .f32) (x1 x2 : Vec Ideal S1x1x8192 .i32) (x4 x5 : Vec Ideal S128x128 .f32) (x6 : Vec Ideal S128x64 .f32)
    (S D : Fin 8192 → Fin 512) (hs : ∀ e : Fin 8192, x1 (ix3 0 0 e) = BitVec.ofNat 32 (S e)) (hd : ∀ e : Fin 8192, x2 (ix3 0 0 e) = BitVec.ofNat 32 (D e))
    (n : Fin 512) (c : Fin 64) : nodes x0 x1 x2 x4 x5 x6 (ix2 n c)
      = Net.net S D (fun n k => x0 (ix3 0 n k)) (fun k c => x4 (ix2 k c)) (fun k c => x5 (ix2 k c)) (fun k c => x6 (ix2 k c)) n c := by
  have e0 : ∀ (x : Vec Ideal S1x1x8192 .i32) (e : Fin 2048), View.ld x r0_0 (ix3 0 0 e) = x (ix3 0 0 ⟨e, by omega⟩) := fun x e => by pointwise
  have e1 : ∀ (x : Vec Ideal S1x1x8192 .i32) (e : Fin 2048), View.ld x r0_1 (ix3 0 0 e) = x (ix3 0 0 ⟨2048 + e, by omega⟩) := fun x e => by pointwise
  have e2 : ∀ (x : Vec Ideal S1x1x8192 .i32) (e : Fin 2048), View.ld x r0_2 (ix3 0 0 e) = x (ix3 0 0 ⟨4096 + e, by omega⟩) := fun x e => by pointwise
  have e3 : ∀ (x : Vec Ideal S1x1x8192 .i32) (e : Fin 2048), View.ld x r0_3 (ix3 0 0 e) = x (ix3 0 0 ⟨6144 + e, by omega⟩) := fun x e => by pointwise
  have f0 : ∀ (n : Fin 512) (k : Fin 128), View.ld x0 r0_4 (ix3 0 n k) = x0 (ix3 0 n k) := fun n k => by pointwise
  have f4 : ∀ (n : Fin 128) (k : Fin 128), View.ld x4 r0_5 (ix2 n k) = x4 (ix2 n k) := fun n k => by pointwise
  have f5 : ∀ (n : Fin 128) (k : Fin 128), View.ld x5 r0_5 (ix2 n k) = x5 (ix2 n k) := fun n k => by pointwise
  have f6 : ∀ (n : Fin 128) (k : Fin 64), View.ld x6 r0_6 (ix2 n k) = x6 (ix2 n k) := fun n k => by pointwise
  rw [nodes, GraphK.net_apply _ _ _ _ _ S D]
  · simp only [f0, f4, f5, f6]
  · intro d s
    exact GraphK.adj_apply _ _ _ _ _ _ _ _ S D (fun e => (e0 _ e).trans (hs _)) (fun e => (e1 _ e).trans (hs _)) (fun e => (e2 _ e).trans (hs _)) (fun e => (e3 _ e).trans (hs _))
      (fun e => (e0 _ e).trans (hd _)) (fun e => (e1 _ e).trans (hd _)) (fun e => (e2 _ e).trans (hd _)) (fun e => (e3 _ e).trans (hd _)) d s

/-- A place of a box from its three coordinates. -/
theorem idx3 {a b c : ℕ} (x : (⟨3, ![a, b, c]⟩ : Shape).Idx) (i : Fin a) (j : Fin b) (k : Fin c) (h0 : (x 0).val = i.val) (h1 : (x 1).val = j.val) (h2 : (x 2).val = k.val) :
    x = ix3 i j k := by
  funext t
  fin_cases t
  · exact Fin.ext h0
  · exact Fin.ext h1
  · exact Fin.ext h2

/-- What a step leaves of the map: a cell holds its node's row, or zeros. -/
theorem out7_apply (x0 : Vec Ideal S1x512x128 .f32) (x1 x2 : Vec Ideal S1x1x8192 .i32) (x3 : Vec Ideal S1x1x4096 .i32) (x4 x5 : Vec Ideal S128x128 .f32) (x6 : Vec Ideal S128x64 .f32)
    (p : Fin 4096) (c : Fin 64) (v : EReal)
    (hn : ∀ n : Fin 512, x3 (ix3 0 0 p) = BitVec.ofNat 32 n → nodes x0 x1 x2 x4 x5 x6 (ix2 n c) = v) (h0' : x3 (ix3 0 0 p) = -1#32 → v = 0)
    (h : x3 (ix3 0 0 p) = -1#32 ∨ ∃ n : Fin 512, x3 (ix3 0 0 p) = BitVec.ofNat 32 n) :
    out0_7 x0 x1 x2 x3 x4 x5 x6 (ix3 0 p c) = v := by
  have e7 : ∀ (q : Fin 2048), View.ld x3 r0_7 (ix3 0 0 q) = x3 (ix3 0 0 ⟨q, by omega⟩) := fun e => by pointwise
  have e9 : ∀ (q : Fin 2048), View.ld x3 r0_9 (ix3 0 0 q) = x3 (ix3 0 0 ⟨2048 + q, by omega⟩) := fun e => by pointwise
  unfold out0_7
  rw [pay13_eq, pay14_eq]
  generalize nodes x0 x1 x2 x4 x5 x6 = g at hn
  canon_tiles x hh
  · have hx : x = ix3 0 ⟨x 1, x1_lt⟩ c := idx3 _ _ _ _ (by omega) rfl hh2.symm
    have hp : p = ⟨2048 + x 1, by omega⟩ := Fin.ext hh1
    rw [hx]
    rcases h with h | ⟨n, h⟩
    · rw [GraphK.cells_none _ _ _ _ ((e9 _).trans (hp ▸ h)), h0' h]
    · rw [GraphK.cells_node _ _ _ _ n ((e9 _).trans (hp ▸ h)), hn n h]
  · have hx : x = ix3 0 ⟨x 1, x1_lt⟩ c := idx3 _ _ _ _ (by omega) rfl hh2.symm
    have hp : p = ⟨x 1, by omega⟩ := Fin.ext hh1
    rw [hx]
    rcases h with h | ⟨n, h⟩
    · rw [GraphK.cells_none _ _ _ _ ((e7 _).trans (hp ▸ h)), h0' h]
    · rw [GraphK.cells_node _ _ _ _ n ((e7 _).trans (hp ▸ h)), hn n h]

theorem out8_apply (x0 : Vec Ideal S1x512x128 .f32) (x1 x2 : Vec Ideal S1x1x8192 .i32) (x3 : Vec Ideal S1x1x4096 .i32) (x4 x5 : Vec Ideal S128x128 .f32) (x6 : Vec Ideal S128x64 .f32)
    (c : Fin 64) : out0_8 x0 x1 x2 x3 x4 x5 x6 (ix3 0 0 c) = nodes x0 x1 x2 x4 x5 x6 (ix2 0 c) := by
  rw [← top_apply (nodes x0 x1 x2 x4 x5 x6) c]
  unfold out0_8
  rw [pay15_eq]
  generalize top (nodes x0 x1 x2 x4 x5 x6) = g
  canon_tiles x h
  rw [idx3 x 0 0 c (by omega) (by omega) h2.symm]

end Cert.KernelIdeal.RegG

end
-- ==== Proof.Out0.lean ====
module

public import proofs.«01_k».proof.Proof.RegG
public import proofs.«01_k».proof.Proof.IdealFrame
public import Idealize.ShloMosaic.Lib.Pipeline.ValueKit
public import Idealize.ShloMosaic.Lib.Pointwise

@[expose] public section

set_option maxRecDepth 16384

noncomputable section

namespace Cert.KernelIdeal.Out0

open Idealize.ShloMosaic Idealize.ShloMosaic.TcCoe Idealize.SL.Sem
open Cert.KernelIdeal Cert.KernelIdeal.Gen

/-- Row `b` of a stack. -/
def row {A N C : ℕ} {e : EltTy} (X : Vec Ideal ⟨3, ![A, N, C]⟩ e) (b : Fin A) : Vec Ideal ⟨3, ![1, N, C]⟩ e := fun y => X (ix3 b (y 1) (y 2))

/-- The map the first call leaves, over the arrays it reads. -/
def out7 (X : Vec Ideal S64x512x128 .f32) (S D : Vec Ideal S64x1x8192 .i32) (M : Vec Ideal S64x1x4096 .i32) (w1 w2 : Vec Ideal S128x128 .f32) (w3 : Vec Ideal S128x64 .f32) :
    Vec Ideal S64x4096x64 .bf16 := fun i => out0_7 (row X (i 0)) (row S (i 0)) (row D (i 0)) (row M (i 0)) w1 w2 w3 (ix3 0 (i 1) (i 2))

/-- The agents' rows the first call leaves. -/
def out8 (X : Vec Ideal S64x512x128 .f32) (S D : Vec Ideal S64x1x8192 .i32) (M : Vec Ideal S64x1x4096 .i32) (w1 w2 : Vec Ideal S128x128 .f32) (w3 : Vec Ideal S128x64 .f32) :
    Vec Ideal S64x1x64 .f32 := fun i => out0_8 (row X (i 0)) (row S (i 0)) (row D (i 0)) (row M (i 0)) w1 w2 w3 (ix3 0 (i 1) (i 2))

variable (V : (c : Dev nD) → (b : Ref sig .tc) → Buf (Elt Ideal) ((c : Thread nD τ).loc b))

theorem idx : ∀ t : Fin cfg0.N,
    (cfg0.win 0).index t (0 : Fin 3) = t.val ∧ (cfg0.win 0).index t (1 : Fin 3) = 0 ∧ (cfg0.win 0).index t (2 : Fin 3) = 0
    ∧ (cfg0.win 1).index t (0 : Fin 3) = t.val ∧ (cfg0.win 1).index t (1 : Fin 3) = 0 ∧ (cfg0.win 1).index t (2 : Fin 3) = 0
    ∧ (cfg0.win 2).index t (0 : Fin 3) = t.val ∧ (cfg0.win 2).index t (1 : Fin 3) = 0 ∧ (cfg0.win 2).index t (2 : Fin 3) = 0
    ∧ (cfg0.win 3).index t (0 : Fin 3) = t.val ∧ (cfg0.win 3).index t (1 : Fin 3) = 0 ∧ (cfg0.win 3).index t (2 : Fin 3) = 0
    ∧ (cfg0.win 4).index t (0 : Fin 2) = 0 ∧ (cfg0.win 4).index t (1 : Fin 2) = 0
    ∧ (cfg0.win 5).index t (0 : Fin 2) = 0 ∧ (cfg0.win 5).index t (1 : Fin 2) = 0
    ∧ (cfg0.win 6).index t (0 : Fin 2) = 0 ∧ (cfg0.win 6).index t (1 : Fin 2) = 0
    ∧ (cfg0.win 7).index t (0 : Fin 3) = t.val ∧ (cfg0.win 7).index t (1 : Fin 3) = 0 ∧ (cfg0.win 7).index t (2 : Fin 3) = 0
    ∧ (cfg0.win 8).index t (0 : Fin 3) = t.val ∧ (cfg0.win 8).index t (1 : Fin 3) = 0 ∧ (cfg0.win 8).index t (2 : Fin 3) = 0 := by
  decide +kernel

theorem blk0 (c : Dev nD) (t : Fin cfg0.N) : iblk0 V c 0 t = row (V c main_v6) ⟨t.val, t.isLt⟩ := by
  funext y
  unfold row
  blk_ext [iblk0, idx t]

theorem blk1 (c : Dev nD) (t : Fin cfg0.N) : iblk0 V c 1 t = row (V c main_v14) ⟨t.val, t.isLt⟩ := by
  funext y
  unfold row
  blk_ext [iblk0, idx t]

theorem blk2 (c : Dev nD) (t : Fin cfg0.N) : iblk0 V c 2 t = row (V c main_v22) ⟨t.val, t.isLt⟩ := by
  funext y
  unfold row
  blk_ext [iblk0, idx t]

theorem blk3 (c : Dev nD) (t : Fin cfg0.N) : iblk0 V c 3 t = row (V c main_v25) ⟨t.val, t.isLt⟩ := by
  funext y
  unfold row
  blk_ext [iblk0, idx t]

theorem blk4 (c : Dev nD) (t : Fin cfg0.N) : iblk0 V c 4 t = V c main_arg8 := by blk_ext! [iblk0, idx t]

theorem blk5 (c : Dev nD) (t : Fin cfg0.N) : iblk0 V c 5 t = V c main_arg9 := by blk_ext! [iblk0, idx t]

theorem blk6 (c : Dev nD) (t : Fin cfg0.N) : iblk0 V c 6 t = V c main_arg10 := by blk_ext! [iblk0, idx t]

theorem final7 (c : Dev nD) : (dat0 V c).arrAt 7 cfg0.N = out7 (V c main_v6) (V c main_v14) (V c main_v22) (V c main_v25) (V c main_arg8) (V c main_arg9) (V c main_arg10) := by
  refine (dat0 V c).arrAt_eq_of_covers 7 _ (by decide +kernel) fun t _ y => ?_
  blk_simp
  rw [after0_7, blk0, blk1, blk2, blk3, blk4, blk5, blk6]
  have h0 : ((((View.whole main_v26_0).slice (win0_7.rect t)).emb y) 0) = (⟨t.val, t.isLt⟩ : Fin 64) := by
    refine Fin.ext ?_
    blk_simp [idx t]
  have h1 : y = ix3 0 ((((View.whole main_v26_0).slice (win0_7.rect t)).emb y) 1) ((((View.whole main_v26_0).slice (win0_7.rect t)).emb y) 2) := by
    blk_ext [idx t]
  unfold out7
  rw [h0]
  exact congrArg _ h1

theorem final8 (c : Dev nD) : (dat0 V c).arrAt 8 cfg0.N = out8 (V c main_v6) (V c main_v14) (V c main_v22) (V c main_v25) (V c main_arg8) (V c main_arg9) (V c main_arg10) := by
  refine (dat0 V c).arrAt_eq_of_covers 8 _ (by decide +kernel) fun t _ y => ?_
  blk_simp
  rw [after0_8, blk0, blk1, blk2, blk3, blk4, blk5, blk6]
  have h0 : ((((View.whole main_v26_1).slice (win0_8.rect t)).emb y) 0) = (⟨t.val, t.isLt⟩ : Fin 64) := by
    refine Fin.ext ?_
    blk_simp [idx t]
  have h1 : y = ix3 0 ((((View.whole main_v26_1).slice (win0_8.rect t)).emb y) 1) ((((View.whole main_v26_1).slice (win0_8.rect t)).emb y) 2) := by
    blk_ext [idx t]
  unfold out8
  rw [h0]
  exact congrArg _ h1

end Cert.KernelIdeal.Out0

end
-- ==== Proof.Host.lean ====
module

public import proofs.«01_k».proof.Proof.IdealFrame
public import Idealize.ShloMosaic.Lib.Pipeline.ValueKit
public import Idealize.ShloMosaic.Lib.Pointwise

@[expose] public section

set_option maxRecDepth 16384

noncomputable section

namespace Cert.KernelIdeal.Host

open Idealize.ShloMosaic Idealize.ShloMosaic.TcCoe Idealize.SL.Sem
open Cert.KernelIdeal Cert.KernelIdeal.Gen

/-- The two batches of nodes one after the other. -/
def xs (x1 x2 : FVec Ideal S16384x128 .f32) : FVec Ideal S64x512x128 .f32 :=
  concatenate S64x512x128 0 [⟨S32x512x128, shapeCast S32x512x128 x1 shapeCasts_S16384x128_S32x512x128⟩,
    ⟨S32x512x128, shapeCast S32x512x128 x2 shapeCasts_S16384x128_S32x512x128⟩] concatenates_S32x512x128_S32x512x128_S64x512x128_d0

/-- The first node of each graph. -/
def base : IVec S32x1 32 :=
  broadcastInDim S32x1 ![0] bcast_S32_S32x1_0 (muli (iotaInDim S32 32 0) (broadcastInDim S32 ![] bcast_S_S32 (constantI S_ 32 512#32)))

/-- The ends of the edges, numbered within their graphs. -/
def local1 (e : IVec S262144 32) : IVec S32x8192 32 :=
  subi (shapeCast S32x8192 e shapeCasts_S262144_S32x8192) (broadcastInDim S32x8192 ![0, 1] bcast_S32x1_S32x8192_0_1 base)

/-- The two batches of ends one after the other. -/
def locs (e1 e2 : IVec S262144 32) : IVec S64x1x8192 32 :=
  shapeCast S64x1x8192 (concatenate S64x8192 0 [⟨S32x8192, local1 e1⟩, ⟨S32x8192, local1 e2⟩] concatenates_S32x8192_S32x8192_S64x8192_d0) shapeCasts_S64x8192_S64x1x8192

/-- The two batches of maps one after the other. -/
def maps (m1 m2 : IVec S32x64x64 32) : IVec S64x1x4096 32 :=
  concatenate S64x1x4096 0 [⟨S32x1x4096, shapeCast S32x1x4096 m1 shapeCasts_S32x64x64_S32x1x4096⟩,
    ⟨S32x1x4096, shapeCast S32x1x4096 m2 shapeCasts_S32x64x64_S32x1x4096⟩] concatenates_S32x1x4096_S32x1x4096_S64x1x4096_d0

theorem xs_lo (x1 x2 : FVec Ideal S16384x128 .f32) (b : Fin 32) (n : Fin 512) (k : Fin 128) :
    xs x1 x2 (ix3 ⟨b, by omega⟩ n k) = x1 (ix2 ⟨b * 512 + n, by omega⟩ k) := by
  pointwise [xs]

theorem xs_hi (x1 x2 : FVec Ideal S16384x128 .f32) (b : Fin 32) (n : Fin 512) (k : Fin 128) :
    xs x1 x2 (ix3 ⟨32 + b, by omega⟩ n k) = x2 (ix2 ⟨b * 512 + n, by omega⟩ k) := by
  pointwise [xs]

theorem maps_lo (m1 m2 : IVec S32x64x64 32) (b : Fin 32) (i j : Fin 64) :
    maps m1 m2 (ix3 ⟨b, by omega⟩ 0 ⟨i * 64 + j, by omega⟩) = m1 (ix3 b i j) := by
  pointwise [maps]

theorem maps_hi (m1 m2 : IVec S32x64x64 32) (b : Fin 32) (i j : Fin 64) :
    maps m1 m2 (ix3 ⟨32 + b, by omega⟩ 0 ⟨i * 64 + j, by omega⟩) = m2 (ix3 b i j) := by
  pointwise [maps]

theorem local1_apply (e : IVec S262144 32) (b : Fin 32) (k : Fin 8192) :
    local1 e (ix2 b k) = e (ix1 ⟨b * 8192 + k, by omega⟩) - BitVec.ofNat 32 b * 512#32 := by
  pointwise [local1, base]
  rfl

theorem locs_lo (e1 e2 : IVec S262144 32) (b : Fin 32) (k : Fin 8192) : locs e1 e2 (ix3 ⟨b, by omega⟩ 0 k) = local1 e1 (ix2 b k) := by
  pointwise [locs]

theorem locs_hi (e1 e2 : IVec S262144 32) (b : Fin 32) (k : Fin 8192) : locs e1 e2 (ix3 ⟨32 + b, by omega⟩ 0 k) = local1 e2 (ix2 b k) := by
  pointwise [locs]

theorem local1_ends (e : IVec S262144 32) (b : Fin 32) (k : Fin 8192) (n : Fin 512) (h : e (ix1 ⟨b * 8192 + k, by omega⟩) = BitVec.ofNat 32 (b * 512 + n)) :
    local1 e (ix2 b k) = BitVec.ofNat 32 n := by
  rw [local1_apply, h]
  refine BitVec.eq_of_toNat_eq ?_
  simp only [BitVec.toNat_sub, BitVec.toNat_mul, BitVec.toNat_ofNat]
  omega

variable (m : (ℓ : Loc nD τ sig) → Buf (Elt Ideal) ℓ) (ρ : Dev nD → PrngReg)

theorem v6 (c : Dev nD) : V1 m ρ c main_v6 = xs (m ((c : Thread nD τ).loc main_arg0)) (m ((c : Thread nD τ).loc main_arg4)) := by
  unfold_abbrev_sides
  after_results; try rfl

theorem v14 (c : Dev nD) : V1 m ρ c main_v14 = locs (m ((c : Thread nD τ).loc main_arg1)) (m ((c : Thread nD τ).loc main_arg5)) := by
  unfold_abbrev_sides
  after_results; try rfl

theorem v22 (c : Dev nD) : V1 m ρ c main_v22 = locs (m ((c : Thread nD τ).loc main_arg2)) (m ((c : Thread nD τ).loc main_arg6)) := by
  unfold_abbrev_sides
  after_results; try rfl

theorem v25 (c : Dev nD) : V1 m ρ c main_v25 = maps (m ((c : Thread nD τ).loc main_arg3)) (m ((c : Thread nD τ).loc main_arg7)) := by
  unfold_abbrev_sides
  after_results; try rfl

end Cert.KernelIdeal.Host

end
-- ==== Proof.Cells.lean ====
module

public import proofs.«01_k».proof.Proof.Pre
public import proofs.«01_k».proof.Proof.RepR
public import proofs.«01_k».proof.Proof.Out0
public import proofs.«01_k».proof.Proof.Host
public import proofs.«01_k».proof.Proof.ConvR
public import proofs.«01_k».proof.Proof.GraphR

@[expose] public section

set_option maxRecDepth 16384

noncomputable section

namespace Cert.Cells

open Idealize.ShloMosaic Idealize.ShloMosaic.TcCoe Idealize.SL.Sem
open Cert.KernelIdeal Cert.KernelIdeal.Gen Cert.KernelIdeal.Host

/-- The nodes of graph `b` of the first set after the three layers. -/
theorem nodes_row_lo (x1 x2 : FVec Ideal S16384x128 .f32) (s1 s2 d1 d2 : IVec S262144 32) (w1 w2 : FVec Ideal S128x128 .f32) (w3 : FVec Ideal S128x64 .f32)
    (S D : Fin 32 → Fin 8192 → Fin 512) (hs : Cert.ReferenceIdeal.GraphR.Ends s1 S) (hd : Cert.ReferenceIdeal.GraphR.Ends d1 D) (b : Fin 32) (n : Fin 512) (c : Fin 64) :
    RegG.nodes (Out0.row (xs x1 x2) ⟨b, by omega⟩) (Out0.row (locs s1 s2) ⟨b, by omega⟩) (Out0.row (locs d1 d2) ⟨b, by omega⟩) w1 w2 w3 (ix2 n c)
      = Net.net (S b) (D b) (fun n k => x1 (ix2 ⟨b * 512 + n, by omega⟩ k)) (fun k c => w1 (ix2 k c)) (fun k c => w2 (ix2 k c)) (fun k c => w3 (ix2 k c)) n c := by
  have h : (fun (n : Fin 512) (k : Fin 128) => Out0.row (A := 64) (N := 512) (C := 128) (e := .f32) (xs x1 x2) ⟨b, by omega⟩ (ix3 0 n k)) = fun (n : Fin 512) (k : Fin 128) => x1 (ix2 ⟨b * 512 + n, by omega⟩ k) :=
    funext fun n => funext fun k => xs_lo x1 x2 b n k
  rw [RegG.nodes_apply _ _ _ w1 w2 w3 (S b) (D b) (fun e => (locs_lo s1 s2 b e).trans (local1_ends s1 b e (S b e) (hs b e)))
    (fun e => (locs_lo d1 d2 b e).trans (local1_ends d1 b e (D b e) (hd b e))) n c, h]

/-- The nodes of graph `b` of the second set after the three layers. -/
theorem nodes_row_hi (x1 x2 : FVec Ideal S16384x128 .f32) (s1 s2 d1 d2 : IVec S262144 32) (w1 w2 : FVec Ideal S128x128 .f32) (w3 : FVec Ideal S128x64 .f32)
    (S D : Fin 32 → Fin 8192 → Fin 512) (hs : Cert.ReferenceIdeal.GraphR.Ends s2 S) (hd : Cert.ReferenceIdeal.GraphR.Ends d2 D) (b : Fin 32) (n : Fin 512) (c : Fin 64) :
    RegG.nodes (Out0.row (xs x1 x2) ⟨32 + b, by omega⟩) (Out0.row (locs s1 s2) ⟨32 + b, by omega⟩) (Out0.row (locs d1 d2) ⟨32 + b, by omega⟩) w1 w2 w3 (ix2 n c)
      = Net.net (S b) (D b) (fun n k => x2 (ix2 ⟨b * 512 + n, by omega⟩ k)) (fun k c => w1 (ix2 k c)) (fun k c => w2 (ix2 k c)) (fun k c => w3 (ix2 k c)) n c := by
  have h : (fun (n : Fin 512) (k : Fin 128) => Out0.row (A := 64) (N := 512) (C := 128) (e := .f32) (xs x1 x2) ⟨32 + b, by omega⟩ (ix3 0 n k)) = fun (n : Fin 512) (k : Fin 128) => x2 (ix2 ⟨b * 512 + n, by omega⟩ k) :=
    funext fun n => funext fun k => xs_hi x1 x2 b n k
  rw [RegG.nodes_apply _ _ _ w1 w2 w3 (S b) (D b) (fun e => (locs_hi s1 s2 b e).trans (local1_ends s2 b e (S b e) (hs b e)))
    (fun e => (locs_hi d1 d2 b e).trans (local1_ends d2 b e (D b e) (hd b e))) n c, h]

/-- A cell of the map of image `b` of the first set of graphs: its node's row, as the reference reads it. -/
theorem cell_lo (x1 x2 : FVec Ideal S16384x128 .f32) (s1 s2 d1 d2 : IVec S262144 32) (m1 m2 : IVec S32x64x64 32) (w1 w2 : FVec Ideal S128x128 .f32) (w3 : FVec Ideal S128x64 .f32)
    (S D : Fin 32 → Fin 8192 → Fin 512) (hs : Cert.ReferenceIdeal.GraphR.Ends s1 S) (hd : Cert.ReferenceIdeal.GraphR.Ends d1 D)
    (hm : ∀ (b : Fin 32) (i j : Fin 64), m1 (ix3 b i j) = -1#32 ∨ ∃ n : Fin 512, m1 (ix3 b i j) = BitVec.ofNat 32 n) (b : Fin 32) (i j c : Fin 64) :
    Out0.out7 (xs x1 x2) (locs s1 s2) (locs d1 d2) (maps m1 m2) w1 w2 w3 (ix3 ⟨b, by omega⟩ ⟨i * 64 + j, by omega⟩ c)
      = Cert.ReferenceIdeal.ConvR.rep (Cert.ReferenceIdeal.GraphR.net x1 s1 d1 w1 w2 w3) m1 (ix4 b c i j) := by
  have e : maps m1 m2 (ix3 ⟨b, by omega⟩ 0 ⟨i * 64 + j, by omega⟩) = m1 (ix3 b i j) := maps_lo m1 m2 b i j
  refine RegG.out7_apply (Out0.row (xs x1 x2) ⟨b, by omega⟩) (Out0.row (locs s1 s2) ⟨b, by omega⟩) (Out0.row (locs d1 d2) ⟨b, by omega⟩) (Out0.row (maps m1 m2) ⟨b, by omega⟩) w1 w2 w3
    ⟨i * 64 + j, by omega⟩ c _ (fun n hn => ?_) (fun h => ?_) ?_
  · rw [Cert.ReferenceIdeal.RepR.rep_node _ _ b c i j n (e.symm.trans hn), Cert.ReferenceIdeal.GraphR.net_apply x1 s1 d1 w1 w2 w3 S D hs hd b n c]
    exact nodes_row_lo x1 x2 s1 s2 d1 d2 w1 w2 w3 S D hs hd b n c
  · exact Cert.ReferenceIdeal.RepR.rep_none _ _ b c i j (e.symm.trans h)
  · rcases hm b i j with h | ⟨n, h⟩
    · exact Or.inl (e.trans h)
    · exact Or.inr ⟨n, e.trans h⟩

/-- A cell of the map of image `b` of the second set of graphs: its node's row, as the reference reads it. -/
theorem cell_hi (x1 x2 : FVec Ideal S16384x128 .f32) (s1 s2 d1 d2 : IVec S262144 32) (m1 m2 : IVec S32x64x64 32) (w1 w2 : FVec Ideal S128x128 .f32) (w3 : FVec Ideal S128x64 .f32)
    (S D : Fin 32 → Fin 8192 → Fin 512) (hs : Cert.ReferenceIdeal.GraphR.Ends s2 S) (hd : Cert.ReferenceIdeal.GraphR.Ends d2 D)
    (hm : ∀ (b : Fin 32) (i j : Fin 64), m2 (ix3 b i j) = -1#32 ∨ ∃ n : Fin 512, m2 (ix3 b i j) = BitVec.ofNat 32 n) (b : Fin 32) (i j c : Fin 64) :
    Out0.out7 (xs x1 x2) (locs s1 s2) (locs d1 d2) (maps m1 m2) w1 w2 w3 (ix3 ⟨32 + b, by omega⟩ ⟨i * 64 + j, by omega⟩ c)
      = Cert.ReferenceIdeal.ConvR.rep (Cert.ReferenceIdeal.GraphR.net x2 s2 d2 w1 w2 w3) m2 (ix4 b c i j) := by
  have e : maps m1 m2 (ix3 ⟨32 + b, by omega⟩ 0 ⟨i * 64 + j, by omega⟩) = m2 (ix3 b i j) := maps_hi m1 m2 b i j
  refine RegG.out7_apply (Out0.row (xs x1 x2) ⟨32 + b, by omega⟩) (Out0.row (locs s1 s2) ⟨32 + b, by omega⟩) (Out0.row (locs d1 d2) ⟨32 + b, by omega⟩) (Out0.row (maps m1 m2) ⟨32 + b, by omega⟩) w1 w2 w3
    ⟨i * 64 + j, by omega⟩ c _ (fun n hn => ?_) (fun h => ?_) ?_
  · rw [Cert.ReferenceIdeal.RepR.rep_node _ _ b c i j n (e.symm.trans hn), Cert.ReferenceIdeal.GraphR.net_apply x2 s2 d2 w1 w2 w3 S D hs hd b n c]
    exact nodes_row_hi x1 x2 s1 s2 d1 d2 w1 w2 w3 S D hs hd b n c
  · exact Cert.ReferenceIdeal.RepR.rep_none _ _ b c i j (e.symm.trans h)
  · rcases hm b i j with h | ⟨n, h⟩
    · exact Or.inl (e.trans h)
    · exact Or.inr ⟨n, e.trans h⟩

/-- The row of node 0 of graph `b`, which the agent's part of the head reads. -/
theorem top_lo (x1 x2 : FVec Ideal S16384x128 .f32) (s1 s2 d1 d2 : IVec S262144 32) (m1 m2 : IVec S32x64x64 32) (w1 w2 : FVec Ideal S128x128 .f32) (w3 : FVec Ideal S128x64 .f32)
    (S D : Fin 32 → Fin 8192 → Fin 512) (hs : Cert.ReferenceIdeal.GraphR.Ends s1 S) (hd : Cert.ReferenceIdeal.GraphR.Ends d1 D) (b : Fin 32) (c : Fin 64) :
    Out0.out8 (xs x1 x2) (locs s1 s2) (locs d1 d2) (maps m1 m2) w1 w2 w3 (ix3 ⟨b, by omega⟩ 0 c)
      = Cert.ReferenceIdeal.GraphR.net x1 s1 d1 w1 w2 w3 (ix2 ⟨b * 512, by omega⟩ c) :=
  (RegG.out8_apply _ _ _ _ w1 w2 w3 c).trans ((nodes_row_lo x1 x2 s1 s2 d1 d2 w1 w2 w3 S D hs hd b 0 c).trans
    (Cert.ReferenceIdeal.GraphR.net_apply x1 s1 d1 w1 w2 w3 S D hs hd b 0 c).symm)

/-- The row of node 0 of graph `b`, which the agent's part of the head reads. -/
theorem top_hi (x1 x2 : FVec Ideal S16384x128 .f32) (s1 s2 d1 d2 : IVec S262144 32) (m1 m2 : IVec S32x64x64 32) (w1 w2 : FVec Ideal S128x128 .f32) (w3 : FVec Ideal S128x64 .f32)
    (S D : Fin 32 → Fin 8192 → Fin 512) (hs : Cert.ReferenceIdeal.GraphR.Ends s2 S) (hd : Cert.ReferenceIdeal.GraphR.Ends d2 D) (b : Fin 32) (c : Fin 64) :
    Out0.out8 (xs x1 x2) (locs s1 s2) (locs d1 d2) (maps m1 m2) w1 w2 w3 (ix3 ⟨32 + b, by omega⟩ 0 c)
      = Cert.ReferenceIdeal.GraphR.net x2 s2 d2 w1 w2 w3 (ix2 ⟨b * 512, by omega⟩ c) :=
  (RegG.out8_apply _ _ _ _ w1 w2 w3 c).trans ((nodes_row_hi x1 x2 s1 s2 d1 d2 w1 w2 w3 S D hs hd b 0 c).trans
    (Cert.ReferenceIdeal.GraphR.net_apply x2 s2 d2 w1 w2 w3 S D hs hd b 0 c).symm)

end Cert.Cells

end
-- ==== Proof.Host1.lean ====
module

public import proofs.«01_k».proof.Proof.IdealFrame
public import Idealize.ShloMosaic.Lib.Pipeline.ValueKit
public import Idealize.ShloMosaic.Lib.Pointwise

@[expose] public section

set_option maxRecDepth 16384

noncomputable section

namespace Cert.KernelIdeal.Host1

open Idealize.ShloMosaic Idealize.ShloMosaic.TcCoe Idealize.SL.Sem
open Cert.KernelIdeal Cert.KernelIdeal.Gen

/-- The first batch of maps. -/
def lo (y : FVec Ideal S64x4096x64 .bf16) : FVec Ideal S32x4096x64 .bf16 := extractStridedSlice S32x4096x64 ![0, 0, 0] y slices_S64x4096x64_S32x4096x64_0_0_0
/-- The second batch of maps. -/
def hi (y : FVec Ideal S64x4096x64 .bf16) : FVec Ideal S32x4096x64 .bf16 := extractStridedSlice S32x4096x64 ![32, 0, 0] y slices_S64x4096x64_S32x4096x64_32_0_0
/-- The first batch of agents' rows. -/
def alo (y : FVec Ideal S64x1x64 .f32) : FVec Ideal S32x1x64 .f32 := extractStridedSlice S32x1x64 ![0, 0, 0] y slices_S64x1x64_S32x1x64_0_0_0
/-- The second batch of agents' rows. -/
def ahi (y : FVec Ideal S64x1x64 .f32) : FVec Ideal S32x1x64 .f32 := extractStridedSlice S32x1x64 ![32, 0, 0] y slices_S64x1x64_S32x1x64_32_0_0
/-- The first layer's taps as rows. -/
def taps1 (w : FVec Ideal S256x64x3x3 .f32) : FVec Ideal S192x768 .bf16 :=
  truncf .bf16 (shapeCast S192x768 (transpose S3x64x3x256 [2, 1, 3, 0] w transposes_S256x64x3x3_S3x64x3x256_2_1_3_0) shapeCasts_S3x64x3x256_S192x768) bitsLt_bf16_f32
/-- The second layer's taps as rows. -/
def taps2 (w : FVec Ideal S128x256x3x3 .f32) : FVec Ideal S768x384 .bf16 :=
  truncf .bf16 (shapeCast S768x384 (transpose S3x256x3x128 [2, 1, 3, 0] w transposes_S128x256x3x3_S3x256x3x128_2_1_3_0) shapeCasts_S3x256x3x128_S768x384) bitsLt_bf16_f32
/-- The third layer's taps as rows. -/
def taps3 (w : FVec Ideal S64x128x3x3 .f32) : FVec Ideal S384x192 .bf16 :=
  truncf .bf16 (shapeCast S384x192 (transpose S3x128x3x64 [2, 1, 3, 0] w transposes_S64x128x3x3_S3x128x3x64_2_1_3_0) shapeCasts_S3x128x3x64_S384x192) bitsLt_bf16_f32
def bias256 (b : FVec Ideal S256 .f32) : FVec Ideal S1x256 .f32 := broadcastInDim S1x256 ![1] bcast_S256_S1x256_1 b
def bias128 (b : FVec Ideal S128 .f32) : FVec Ideal S1x128 .f32 := broadcastInDim S1x128 ![1] bcast_S128_S1x128_1 b
def bias64 (b : FVec Ideal S64 .f32) : FVec Ideal S1x64 .f32 := broadcastInDim S1x64 ![1] bcast_S64_S1x64_1 b
/-- The maps with the channels first. -/
def chw (y : FVec Ideal S32x4096x64 .f32) : FVec Ideal S32x64x64x64 .f32 :=
  transpose S32x64x64x64 [0, 3, 1, 2] (shapeCast S32x64x64x64 y shapeCasts_S32x4096x64_S32x64x64x64) transposes_S32x64x64x64_S32x64x64x64_0_3_1_2

theorem lo_apply (y : FVec Ideal S64x4096x64 .bf16) (b : Fin 32) (p : Fin 4096) (c : Fin 64) : lo y (ix3 b p c) = y (ix3 ⟨b, by omega⟩ p c) := by pointwise [lo]
theorem hi_apply (y : FVec Ideal S64x4096x64 .bf16) (b : Fin 32) (p : Fin 4096) (c : Fin 64) : hi y (ix3 b p c) = y (ix3 ⟨32 + b, by omega⟩ p c) := by pointwise [hi]
theorem alo_apply (y : FVec Ideal S64x1x64 .f32) (b : Fin 32) (c : Fin 64) : alo y (ix3 b 0 c) = y (ix3 ⟨b, by omega⟩ 0 c) := by pointwise [alo]
theorem ahi_apply (y : FVec Ideal S64x1x64 .f32) (b : Fin 32) (c : Fin 64) : ahi y (ix3 b 0 c) = y (ix3 ⟨32 + b, by omega⟩ 0 c) := by pointwise [ahi]
theorem taps1_apply (w : FVec Ideal S256x64x3x3 .f32) (o : Fin 256) (ki kj : Fin 3) (c : Fin 64) :
    taps1 w (ix2 ⟨ki * 64 + c, by omega⟩ ⟨kj * 256 + o, by omega⟩) = w (ix4 o c ki kj) := by pointwise [taps1]
theorem taps2_apply (w : FVec Ideal S128x256x3x3 .f32) (o : Fin 128) (ki kj : Fin 3) (c : Fin 256) :
    taps2 w (ix2 ⟨ki * 256 + c, by omega⟩ ⟨kj * 128 + o, by omega⟩) = w (ix4 o c ki kj) := by pointwise [taps2]
theorem taps3_apply (w : FVec Ideal S64x128x3x3 .f32) (o : Fin 64) (ki kj : Fin 3) (c : Fin 128) :
    taps3 w (ix2 ⟨ki * 128 + c, by omega⟩ ⟨kj * 64 + o, by omega⟩) = w (ix4 o c ki kj) := by pointwise [taps3]
theorem bias256_apply (b : FVec Ideal S256 .f32) (o : Fin 256) : bias256 b (ix2 0 o) = b (ix1 o) := by pointwise [bias256]
theorem bias128_apply (b : FVec Ideal S128 .f32) (o : Fin 128) : bias128 b (ix2 0 o) = b (ix1 o) := by pointwise [bias128]
theorem bias64_apply (b : FVec Ideal S64 .f32) (o : Fin 64) : bias64 b (ix2 0 o) = b (ix1 o) := by pointwise [bias64]
theorem chw_apply (y : FVec Ideal S32x4096x64 .f32) (b : Fin 32) (c i j : Fin 64) : chw y (ix4 b c i j) = y (ix3 b ⟨i * 64 + j, by omega⟩ c) := by pointwise [chw]

variable (m : (ℓ : Loc nD τ sig) → Buf (Elt Ideal) ℓ) (ρ : Dev nD → PrngReg)

theorem v27 (c : Dev nD) : V3 m ρ c main_v27 = lo (W2 m ρ c (Proc.devRef .tc main_v26_0)) := by unfold_abbrev_sides; after_results; try rfl
theorem v28 (c : Dev nD) : V3 m ρ c main_v28 = hi (W2 m ρ c (Proc.devRef .tc main_v26_0)) := by unfold_abbrev_sides; after_results; try rfl
theorem v29 (c : Dev nD) : V3 m ρ c main_v29 = alo (W2 m ρ c (Proc.devRef .tc main_v26_1)) := by unfold_abbrev_sides; after_results; try rfl
theorem v30 (c : Dev nD) : V3 m ρ c main_v30 = ahi (W2 m ρ c (Proc.devRef .tc main_v26_1)) := by unfold_abbrev_sides; after_results; try rfl
theorem v33 (c : Dev nD) : V3 m ρ c main_v33 = taps1 (W2 m ρ c (Proc.devRef .tc main_arg11)) := by unfold_abbrev_sides; after_results; try rfl
theorem v34 (c : Dev nD) : V3 m ρ c main_v34 = bias256 (W2 m ρ c (Proc.devRef .tc main_arg12)) := by unfold_abbrev_sides; after_results; try rfl
theorem v37 (c : Dev nD) : V3 m ρ c main_v37 = taps2 (W2 m ρ c (Proc.devRef .tc main_arg13)) := by unfold_abbrev_sides; after_results; try rfl
theorem v38 (c : Dev nD) : V3 m ρ c main_v38 = bias128 (W2 m ρ c (Proc.devRef .tc main_arg14)) := by unfold_abbrev_sides; after_results; try rfl
theorem v41 (c : Dev nD) : V3 m ρ c main_v41 = taps3 (W2 m ρ c (Proc.devRef .tc main_arg15)) := by unfold_abbrev_sides; after_results; try rfl
theorem v42 (c : Dev nD) : V3 m ρ c main_v42 = bias64 (W2 m ρ c (Proc.devRef .tc main_arg16)) := by unfold_abbrev_sides; after_results; try rfl

theorem v65 (c : Dev nD) : W5 m ρ c (Proc.devRef .tc main_v65) = chw (W4 m ρ c (Proc.devRef .tc main_v63_1)) := by unfold_abbrev_sides; after_results; try rfl

end Cert.KernelIdeal.Host1

end
-- ==== Proof.ConvK.lean ====
module

public import proofs.«01_k».proof.Proof.Gen.KernelIdeal.Skeleton
public import proofs.«01_k».proof.Proof.Img
public import Idealize.ShloMosaic.Lib.Pointwise

@[expose] public section

set_option maxRecDepth 16384

noncomputable section

namespace Cert.KernelIdeal.ConvK

open Idealize.ShloMosaic Idealize.ShloMosaic.TcCoe Idealize.SL.Sem
open Cert.KernelIdeal Cert.KernelIdeal.Gen Cert.Img

/-! ## From 64 channels to 256 -/

/-- The rows above, at and below each row of the image, side by side along the channels. -/
def rows64 (y : FVec Ideal S64x64x64 .bf16) : FVec Ideal S4096x192 .bf16 :=
  shapeCast S4096x192 (concatenate S64x64x192 2
    [⟨S64x64x64, concatenate S64x64x64 0 [⟨S1x64x64, broadcast S1x64x64 (Scalar.ofBits .bf16 0x0000#16 : Ideal .bf16)⟩,
        ⟨S63x64x64, extractStridedSlice S63x64x64 ![0, 0, 0] y slices_S64x64x64_o0_0_0_S63x64x64⟩]
        concatenates_S1x64x64_S63x64x64_S64x64x64_d0⟩,
     ⟨S64x64x64, y⟩,
     ⟨S64x64x64, concatenate S64x64x64 0 [⟨S63x64x64, extractStridedSlice S63x64x64 ![1, 0, 0] y slices_S64x64x64_o1_0_0_S63x64x64⟩,
        ⟨S1x64x64, broadcast S1x64x64 (Scalar.ofBits .bf16 0x0000#16 : Ideal .bf16)⟩]
        concatenates_S63x64x64_S1x64x64_S64x64x64_d0⟩]
    concatenates_S64x64x64_S64x64x64_S64x64x64_S64x64x192_d2) shapeCasts_S64x64x192_S4096x192

/-- Those rows against the weights, pixel by pixel. -/
def mm64 (y : FVec Ideal S4096x192 .bf16) (w : FVec Ideal S192x768 .bf16) : FVec Ideal S4096x768 .f32 :=
  matmul dot_S4096x192_S192x768_S4096x768_1_0_0_1_n_n none y
    (shapeCast S192x768 w shapeCasts_S192x768_S192x768) (constant S4096x768 .f32 0x00000000#32)

/-- The bias and the three column shifts added up. -/
def sum256 (z : FVec Ideal S4096x768 .f32) (b : FVec Ideal S1x256 .f32) : FVec Ideal S4096x256 .f32 :=
  have z : FVec Ideal S64x64x768 .f32 := shapeCast S64x64x768 z shapeCasts_S4096x768_S64x64x768
  shapeCast S4096x256 (addf (addf (addf
    (broadcastTo S64x64x256 (shapeCast S1x1x256 (shapeCast S1x256 b shapeCasts_S1x256_S1x256) shapeCasts_S1x256_S1x1x256) broadcasts_S1x1x256_S64x64x256)
    (concatenate S64x64x256 1 [⟨S64x1x256, broadcast S64x1x256 (Scalar.ofBits .f32 0x00000000#32 : Ideal .f32)⟩,
      ⟨S64x63x256, extractStridedSlice S64x63x256 ![0, 0, 0] (extractStridedSlice S64x64x256 ![0, 0, 0] z slices_S64x64x768_o0_0_0_S64x64x256)
        slices_S64x64x256_o0_0_0_S64x63x256⟩] concatenates_S64x1x256_S64x63x256_S64x64x256_d1))
    (extractStridedSlice S64x64x256 ![0, 0, 256] z slices_S64x64x768_o0_0_256_S64x64x256))
    (concatenate S64x64x256 1 [⟨S64x63x256, extractStridedSlice S64x63x256 ![0, 1, 0]
        (extractStridedSlice S64x64x256 ![0, 0, 512] z slices_S64x64x768_o0_0_512_S64x64x256) slices_S64x64x256_o0_1_0_S64x63x256⟩,
      ⟨S64x1x256, broadcast S64x1x256 (Scalar.ofBits .f32 0x00000000#32 : Ideal .f32)⟩] concatenates_S64x63x256_S64x1x256_S64x64x256_d1))
    shapeCasts_S64x64x256_S4096x256

/-- The rows at pixel `(i, j)`, in block `k` of the channels: pixel `(i + k, j + 1)` of the padded image. -/
theorem rows64_apply (y : FVec Ideal S64x64x64 .bf16) (i j : Fin 64) (k : Fin 3) (c : Fin 64) :
    rows64 y (ix2 ⟨i * 64 + j, by omega⟩ ⟨k * 64 + c, by omega⟩) = pd (fun i j c => y (ix3 i j c)) (i + k) (j + 1) c := by
  pointwise [rows64]
  unfold pd
  split_ifs <;> first | omega | rfl | (rw [dif_neg (by omega)]) | (rw [dif_pos (by omega)]; refine congrArg y (congr (congr (congrArg ix3 (Fin.ext ?_)) (Fin.ext ?_)) (Fin.ext ?_)) <;> (try dsimp only) <;> omega)

/-- The product at pixel `(i, j)`, as one sum per block of the channels. -/
theorem mm64_apply (y : FVec Ideal S64x64x64 .bf16) (w : FVec Ideal S192x768 .bf16) (i j : Fin 64) (o : Fin 768) :
    mm64 (rows64 y) w (ix2 ⟨i * 64 + j, by omega⟩ o)
      = ∑ k : Fin 3, ∑ c : Fin 64, pd (fun i j c => y (ix3 i j c)) (i + k) (j + 1) c * w (ix2 ⟨k * 64 + c, by omega⟩ o) := by
  pointwise [mm64]
  rw [Fin.sum_univ_tiles 3 64 rfl]
  exact Finset.sum_congr rfl fun k _ => Finset.sum_congr rfl fun c _ => by rw [← rows64_apply]

/-- The sum of the shifts at pixel `(i, j)`. -/
theorem sum256_apply (z : FVec Ideal S4096x768 .f32) (b : FVec Ideal S1x256 .f32) (i j : Fin 64) (o : Fin 256) :
    sum256 z b (ix2 ⟨i * 64 + j, by omega⟩ o)
      = ((b (ix2 0 o) + if h : (j : ℕ) < 1 then 0 else z (ix2 ⟨i * 64 + (j - 1), by omega⟩ ⟨o, by omega⟩))
        + z (ix2 ⟨i * 64 + j, by omega⟩ ⟨256 + o, by omega⟩))
        + if h : (j : ℕ) < 63 then z (ix2 ⟨i * 64 + (1 + j), by omega⟩ ⟨512 + o, by omega⟩) else 0 := by
  pointwise [sum256]

/-- The whole layer at pixel `(i, j)`: the correlation of the padded image. -/
theorem conv256 (y : FVec Ideal S64x64x64 .bf16) (w : FVec Ideal S192x768 .bf16) (b : FVec Ideal S1x256 .f32) (i j : Fin 64) (o : Fin 256) :
    sum256 (mm64 (rows64 y) w) b (ix2 ⟨i * 64 + j, by omega⟩ o)
      = conv3 (pd fun i j c => y (ix3 i j c)) (fun ki kj c => w (ix2 ⟨ki * 64 + c, by omega⟩ ⟨kj * 256 + o, by omega⟩)) (b (ix2 0 o)) i j := by
  rw [sum256_apply, conv3_cols]
  have h1 := mm64_apply y w i j ⟨256 + o, by omega⟩
  congr 1
  · congr 1
    · congr 1
      split_ifs with h
      · rw [sum_border]
        intro a c
        simp [pd, show (j : ℕ) = 0 by omega]
      · have h0 := mm64_apply y w i ⟨j - 1, by omega⟩ ⟨o, by omega⟩
        simp only [Nat.sub_add_cancel (show 1 ≤ (j : ℕ) by omega)] at h0
        rw [h0]
        simp
  · split_ifs with h
    · have h2 := mm64_apply y w i ⟨1 + j, by omega⟩ ⟨512 + o, by omega⟩
      rw [h2]
      simp [show 1 + (j : ℕ) + 1 = j + 2 by omega]
    · rw [sum_border]
      intro a c
      simp [pd, show (j : ℕ) = 63 by omega]

/-! ## From 256 channels to 128 -/

/-- The rows above, at and below each row of the image, side by side along the channels. -/
def rows256 (y : FVec Ideal S64x64x256 .bf16) : FVec Ideal S4096x768 .bf16 :=
  shapeCast S4096x768 (concatenate S64x64x768 2
    [⟨S64x64x256, concatenate S64x64x256 0 [⟨S1x64x256, broadcast S1x64x256 (Scalar.ofBits .bf16 0x0000#16 : Ideal .bf16)⟩,
        ⟨S63x64x256, extractStridedSlice S63x64x256 ![0, 0, 0] y slices_S64x64x256_o0_0_0_S63x64x256⟩]
        concatenates_S1x64x256_S63x64x256_S64x64x256_d0⟩,
     ⟨S64x64x256, y⟩,
     ⟨S64x64x256, concatenate S64x64x256 0 [⟨S63x64x256, extractStridedSlice S63x64x256 ![1, 0, 0] y slices_S64x64x256_o1_0_0_S63x64x256⟩,
        ⟨S1x64x256, broadcast S1x64x256 (Scalar.ofBits .bf16 0x0000#16 : Ideal .bf16)⟩]
        concatenates_S63x64x256_S1x64x256_S64x64x256_d0⟩]
    concatenates_S64x64x256_S64x64x256_S64x64x256_S64x64x768_d2) shapeCasts_S64x64x768_S4096x768

/-- Those rows against the weights, pixel by pixel. -/
def mm256 (y : FVec Ideal S4096x768 .bf16) (w : FVec Ideal S768x384 .bf16) : FVec Ideal S4096x384 .f32 :=
  matmul dot_S4096x768_S768x384_S4096x384_1_0_0_1_n_n none y
    (shapeCast S768x384 w shapeCasts_S768x384_S768x384) (constant S4096x384 .f32 0x00000000#32)

/-- The bias and the three column shifts added up. -/
def sum128 (z : FVec Ideal S4096x384 .f32) (b : FVec Ideal S1x128 .f32) : FVec Ideal S4096x128 .f32 :=
  have z : FVec Ideal S64x64x384 .f32 := shapeCast S64x64x384 z shapeCasts_S4096x384_S64x64x384
  shapeCast S4096x128 (addf (addf (addf
    (broadcastTo S64x64x128 (shapeCast S1x1x128 (shapeCast S1x128 b shapeCasts_S1x128_S1x128) shapeCasts_S1x128_S1x1x128) broadcasts_S1x1x128_S64x64x128)
    (concatenate S64x64x128 1 [⟨S64x1x128, broadcast S64x1x128 (Scalar.ofBits .f32 0x00000000#32 : Ideal .f32)⟩,
      ⟨S64x63x128, extractStridedSlice S64x63x128 ![0, 0, 0] (extractStridedSlice S64x64x128 ![0, 0, 0] z slices_S64x64x384_o0_0_0_S64x64x128)
        slices_S64x64x128_o0_0_0_S64x63x128⟩] concatenates_S64x1x128_S64x63x128_S64x64x128_d1))
    (extractStridedSlice S64x64x128 ![0, 0, 128] z slices_S64x64x384_o0_0_128_S64x64x128))
    (concatenate S64x64x128 1 [⟨S64x63x128, extractStridedSlice S64x63x128 ![0, 1, 0]
        (extractStridedSlice S64x64x128 ![0, 0, 256] z slices_S64x64x384_o0_0_256_S64x64x128) slices_S64x64x128_o0_1_0_S64x63x128⟩,
      ⟨S64x1x128, broadcast S64x1x128 (Scalar.ofBits .f32 0x00000000#32 : Ideal .f32)⟩] concatenates_S64x63x128_S64x1x128_S64x64x128_d1))
    shapeCasts_S64x64x128_S4096x128

/-- The rows at pixel `(i, j)`, in block `k` of the channels: pixel `(i + k, j + 1)` of the padded image. -/
theorem rows256_apply (y : FVec Ideal S64x64x256 .bf16) (i j : Fin 64) (k : Fin 3) (c : Fin 256) :
    rows256 y (ix2 ⟨i * 64 + j, by omega⟩ ⟨k * 256 + c, by omega⟩) = pd (fun i j c => y (ix3 i j c)) (i + k) (j + 1) c := by
  pointwise [rows256]
  unfold pd
  split_ifs <;> first | omega | rfl | (rw [dif_neg (by omega)]) | (rw [dif_pos (by omega)]; refine congrArg y (congr (congr (congrArg ix3 (Fin.ext ?_)) (Fin.ext ?_)) (Fin.ext ?_)) <;> (try dsimp only) <;> omega)

/-- The product at pixel `(i, j)`, as one sum per block of the channels. -/
theorem mm256_apply (y : FVec Ideal S64x64x256 .bf16) (w : FVec Ideal S768x384 .bf16) (i j : Fin 64) (o : Fin 384) :
    mm256 (rows256 y) w (ix2 ⟨i * 64 + j, by omega⟩ o)
      = ∑ k : Fin 3, ∑ c : Fin 256, pd (fun i j c => y (ix3 i j c)) (i + k) (j + 1) c * w (ix2 ⟨k * 256 + c, by omega⟩ o) := by
  pointwise [mm256]
  rw [Fin.sum_univ_tiles 3 256 rfl]
  exact Finset.sum_congr rfl fun k _ => Finset.sum_congr rfl fun c _ => by rw [← rows256_apply]

/-- The sum of the shifts at pixel `(i, j)`. -/
theorem sum128_apply (z : FVec Ideal S4096x384 .f32) (b : FVec Ideal S1x128 .f32) (i j : Fin 64) (o : Fin 128) :
    sum128 z b (ix2 ⟨i * 64 + j, by omega⟩ o)
      = ((b (ix2 0 o) + if h : (j : ℕ) < 1 then 0 else z (ix2 ⟨i * 64 + (j - 1), by omega⟩ ⟨o, by omega⟩))
        + z (ix2 ⟨i * 64 + j, by omega⟩ ⟨128 + o, by omega⟩))
        + if h : (j : ℕ) < 63 then z (ix2 ⟨i * 64 + (1 + j), by omega⟩ ⟨256 + o, by omega⟩) else 0 := by
  pointwise [sum128]

/-- The whole layer at pixel `(i, j)`: the correlation of the padded image. -/
theorem conv128 (y : FVec Ideal S64x64x256 .bf16) (w : FVec Ideal S768x384 .bf16) (b : FVec Ideal S1x128 .f32) (i j : Fin 64) (o : Fin 128) :
    sum128 (mm256 (rows256 y) w) b (ix2 ⟨i * 64 + j, by omega⟩ o)
      = conv3 (pd fun i j c => y (ix3 i j c)) (fun ki kj c => w (ix2 ⟨ki * 256 + c, by omega⟩ ⟨kj * 128 + o, by omega⟩)) (b (ix2 0 o)) i j := by
  rw [sum128_apply, conv3_cols]
  have h1 := mm256_apply y w i j ⟨128 + o, by omega⟩
  congr 1
  · congr 1
    · congr 1
      split_ifs with h
      · rw [sum_border]
        intro a c
        simp [pd, show (j : ℕ) = 0 by omega]
      · have h0 := mm256_apply y w i ⟨j - 1, by omega⟩ ⟨o, by omega⟩
        simp only [Nat.sub_add_cancel (show 1 ≤ (j : ℕ) by omega)] at h0
        rw [h0]
        simp
  · split_ifs with h
    · have h2 := mm256_apply y w i ⟨1 + j, by omega⟩ ⟨256 + o, by omega⟩
      rw [h2]
      simp [show 1 + (j : ℕ) + 1 = j + 2 by omega]
    · rw [sum_border]
      intro a c
      simp [pd, show (j : ℕ) = 63 by omega]

/-! ## From 128 channels to 64 -/

/-- The rows above, at and below each row of the image, side by side along the channels. -/
def rows128 (y : FVec Ideal S64x64x128 .bf16) : FVec Ideal S4096x384 .bf16 :=
  shapeCast S4096x384 (concatenate S64x64x384 2
    [⟨S64x64x128, concatenate S64x64x128 0 [⟨S1x64x128, broadcast S1x64x128 (Scalar.ofBits .bf16 0x0000#16 : Ideal .bf16)⟩,
        ⟨S63x64x128, extractStridedSlice S63x64x128 ![0, 0, 0] y slices_S64x64x128_o0_0_0_S63x64x128⟩]
        concatenates_S1x64x128_S63x64x128_S64x64x128_d0⟩,
     ⟨S64x64x128, y⟩,
     ⟨S64x64x128, concatenate S64x64x128 0 [⟨S63x64x128, extractStridedSlice S63x64x128 ![1, 0, 0] y slices_S64x64x128_o1_0_0_S63x64x128⟩,
        ⟨S1x64x128, broadcast S1x64x128 (Scalar.ofBits .bf16 0x0000#16 : Ideal .bf16)⟩]
        concatenates_S63x64x128_S1x64x128_S64x64x128_d0⟩]
    concatenates_S64x64x128_S64x64x128_S64x64x128_S64x64x384_d2) shapeCasts_S64x64x384_S4096x384

/-- Those rows against the weights, pixel by pixel. -/
def mm128 (y : FVec Ideal S4096x384 .bf16) (w : FVec Ideal S384x192 .bf16) : FVec Ideal S4096x192 .f32 :=
  matmul dot_S4096x384_S384x192_S4096x192_1_0_0_1_n_n none y
    (shapeCast S384x192 w shapeCasts_S384x192_S384x192) (constant S4096x192 .f32 0x00000000#32)

/-- The bias and the three column shifts added up. -/
def sum64 (z : FVec Ideal S4096x192 .f32) (b : FVec Ideal S1x64 .f32) : FVec Ideal S4096x64 .f32 :=
  have z : FVec Ideal S64x64x192 .f32 := shapeCast S64x64x192 z shapeCasts_S4096x192_S64x64x192
  shapeCast S4096x64 (addf (addf (addf
    (broadcastTo S64x64x64 (shapeCast S1x1x64 (shapeCast S1x64 b shapeCasts_S1x64_S1x64) shapeCasts_S1x64_S1x1x64) broadcasts_S1x1x64_S64x64x64)
    (concatenate S64x64x64 1 [⟨S64x1x64, broadcast S64x1x64 (Scalar.ofBits .f32 0x00000000#32 : Ideal .f32)⟩,
      ⟨S64x63x64, extractStridedSlice S64x63x64 ![0, 0, 0] (extractStridedSlice S64x64x64 ![0, 0, 0] z slices_S64x64x192_o0_0_0_S64x64x64)
        slices_S64x64x64_o0_0_0_S64x63x64⟩] concatenates_S64x1x64_S64x63x64_S64x64x64_d1))
    (extractStridedSlice S64x64x64 ![0, 0, 64] z slices_S64x64x192_o0_0_64_S64x64x64))
    (concatenate S64x64x64 1 [⟨S64x63x64, extractStridedSlice S64x63x64 ![0, 1, 0]
        (extractStridedSlice S64x64x64 ![0, 0, 128] z slices_S64x64x192_o0_0_128_S64x64x64) slices_S64x64x64_o0_1_0_S64x63x64⟩,
      ⟨S64x1x64, broadcast S64x1x64 (Scalar.ofBits .f32 0x00000000#32 : Ideal .f32)⟩] concatenates_S64x63x64_S64x1x64_S64x64x64_d1))
    shapeCasts_S64x64x64_S4096x64

/-- The rows at pixel `(i, j)`, in block `k` of the channels: pixel `(i + k, j + 1)` of the padded image. -/
theorem rows128_apply (y : FVec Ideal S64x64x128 .bf16) (i j : Fin 64) (k : Fin 3) (c : Fin 128) :
    rows128 y (ix2 ⟨i * 64 + j, by omega⟩ ⟨k * 128 + c, by omega⟩) = pd (fun i j c => y (ix3 i j c)) (i + k) (j + 1) c := by
  pointwise [rows128]
  unfold pd
  split_ifs <;> first | omega | rfl | (rw [dif_neg (by omega)]) | (rw [dif_pos (by omega)]; refine congrArg y (congr (congr (congrArg ix3 (Fin.ext ?_)) (Fin.ext ?_)) (Fin.ext ?_)) <;> (try dsimp only) <;> omega)

/-- The product at pixel `(i, j)`, as one sum per block of the channels. -/
theorem mm128_apply (y : FVec Ideal S64x64x128 .bf16) (w : FVec Ideal S384x192 .bf16) (i j : Fin 64) (o : Fin 192) :
    mm128 (rows128 y) w (ix2 ⟨i * 64 + j, by omega⟩ o)
      = ∑ k : Fin 3, ∑ c : Fin 128, pd (fun i j c => y (ix3 i j c)) (i + k) (j + 1) c * w (ix2 ⟨k * 128 + c, by omega⟩ o) := by
  pointwise [mm128]
  rw [Fin.sum_univ_tiles 3 128 rfl]
  exact Finset.sum_congr rfl fun k _ => Finset.sum_congr rfl fun c _ => by rw [← rows128_apply]

/-- The sum of the shifts at pixel `(i, j)`. -/
theorem sum64_apply (z : FVec Ideal S4096x192 .f32) (b : FVec Ideal S1x64 .f32) (i j : Fin 64) (o : Fin 64) :
    sum64 z b (ix2 ⟨i * 64 + j, by omega⟩ o)
      = ((b (ix2 0 o) + if h : (j : ℕ) < 1 then 0 else z (ix2 ⟨i * 64 + (j - 1), by omega⟩ ⟨o, by omega⟩))
        + z (ix2 ⟨i * 64 + j, by omega⟩ ⟨64 + o, by omega⟩))
        + if h : (j : ℕ) < 63 then z (ix2 ⟨i * 64 + (1 + j), by omega⟩ ⟨128 + o, by omega⟩) else 0 := by
  pointwise [sum64]

/-- The whole layer at pixel `(i, j)`: the correlation of the padded image. -/
theorem conv64 (y : FVec Ideal S64x64x128 .bf16) (w : FVec Ideal S384x192 .bf16) (b : FVec Ideal S1x64 .f32) (i j : Fin 64) (o : Fin 64) :
    sum64 (mm128 (rows128 y) w) b (ix2 ⟨i * 64 + j, by omega⟩ o)
      = conv3 (pd fun i j c => y (ix3 i j c)) (fun ki kj c => w (ix2 ⟨ki * 128 + c, by omega⟩ ⟨kj * 64 + o, by omega⟩)) (b (ix2 0 o)) i j := by
  rw [sum64_apply, conv3_cols]
  have h1 := mm128_apply y w i j ⟨64 + o, by omega⟩
  congr 1
  · congr 1
    · congr 1
      split_ifs with h
      · rw [sum_border]
        intro a c
        simp [pd, show (j : ℕ) = 0 by omega]
      · have h0 := mm128_apply y w i ⟨j - 1, by omega⟩ ⟨o, by omega⟩
        simp only [Nat.sub_add_cancel (show 1 ≤ (j : ℕ) by omega)] at h0
        rw [h0]
        simp
  · split_ifs with h
    · have h2 := mm128_apply y w i ⟨1 + j, by omega⟩ ⟨128 + o, by omega⟩
      rw [h2]
      simp [show 1 + (j : ℕ) + 1 = j + 2 by omega]
    · rw [sum_border]
      intro a c
      simp [pd, show (j : ℕ) = 63 by omega]

/-- The positive part, as an image for the next layer. -/
def relu256 (z : FVec Ideal S4096x256 .f32) : FVec Ideal S64x64x256 .bf16 :=
  truncf .bf16 (shapeCast S64x64x256 (maximumf z (broadcast S4096x256 (Scalar.ofBits .f32 0x00000000#32 : Ideal .f32)))
    shapeCasts_S4096x256_S64x64x256) bitsLt_bf16_f32

/-- The positive part at pixel `(i, j)`. -/
theorem relu256_apply (z : FVec Ideal S4096x256 .f32) (i j : Fin 64) (o : Fin 256) :
    relu256 z (ix3 i j o) = max (z (ix2 ⟨i * 64 + j, by omega⟩ o)) 0 := by
  pointwise [relu256]

/-- The positive part, as an image for the next layer. -/
def relu128 (z : FVec Ideal S4096x128 .f32) : FVec Ideal S64x64x128 .bf16 :=
  truncf .bf16 (shapeCast S64x64x128 (maximumf z (broadcast S4096x128 (Scalar.ofBits .f32 0x00000000#32 : Ideal .f32)))
    shapeCasts_S4096x128_S64x64x128) bitsLt_bf16_f32

/-- The positive part at pixel `(i, j)`. -/
theorem relu128_apply (z : FVec Ideal S4096x128 .f32) (i j : Fin 64) (o : Fin 128) :
    relu128 z (ix3 i j o) = max (z (ix2 ⟨i * 64 + j, by omega⟩ o)) 0 := by
  pointwise [relu128]

/-- A block of the map as an image. -/
def img (x : FVec Ideal S1x4096x64 .bf16) : FVec Ideal S64x64x64 .bf16 :=
  shapeCast S64x64x64 (shapeCast S4096x64 x shapeCasts_S1x4096x64_S4096x64) shapeCasts_S4096x64_S64x64x64

/-- The block at pixel `(i, j)`. -/
theorem img_apply (x : FVec Ideal S1x4096x64 .bf16) (i j : Fin 64) (c : Fin 64) :
    img x (ix3 i j c) = x (ix3 0 ⟨i * 64 + j, by omega⟩ c) := by
  pointwise [img]

/-- The three layers on a block of the map. -/
def rm (x : FVec Ideal S1x4096x64 .bf16) (w1 : FVec Ideal S192x768 .bf16) (b1 : FVec Ideal S1x256 .f32)
    (w2 : FVec Ideal S768x384 .bf16) (b2 : FVec Ideal S1x128 .f32) (w3 : FVec Ideal S384x192 .bf16) (b3 : FVec Ideal S1x64 .f32) : FVec Ideal S4096x64 .f32 :=
  tanh (sum64 (mm128 (rows128 (relu128 (sum128 (mm256 (rows256 (relu256 (sum256 (mm64 (rows64 (img x)) w1) b1))) w2) b2))) w3) b3)

/-- The head call's first stack of layers is `rm`. -/
theorem pay6_eq (x : FVec Ideal S1x4096x64 .bf16) (w1 : FVec Ideal S192x768 .bf16) (b1 : FVec Ideal S1x256 .f32)
    (w2 : FVec Ideal S768x384 .bf16) (b2 : FVec Ideal S1x128 .f32) (w3 : FVec Ideal S384x192 .bf16) (b3 : FVec Ideal S1x64 .f32) :
    k1_pay6 (F := Ideal) (k1_pay3 (k1_pay2 x w1 b1) w2 b2 w3) (k1_pay4 b3) (k1_pay5 (k1_pay2 x w1 b1) w2 b2 w3)
      = rm x w1 b1 w2 b2 w3 b3 := rfl

/-- The head call's second stack of layers is `rm`. -/
theorem pay9_eq (x : FVec Ideal S1x4096x64 .bf16) (w1 : FVec Ideal S192x768 .bf16) (b1 : FVec Ideal S1x256 .f32)
    (w2 : FVec Ideal S768x384 .bf16) (b2 : FVec Ideal S1x128 .f32) (w3 : FVec Ideal S384x192 .bf16) (b3 : FVec Ideal S1x64 .f32) :
    k1_pay9 (F := Ideal) (k1_pay8 (k1_pay7 x w1 b1) w2 b2 w3) b3 = rm x w1 b1 w2 b2 w3 b3 := rfl

/-- The three layers at pixel `(i, j)`. -/
theorem rm_apply (x : FVec Ideal S1x4096x64 .bf16) (w1 : FVec Ideal S192x768 .bf16) (b1 : FVec Ideal S1x256 .f32)
    (w2 : FVec Ideal S768x384 .bf16) (b2 : FVec Ideal S1x128 .f32) (w3 : FVec Ideal S384x192 .bf16) (b3 : FVec Ideal S1x64 .f32)
    (i j : Fin 64) (o : Fin 64) :
    rm x w1 b1 w2 b2 w3 b3 (ix2 ⟨i * 64 + j, by omega⟩ o)
      = stack (fun i j c => x (ix3 0 ⟨i * 64 + j, by omega⟩ c))
          (fun o ki kj c => w1 (ix2 ⟨ki * 64 + c, by omega⟩ ⟨kj * 256 + o, by omega⟩)) (fun o => b1 (ix2 0 o))
          (fun o ki kj c => w2 (ix2 ⟨ki * 256 + c, by omega⟩ ⟨kj * 128 + o, by omega⟩)) (fun o => b2 (ix2 0 o))
          (fun o ki kj c => w3 (ix2 ⟨ki * 128 + c, by omega⟩ ⟨kj * 64 + o, by omega⟩)) (fun o => b3 (ix2 0 o)) i j o := by
  unfold rm stack layer
  rw [tanh_apply, conv64]
  simp only [relu128_apply, conv128, relu256_apply, conv256, img_apply]
  rfl

end Cert.KernelIdeal.ConvK

end
-- ==== Proof.Out1.lean ====
module

public import proofs.«01_k».proof.Proof.Out0
public import proofs.«01_k».proof.Proof.ConvK
public import proofs.«01_k».proof.Proof.IdealFrame
public import Idealize.ShloMosaic.Lib.Pipeline.ValueKit
public import Idealize.ShloMosaic.Lib.Pointwise

@[expose] public section

set_option maxRecDepth 16384

noncomputable section

namespace Cert.KernelIdeal.Out1

open Idealize.ShloMosaic Idealize.ShloMosaic.TcCoe Idealize.SL.Sem
open Cert.KernelIdeal Cert.KernelIdeal.Gen
open Cert.KernelIdeal.Out0 (row)

/-- The representation map the second call leaves, over the arrays it reads. -/
def out23 (Y : Vec Ideal S32x4096x64 .bf16) (w1 : Vec Ideal S192x768 .bf16) (b1 : Vec Ideal S1x256 .f32) (w2 : Vec Ideal S768x384 .bf16) (b2 : Vec Ideal S1x128 .f32)
    (w3 : Vec Ideal S384x192 .bf16) (b3 : Vec Ideal S1x64 .f32) : Vec Ideal S32x4096x64 .f32 := fun i => ConvK.rm (row Y (i 0)) w1 b1 w2 b2 w3 b3 (ix2 (i 1) (i 2))

variable (V : (c : Dev nD) → (b : Ref sig .tc) → Buf (Elt Ideal) ((c : Thread nD τ).loc b))

theorem idx0 : ∀ t : Fin cfg1.N, (cfg1.win 0).index t (0 : Fin 3) = t.val ∧ (cfg1.win 0).index t (1 : Fin 3) = 0 ∧ (cfg1.win 0).index t (2 : Fin 3) = 0 := by
  decide +kernel

theorem idx1 : ∀ t : Fin cfg1.N, (cfg1.win 1).index t (0 : Fin 3) = t.val ∧ (cfg1.win 1).index t (1 : Fin 3) = 0 ∧ (cfg1.win 1).index t (2 : Fin 3) = 0 := by
  decide +kernel

theorem idx2 : ∀ t : Fin cfg1.N, (cfg1.win 2).index t (0 : Fin 3) = t.val ∧ (cfg1.win 2).index t (1 : Fin 3) = 0 ∧ (cfg1.win 2).index t (2 : Fin 3) = 0 := by
  decide +kernel

theorem idx3 : ∀ t : Fin cfg1.N, (cfg1.win 3).index t (0 : Fin 3) = t.val ∧ (cfg1.win 3).index t (1 : Fin 3) = 0 ∧ (cfg1.win 3).index t (2 : Fin 3) = 0 := by
  decide +kernel

theorem idx4 : ∀ t : Fin cfg1.N, (cfg1.win 4).index t (0 : Fin 2) = 0 ∧ (cfg1.win 4).index t (1 : Fin 2) = 0 := by
  decide +kernel

theorem idx5 : ∀ t : Fin cfg1.N, (cfg1.win 5).index t (0 : Fin 2) = 0 ∧ (cfg1.win 5).index t (1 : Fin 2) = 0 := by
  decide +kernel

theorem idx6 : ∀ t : Fin cfg1.N, (cfg1.win 6).index t (0 : Fin 2) = 0 ∧ (cfg1.win 6).index t (1 : Fin 2) = 0 := by
  decide +kernel

theorem idx7 : ∀ t : Fin cfg1.N, (cfg1.win 7).index t (0 : Fin 2) = 0 ∧ (cfg1.win 7).index t (1 : Fin 2) = 0 := by
  decide +kernel

theorem idx8 : ∀ t : Fin cfg1.N, (cfg1.win 8).index t (0 : Fin 2) = 0 ∧ (cfg1.win 8).index t (1 : Fin 2) = 0 := by
  decide +kernel

theorem idx9 : ∀ t : Fin cfg1.N, (cfg1.win 9).index t (0 : Fin 2) = 0 ∧ (cfg1.win 9).index t (1 : Fin 2) = 0 := by
  decide +kernel

theorem idx10 : ∀ t : Fin cfg1.N, (cfg1.win 10).index t (0 : Fin 2) = 0 ∧ (cfg1.win 10).index t (1 : Fin 2) = 0 := by
  decide +kernel

theorem idx11 : ∀ t : Fin cfg1.N, (cfg1.win 11).index t (0 : Fin 2) = 0 ∧ (cfg1.win 11).index t (1 : Fin 2) = 0 := by
  decide +kernel

theorem idx12 : ∀ t : Fin cfg1.N, (cfg1.win 12).index t (0 : Fin 3) = 0 ∧ (cfg1.win 12).index t (1 : Fin 3) = 0 ∧ (cfg1.win 12).index t (2 : Fin 3) = 0 := by
  decide +kernel

theorem idx13 : ∀ t : Fin cfg1.N, (cfg1.win 13).index t (0 : Fin 2) = 0 ∧ (cfg1.win 13).index t (1 : Fin 2) = 0 := by
  decide +kernel

theorem idx14 : ∀ t : Fin cfg1.N, (cfg1.win 14).index t (0 : Fin 3) = 0 ∧ (cfg1.win 14).index t (1 : Fin 3) = 0 ∧ (cfg1.win 14).index t (2 : Fin 3) = 0 := by
  decide +kernel

theorem idx15 : ∀ t : Fin cfg1.N, (cfg1.win 15).index t (0 : Fin 2) = 0 ∧ (cfg1.win 15).index t (1 : Fin 2) = 0 := by
  decide +kernel

theorem idx16 : ∀ t : Fin cfg1.N, (cfg1.win 16).index t (0 : Fin 3) = 0 ∧ (cfg1.win 16).index t (1 : Fin 3) = 0 ∧ (cfg1.win 16).index t (2 : Fin 3) = 0 := by
  decide +kernel

theorem idx17 : ∀ t : Fin cfg1.N, (cfg1.win 17).index t (0 : Fin 2) = 0 ∧ (cfg1.win 17).index t (1 : Fin 2) = 0 := by
  decide +kernel

theorem idx18 : ∀ t : Fin cfg1.N, (cfg1.win 18).index t (0 : Fin 2) = 0 ∧ (cfg1.win 18).index t (1 : Fin 2) = 0 := by
  decide +kernel

theorem idx19 : ∀ t : Fin cfg1.N, (cfg1.win 19).index t (0 : Fin 2) = 0 ∧ (cfg1.win 19).index t (1 : Fin 2) = 0 := by
  decide +kernel

theorem idx20 : ∀ t : Fin cfg1.N, (cfg1.win 20).index t (0 : Fin 2) = 0 ∧ (cfg1.win 20).index t (1 : Fin 2) = 0 := by
  decide +kernel

theorem idx21 : ∀ t : Fin cfg1.N, (cfg1.win 21).index t (0 : Fin 2) = 0 ∧ (cfg1.win 21).index t (1 : Fin 2) = 0 := by
  decide +kernel

theorem idx22 : ∀ t : Fin cfg1.N, (cfg1.win 22).index t (0 : Fin 4) = t.val ∧ (cfg1.win 22).index t (1 : Fin 4) = 0 ∧ (cfg1.win 22).index t (2 : Fin 4) = 0 ∧ (cfg1.win 22).index t (3 : Fin 4) = 0 := by
  decide +kernel

theorem idx23 : ∀ t : Fin cfg1.N, (cfg1.win 23).index t (0 : Fin 3) = t.val ∧ (cfg1.win 23).index t (1 : Fin 3) = 0 ∧ (cfg1.win 23).index t (2 : Fin 3) = 0 := by
  decide +kernel

theorem blk0 (c : Dev nD) (t : Fin cfg1.N) : iblk1 V c 0 t = row (V c main_v27) ⟨t.val, t.isLt⟩ := by
  funext y
  unfold row
  blk_ext [iblk1, idx0 t]

theorem blk1 (c : Dev nD) (t : Fin cfg1.N) : iblk1 V c 1 t = row (V c main_v28) ⟨t.val, t.isLt⟩ := by
  funext y
  unfold row
  blk_ext [iblk1, idx1 t]

theorem blk2 (c : Dev nD) (t : Fin cfg1.N) : iblk1 V c 2 t = row (V c main_v29) ⟨t.val, t.isLt⟩ := by
  funext y
  unfold row
  blk_ext [iblk1, idx2 t]

theorem blk3 (c : Dev nD) (t : Fin cfg1.N) : iblk1 V c 3 t = row (V c main_v30) ⟨t.val, t.isLt⟩ := by
  funext y
  unfold row
  blk_ext [iblk1, idx3 t]

theorem blk4 (c : Dev nD) (t : Fin cfg1.N) : iblk1 V c 4 t = V c main_v33 := by blk_ext! [iblk1, idx4 t]

theorem blk5 (c : Dev nD) (t : Fin cfg1.N) : iblk1 V c 5 t = V c main_v34 := by blk_ext! [iblk1, idx5 t]

theorem blk6 (c : Dev nD) (t : Fin cfg1.N) : iblk1 V c 6 t = V c main_v37 := by blk_ext! [iblk1, idx6 t]

theorem blk7 (c : Dev nD) (t : Fin cfg1.N) : iblk1 V c 7 t = V c main_v38 := by blk_ext! [iblk1, idx7 t]

theorem blk8 (c : Dev nD) (t : Fin cfg1.N) : iblk1 V c 8 t = V c main_v41 := by blk_ext! [iblk1, idx8 t]

theorem blk9 (c : Dev nD) (t : Fin cfg1.N) : iblk1 V c 9 t = V c main_v42 := by blk_ext! [iblk1, idx9 t]

theorem blk10 (c : Dev nD) (t : Fin cfg1.N) : iblk1 V c 10 t = V c main_v45 := by blk_ext! [iblk1, idx10 t]

theorem blk11 (c : Dev nD) (t : Fin cfg1.N) : iblk1 V c 11 t = V c main_v46 := by blk_ext! [iblk1, idx11 t]

theorem blk12 (c : Dev nD) (t : Fin cfg1.N) : iblk1 V c 12 t = V c main_v49 := by blk_ext! [iblk1, idx12 t]

theorem blk13 (c : Dev nD) (t : Fin cfg1.N) : iblk1 V c 13 t = V c main_v50 := by blk_ext! [iblk1, idx13 t]

theorem blk14 (c : Dev nD) (t : Fin cfg1.N) : iblk1 V c 14 t = V c main_v53 := by blk_ext! [iblk1, idx14 t]

theorem blk15 (c : Dev nD) (t : Fin cfg1.N) : iblk1 V c 15 t = V c main_v54 := by blk_ext! [iblk1, idx15 t]

theorem blk16 (c : Dev nD) (t : Fin cfg1.N) : iblk1 V c 16 t = V c main_v57 := by blk_ext! [iblk1, idx16 t]

theorem blk17 (c : Dev nD) (t : Fin cfg1.N) : iblk1 V c 17 t = V c main_v58 := by blk_ext! [iblk1, idx17 t]

theorem blk18 (c : Dev nD) (t : Fin cfg1.N) : iblk1 V c 18 t = V c main_v59 := by blk_ext! [iblk1, idx18 t]

theorem blk19 (c : Dev nD) (t : Fin cfg1.N) : iblk1 V c 19 t = V c main_v60 := by blk_ext! [iblk1, idx19 t]

theorem blk20 (c : Dev nD) (t : Fin cfg1.N) : iblk1 V c 20 t = V c main_v61 := by blk_ext! [iblk1, idx20 t]

theorem blk21 (c : Dev nD) (t : Fin cfg1.N) : iblk1 V c 21 t = V c main_v62 := by blk_ext! [iblk1, idx21 t]

theorem pay10_apply (y : FVec Ideal S1x4096x64 .bf16) (w1 : FVec Ideal S192x768 .bf16) (b1 : FVec Ideal S1x256 .f32) (w2 : FVec Ideal S768x384 .bf16) (b2 : FVec Ideal S1x128 .f32)
    (w3 : FVec Ideal S384x192 .bf16) (b3 : FVec Ideal S1x64 .f32) (p : Fin 4096) (c : Fin 64) :
    k1_pay10 (F := Ideal) (k1_pay8 (k1_pay7 y w1 b1) w2 b2 w3) b3 (ix3 0 p c) = ConvK.rm y w1 b1 w2 b2 w3 b3 (ix2 p c) := by
  unfold k1_pay10
  rw [ConvK.pay9_eq]
  generalize ConvK.rm y w1 b1 w2 b2 w3 b3 = g
  pointwise

set_option maxHeartbeats 0 in
theorem final23 (c : Dev nD) : (dat1 V c).arrAt 23 cfg1.N = out23 (V c main_v28) (V c main_v33) (V c main_v34) (V c main_v37) (V c main_v38) (V c main_v41) (V c main_v42) := by
  refine (dat1 V c).arrAt_eq_of_covers 23 _ (by decide +kernel) fun t _ y => ?_
  blk_simp
  rw [after1_23]
  unfold outsAt1 out1_A_23
  frame_out
  rw [blk1, blk4, blk5, blk6, blk7, blk8, blk9]
  have h0 : ((((View.whole main_v63_1).slice (win1_23.rect t)).emb y) 0) = (⟨t.val, t.isLt⟩ : Fin 32) := by
    refine Fin.ext ?_
    blk_simp [idx23 t]
  have h1 : y = ix3 0 ((((View.whole main_v63_1).slice (win1_23.rect t)).emb y) 1) ((((View.whole main_v63_1).slice (win1_23.rect t)).emb y) 2) := by
    blk_ext [idx23 t]
  unfold out23
  rw [h0]
  exact (congrArg (k1_pay10 (F := Ideal) (k1_pay8 (k1_pay7 (row (V c main_v28) ⟨t.val, t.isLt⟩) (V c main_v33) (V c main_v34)) (V c main_v37) (V c main_v38) (V c main_v41)) (V c main_v42)) h1).trans (pay10_apply _ _ _ _ _ _ _ _ _)

end Cert.KernelIdeal.Out1

end
-- ==== Proof.Val2.lean ====
module

public import proofs.«01_k».proof.Proof.Cells
public import proofs.«01_k».proof.Proof.Host1
public import proofs.«01_k».proof.Proof.Out1
public import proofs.«01_k».proof.Proof.ConvR

@[expose] public section

set_option maxRecDepth 16384

noncomputable section

namespace Cert.Val2

open Idealize.ShloMosaic Idealize.ShloMosaic.TcCoe Idealize.SL.Sem
open Cert.KernelIdeal Cert.KernelIdeal.Gen Cert.KernelIdeal.Host Cert.KernelIdeal.Host1

/-- The three layers over the kernel's map, weights and biases are the reference's, wherever the maps agree. -/
theorem rm_eq (y : Vec Ideal S1x4096x64 .bf16) (r : FVec Ideal S32x64x64x64 .f32) (w1 : FVec Ideal S256x64x3x3 .f32) (b1 : FVec Ideal S256 .f32)
    (w2 : FVec Ideal S128x256x3x3 .f32) (b2 : FVec Ideal S128 .f32) (w3 : FVec Ideal S64x128x3x3 .f32) (b3 : FVec Ideal S64 .f32) (b : Fin 32)
    (h : ∀ i j c : Fin 64, y (ix3 0 ⟨i * 64 + j, by omega⟩ c) = r (ix4 b c i j)) (i j o : Fin 64) :
    ConvK.rm y (taps1 w1) (bias256 b1) (taps2 w2) (bias128 b2) (taps3 w3) (bias64 b3) (ix2 ⟨i * 64 + j, by omega⟩ o)
      = Cert.ReferenceIdeal.ConvR.rm r w1 b1 w2 b2 w3 b3 (ix4 b o i j) := by
  rw [ConvK.rm_apply, Cert.ReferenceIdeal.ConvR.rm_apply]
  have e0 : (fun i j c : Fin 64 => y (ix3 0 ⟨i * 64 + j, by omega⟩ c)) = fun i j c => r (ix4 b c i j) :=
    funext fun i => funext fun j => funext fun c => h i j c
  have e1 : (fun (o : Fin 256) (ki kj : Fin 3) (c : Fin 64) => taps1 w1 (ix2 ⟨ki * 64 + c, by omega⟩ ⟨kj * 256 + o, by omega⟩)) = fun o ki kj c => w1 (ix4 o c ki kj) :=
    funext fun o => funext fun ki => funext fun kj => funext fun c => taps1_apply w1 o ki kj c
  have e2 : (fun (o : Fin 128) (ki kj : Fin 3) (c : Fin 256) => taps2 w2 (ix2 ⟨ki * 256 + c, by omega⟩ ⟨kj * 128 + o, by omega⟩)) = fun o ki kj c => w2 (ix4 o c ki kj) :=
    funext fun o => funext fun ki => funext fun kj => funext fun c => taps2_apply w2 o ki kj c
  have e3 : (fun (o : Fin 64) (ki kj : Fin 3) (c : Fin 128) => taps3 w3 (ix2 ⟨ki * 128 + c, by omega⟩ ⟨kj * 64 + o, by omega⟩)) = fun o ki kj c => w3 (ix4 o c ki kj) :=
    funext fun o => funext fun ki => funext fun kj => funext fun c => taps3_apply w3 o ki kj c
  have f1 : (fun o : Fin 256 => bias256 b1 (ix2 0 o)) = fun o => b1 (ix1 o) := funext fun o => bias256_apply b1 o
  have f2 : (fun o : Fin 128 => bias128 b2 (ix2 0 o)) = fun o => b2 (ix1 o) := funext fun o => bias128_apply b2 o
  have f3 : (fun o : Fin 64 => bias64 b3 (ix2 0 o)) = fun o => b3 (ix1 o) := funext fun o => bias64_apply b3 o
  rw [e0, e1, e2, e3, f1, f2, f3]

variable (m : (ℓ : Loc nD τ sig) → Buf (Elt Ideal) ℓ) (ρ : Dev nD → PrngReg)

/-- What the first call leaves in its first result. -/
theorem call1 (c : Dev nD) : W2 m ρ c (Proc.devRef .tc main_v26_0)
    = Out0.out7 (xs (m ((c : Thread nD τ).loc main_arg0)) (m ((c : Thread nD τ).loc main_arg4))) (locs (m ((c : Thread nD τ).loc main_arg1)) (m ((c : Thread nD τ).loc main_arg5)))
      (locs (m ((c : Thread nD τ).loc main_arg2)) (m ((c : Thread nD τ).loc main_arg6))) (maps (m ((c : Thread nD τ).loc main_arg3)) (m ((c : Thread nD τ).loc main_arg7)))
      (m ((c : Thread nD τ).loc main_arg8)) (m ((c : Thread nD τ).loc main_arg9)) (m ((c : Thread nD τ).loc main_arg10)) := by
  have e := (W2_arr m ρ c 7).trans (Out0.final7 (V1 m ρ) c)
  rw [v6, v14, v22, v25, show V1 m ρ c main_arg8 = _ from W1_args m ρ c main_arg8 (by decide), show V1 m ρ c main_arg9 = _ from W1_args m ρ c main_arg9 (by decide),
    show V1 m ρ c main_arg10 = _ from W1_args m ρ c main_arg10 (by decide)] at e
  exact e

/-- What the first call leaves in its second result. -/
theorem call1_top (c : Dev nD) : W2 m ρ c (Proc.devRef .tc main_v26_1)
    = Out0.out8 (xs (m ((c : Thread nD τ).loc main_arg0)) (m ((c : Thread nD τ).loc main_arg4))) (locs (m ((c : Thread nD τ).loc main_arg1)) (m ((c : Thread nD τ).loc main_arg5)))
      (locs (m ((c : Thread nD τ).loc main_arg2)) (m ((c : Thread nD τ).loc main_arg6))) (maps (m ((c : Thread nD τ).loc main_arg3)) (m ((c : Thread nD τ).loc main_arg7)))
      (m ((c : Thread nD τ).loc main_arg8)) (m ((c : Thread nD τ).loc main_arg9)) (m ((c : Thread nD τ).loc main_arg10)) := by
  have e := (W2_arr m ρ c 8).trans (Out0.final8 (V1 m ρ) c)
  rw [v6, v14, v22, v25, show V1 m ρ c main_arg8 = _ from W1_args m ρ c main_arg8 (by decide), show V1 m ρ c main_arg9 = _ from W1_args m ρ c main_arg9 (by decide),
    show V1 m ρ c main_arg10 = _ from W1_args m ρ c main_arg10 (by decide)] at e
  exact e

/-- The representation map of the second set of graphs, as the reference writes it over the kernel's arguments. -/
def rm2 (c : Dev nD) : FVec Ideal S32x64x64x64 .f32 :=
  Cert.ReferenceIdeal.ConvR.rm (Cert.ReferenceIdeal.ConvR.rep (Cert.ReferenceIdeal.GraphR.net (m ((c : Thread nD τ).loc main_arg4)) (m ((c : Thread nD τ).loc main_arg5))
      (m ((c : Thread nD τ).loc main_arg6)) (m ((c : Thread nD τ).loc main_arg8)) (m ((c : Thread nD τ).loc main_arg9)) (m ((c : Thread nD τ).loc main_arg10)))
      (m ((c : Thread nD τ).loc main_arg7)))
    (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16))

/-- Under the precondition, the kernel's second result is the reference's. -/
theorem result2 (h : Cert.Pre_KernelIdeal_in_range m) (c : Dev nD) : W5 m ρ c (Proc.devRef .tc main_v65) = rm2 m c := by
  obtain ⟨-, -, ⟨S, hs⟩, ⟨D, hd⟩, -, hm, -, -⟩ := Cert.Pre.of_pre m h c
  have e := (W4_arr m ρ c 23).trans (Out1.final23 (V3 m ρ) c)
  rw [v28, v33, v34, v37, v38, v41, v42, call1,
    W2_args m ρ c main_arg11 (by decide), W2_args m ρ c main_arg12 (by decide), W2_args m ρ c main_arg13 (by decide), W2_args m ρ c main_arg14 (by decide),
    W2_args m ρ c main_arg15 (by decide), W2_args m ρ c main_arg16 (by decide)] at e
  refine (v65 m ρ c).trans ((congrArg chw e).trans ?_)
  funext x
  obtain ⟨b, o, i, j, rfl⟩ : ∃ (b : Fin 32) (o i j : Fin 64), x = ix4 b o i j := ⟨x 0, x 1, x 2, x 3, by
    funext a; match a with | ⟨0, _⟩ => rfl | ⟨1, _⟩ => rfl | ⟨2, _⟩ => rfl | ⟨3, _⟩ => rfl⟩
  rw [chw_apply]
  refine rm_eq _ _ _ _ _ _ _ _ b (fun i j k => ?_) i j o
  exact (hi_apply _ b _ k).trans (Cells.cell_hi _ _ _ _ _ _ _ _ _ _ _ S D hs hd (Cert.Pre.cells _ hm) b i j k)

end Cert.Val2

end
-- ==== Proof.Host2.lean ====
module

public import proofs.«01_k».proof.Proof.IdealFrame
public import Idealize.ShloMosaic.Lib.Pipeline.ValueKit
public import Idealize.ShloMosaic.Lib.Pointwise

@[expose] public section

set_option maxRecDepth 16384

noncomputable section

namespace Cert.KernelIdeal.Host2

open Idealize.ShloMosaic Idealize.ShloMosaic.TcCoe Idealize.SL.Sem
open Cert.KernelIdeal Cert.KernelIdeal.Gen

/-- The head's first layer's taps as rows. -/
def taps (w : FVec Ideal S32x128x3x3 .f32) : FVec Ideal S384x96 .bf16 :=
  truncf .bf16 (shapeCast S384x96 (transpose S3x128x3x32 [2, 1, 3, 0] w transposes_S32x128x3x3_S3x128x3x32_2_1_3_0) shapeCasts_S3x128x3x32_S384x96) bitsLt_bf16_f32
theorem taps_apply (w : FVec Ideal S32x128x3x3 .f32) (o : Fin 32) (a b : Fin 3) (c : Fin 128) :
    taps w (ix2 ⟨a * 128 + c, by omega⟩ ⟨b * 32 + o, by omega⟩) = w (ix4 o c a b) := by pointwise [taps]
/-- A halving layer's taps, one matrix per tap. -/
def taps16 (w : FVec Ideal S16x32x4x4 .f32) : FVec Ideal S16x32x16 .bf16 :=
  truncf .bf16 (shapeCast S16x32x16 (transpose S4x4x32x16 [2, 3, 1, 0] w transposes_S16x32x4x4_S4x4x32x16_2_3_1_0) shapeCasts_S4x4x32x16_S16x32x16) bitsLt_bf16_f32
theorem taps16_apply (w : FVec Ideal S16x32x4x4 .f32) (o : Fin 16) (a b : Fin 4) (c : Fin 32) :
    taps16 w (ix3 ⟨a * 4 + b, by omega⟩ c o) = w (ix4 o c a b) := by
  pointwise [taps16]
/-- A halving layer's taps, one matrix per tap. -/
def taps8 (w : FVec Ideal S8x16x4x4 .f32) : FVec Ideal S16x16x8 .bf16 :=
  truncf .bf16 (shapeCast S16x16x8 (transpose S4x4x16x8 [2, 3, 1, 0] w transposes_S8x16x4x4_S4x4x16x8_2_3_1_0) shapeCasts_S4x4x16x8_S16x16x8) bitsLt_bf16_f32
theorem taps8_apply (w : FVec Ideal S8x16x4x4 .f32) (o : Fin 8) (a b : Fin 4) (c : Fin 16) :
    taps8 w (ix3 ⟨a * 4 + b, by omega⟩ c o) = w (ix4 o c a b) := by
  pointwise [taps8]
/-- A halving layer's taps, one matrix per tap. -/
def taps1 (w : FVec Ideal S1x8x4x4 .f32) : FVec Ideal S16x8x1 .bf16 :=
  truncf .bf16 (shapeCast S16x8x1 (transpose S4x4x8x1 [2, 3, 1, 0] w transposes_S1x8x4x4_S4x4x8x1_2_3_1_0) shapeCasts_S4x4x8x1_S16x8x1) bitsLt_bf16_f32
theorem taps1_apply (w : FVec Ideal S1x8x4x4 .f32) (o : Fin 1) (a b : Fin 4) (c : Fin 8) :
    taps1 w (ix3 ⟨a * 4 + b, by omega⟩ c o) = w (ix4 o c a b) := by
  obtain rfl : o = 0 := Subsingleton.elim _ _
  pointwise [taps1]
def bias32 (b : FVec Ideal S32 .f32) : FVec Ideal S1x32 .f32 := broadcastInDim S1x32 ![1] bcast_S32_S1x32_1 b
theorem bias32_apply (b : FVec Ideal S32 .f32) (o : Fin 32) : bias32 b (ix2 0 o) = b (ix1 o) := by
  pointwise [bias32]
def bias16 (b : FVec Ideal S16 .f32) : FVec Ideal S1x16 .f32 := broadcastInDim S1x16 ![1] bcast_S16_S1x16_1 b
theorem bias16_apply (b : FVec Ideal S16 .f32) (o : Fin 16) : bias16 b (ix2 0 o) = b (ix1 o) := by
  pointwise [bias16]
def bias8 (b : FVec Ideal S8 .f32) : FVec Ideal S1x8 .f32 := broadcastInDim S1x8 ![1] bcast_S8_S1x8_1 b
theorem bias8_apply (b : FVec Ideal S8 .f32) (o : Fin 8) : bias8 b (ix2 0 o) = b (ix1 o) := by
  pointwise [bias8]
def bias1 (b : FVec Ideal S1 .f32) : FVec Ideal S1x1 .f32 := broadcastInDim S1x1 ![1] bcast_S1_S1x1_1 b
theorem bias1_apply (b : FVec Ideal S1 .f32) (o : Fin 1) : bias1 b (ix2 0 o) = b (ix1 o) := by
  obtain rfl : o = 0 := Subsingleton.elim _ _
  pointwise [bias1]
/-- The agents' first weights with the inputs first. -/
def dense1 (w : FVec Ideal S32x256 .f32) : FVec Ideal S256x32 .f32 := transpose S256x32 [1, 0] w transposes_S32x256_S256x32_1_0
def dense2 (w : FVec Ideal S1x32 .f32) : FVec Ideal S32x1 .f32 := transpose S32x1 [1, 0] w transposes_S1x32_S32x1_1_0
theorem dense1_apply (w : FVec Ideal S32x256 .f32) (l : Fin 256) (k : Fin 32) : dense1 w (ix2 l k) = w (ix2 k l) := by pointwise [dense1]
theorem dense2_apply (w : FVec Ideal S1x32 .f32) (k : Fin 32) : dense2 w (ix2 k 0) = w (ix2 0 k) := by pointwise [dense2]

variable (m : (ℓ : Loc nD τ sig) → Buf (Elt Ideal) ℓ) (ρ : Dev nD → PrngReg)

theorem v45 (c : Dev nD) : V3 m ρ c main_v45 = taps (W2 m ρ c (Proc.devRef .tc main_arg17)) := by unfold_abbrev_sides; after_results; try rfl
theorem v46 (c : Dev nD) : V3 m ρ c main_v46 = bias32 (W2 m ρ c (Proc.devRef .tc main_arg18)) := by unfold_abbrev_sides; after_results; try rfl
theorem v49 (c : Dev nD) : V3 m ρ c main_v49 = taps16 (W2 m ρ c (Proc.devRef .tc main_arg19)) := by unfold_abbrev_sides; after_results; try rfl
theorem v50 (c : Dev nD) : V3 m ρ c main_v50 = bias16 (W2 m ρ c (Proc.devRef .tc main_arg20)) := by unfold_abbrev_sides; after_results; try rfl
theorem v53 (c : Dev nD) : V3 m ρ c main_v53 = taps8 (W2 m ρ c (Proc.devRef .tc main_arg21)) := by unfold_abbrev_sides; after_results; try rfl
theorem v54 (c : Dev nD) : V3 m ρ c main_v54 = bias8 (W2 m ρ c (Proc.devRef .tc main_arg22)) := by unfold_abbrev_sides; after_results; try rfl
theorem v57 (c : Dev nD) : V3 m ρ c main_v57 = taps1 (W2 m ρ c (Proc.devRef .tc main_arg23)) := by unfold_abbrev_sides; after_results; try rfl
theorem v58 (c : Dev nD) : V3 m ρ c main_v58 = bias1 (W2 m ρ c (Proc.devRef .tc main_arg24)) := by unfold_abbrev_sides; after_results; try rfl
theorem v59 (c : Dev nD) : V3 m ρ c main_v59 = dense1 (W2 m ρ c (Proc.devRef .tc main_arg25)) := by unfold_abbrev_sides; after_results; try rfl
theorem v60 (c : Dev nD) : V3 m ρ c main_v60 = bias32 (W2 m ρ c (Proc.devRef .tc main_arg26)) := by unfold_abbrev_sides; after_results; try rfl
theorem v61 (c : Dev nD) : V3 m ρ c main_v61 = dense2 (W2 m ρ c (Proc.devRef .tc main_arg27)) := by unfold_abbrev_sides; after_results; try rfl
theorem v62 (c : Dev nD) : V3 m ρ c main_v62 = bias1 (W2 m ρ c (Proc.devRef .tc main_arg28)) := by unfold_abbrev_sides; after_results; try rfl

/-- The first result is what the second call leaves. -/
theorem v63 (c : Dev nD) : W5 m ρ c (Proc.devRef .tc main_v63_0) = W4 m ρ c (Proc.devRef .tc main_v63_0) := by unfold_abbrev_sides; after_results; try rfl

end Cert.KernelIdeal.Host2

end
-- ==== Proof.Head.lean ====
module

public import proofs.«01_k».proof.Proof.Img

@[expose] public section

set_option maxRecDepth 16384

noncomputable section

namespace Cert.Head

open Idealize.ShloMosaic Cert.Img

/-- A picture read at natural numbers: zero beyond its edge. -/
def raw {S C : ℕ} (y : Fin S → Fin S → Fin C → EReal) (a b : ℕ) (c : Fin C) : EReal :=
  if h : a < S ∧ b < S then y ⟨a, h.1⟩ ⟨b, h.2⟩ c else 0

/-- A 4 × 4 correlation of stride 2 at `(i, j)`, of a padded picture with the weights of one output channel, and the bias. -/
def conv4 {C : ℕ} (p : ℕ → ℕ → Fin C → EReal) (w : Fin 4 → Fin 4 → Fin C → EReal) (b : EReal) (i j : ℕ) : EReal :=
  (∑ ki : Fin 4, ∑ kj : Fin 4, ∑ c : Fin C, p (2 * i + ki) (2 * j + kj) c * w ki kj c) + b

/-- The correlation tap by tap, the bias first. -/
theorem conv4_taps {C : ℕ} (p : ℕ → ℕ → Fin C → EReal) (w : Fin 4 → Fin 4 → Fin C → EReal) (b : EReal) (i j : ℕ)
    (f : Fin 4 → Fin 4 → EReal) (h : ∀ ki kj : Fin 4, f ki kj = ∑ c : Fin C, p (2 * i + ki) (2 * j + kj) c * w ki kj c) :
    ((((((((((((((((b + f 0 0) + f 0 1) + f 0 2) + f 0 3) + f 1 0) + f 1 1) + f 1 2) + f 1 3)
      + f 2 0) + f 2 1) + f 2 2) + f 2 3) + f 3 0) + f 3 1) + f 3 2) + f 3 3) = conv4 p w b i j := by
  unfold conv4
  simp only [← h, Fin.sum_univ_four]
  ac_rfl

/-- A picture that is zero from its row and column `T` on has the border of the smaller picture. -/
theorem pd_cut {S T C : ℕ} (hTS : T ≤ S) (x : Fin S → Fin S → Fin C → EReal) (y : Fin T → Fin T → Fin C → EReal)
    (h : ∀ i j c, x i j c = if h : (i : ℕ) < T ∧ (j : ℕ) < T then y ⟨i, h.1⟩ ⟨j, h.2⟩ c else 0) : pd x = pd y := by
  funext a b c
  unfold pd
  by_cases h1 : (1 ≤ a ∧ a ≤ T) ∧ (1 ≤ b ∧ b ≤ T)
  · rw [dif_pos h1, dif_pos (by omega), h, dif_pos (by dsimp only; omega)]
  · rw [dif_neg h1]
    by_cases h2 : (1 ≤ a ∧ a ≤ S) ∧ (1 ≤ b ∧ b ≤ S)
    · rw [dif_pos h2, h, dif_neg (by dsimp only; omega)]
    · rw [dif_neg h2]

/-- A picture moved by whole rows or columns along one axis, zero where nothing is moved in: 0 forwards, 3 backwards, else not at all. -/
def shift {H : ℕ} (k : Fin 4) (y : Fin H → EReal) (i : Fin H) : EReal :=
  ![if h : (i : ℕ) < 1 then 0 else y ⟨i - 1, by omega⟩, y i, y i, if h : (i : ℕ) < H - 1 then y ⟨1 + i, by omega⟩ else 0] k

/-- Which of the even and the odd rows a tap reads. -/
def plane (k : Fin 4) : Fin 2 := ![1, 0, 1, 0] k

/-- The picture a tap reads of the four made of even and odd rows and columns. -/
def shifted {H C : ℕ} (x : Fin 2 → Fin 2 → Fin H → Fin H → Fin C → EReal) (ki kj : Fin 4) (i j : Fin H) (c : Fin C) : EReal :=
  shift kj (fun j => shift ki (fun i => x (plane ki) (plane kj) i j c) i) j

/-- Pixel `i` of a tap's picture is pixel `2 i + k` of the padded picture. -/
theorem shifted_apply {H S C : ℕ} (hS : 2 * H = S) (X : Fin S → Fin S → Fin C → EReal) (x : Fin 2 → Fin 2 → Fin H → Fin H → Fin C → EReal)
    (h : ∀ (p q : Fin 2) (i j : Fin H) (c : Fin C), x p q i j c = X ⟨2 * i + p, by omega⟩ ⟨2 * j + q, by omega⟩ c) (ki kj : Fin 4) (i j : Fin H) (c : Fin C) :
    shifted x ki kj i j c = pd X (2 * i + ki) (2 * j + kj) c := by
  unfold pd
  fin_cases ki <;> fin_cases kj <;> simp [shifted, plane, shift, h] <;>
    first | done | (intro h; exfalso; omega) | (split_ifs <;> first | omega | rfl | (refine congr (congr (congrArg X (Fin.ext ?_)) (Fin.ext ?_)) rfl <;> dsimp only <;> omega))

/-- The first layer of the map's head: 3 × 3 without a border, and the positive part. -/
def first (x : Fin 64 → Fin 64 → Fin 128 → EReal) (w : Fin 32 → Fin 3 → Fin 3 → Fin 128 → EReal) (b : Fin 32 → EReal)
    (i j : Fin 62) (o : Fin 32) : EReal := max (conv3 (raw x) (w o) (b o) i j) 0

/-- A layer that halves the picture: 4 × 4 of stride 2 with a border. -/
def half {S C O : ℕ} (T : ℕ) (y : Fin S → Fin S → Fin C → EReal) (w : Fin O → Fin 4 → Fin 4 → Fin C → EReal) (b : Fin O → EReal)
    (i j : Fin T) (o : Fin O) : EReal := conv4 (pd y) (w o) (b o) i j

/-- The map's head up to its last sum. -/
def mapHead (x : Fin 64 → Fin 64 → Fin 128 → EReal)
    (w1 : Fin 32 → Fin 3 → Fin 3 → Fin 128 → EReal) (b1 : Fin 32 → EReal)
    (w2 : Fin 16 → Fin 4 → Fin 4 → Fin 32 → EReal) (b2 : Fin 16 → EReal)
    (w3 : Fin 8 → Fin 4 → Fin 4 → Fin 16 → EReal) (b3 : Fin 8 → EReal)
    (w4 : Fin 1 → Fin 4 → Fin 4 → Fin 8 → EReal) (b4 : Fin 1 → EReal) (i j : Fin 7) : EReal :=
  half 7 (fun i j o => max (half 15 (fun i j o => max (half 31 (first x w1 b1) w2 b2 i j o) 0) w3 b3 i j o) 0) w4 b4 i j 0

/-- The agents' head up to its last sum: two dense layers, the first followed by the positive part. -/
def agentHead (x : Fin 256 → EReal) (w1 : Fin 32 → Fin 256 → EReal) (b1 : Fin 32 → EReal) (w2 : Fin 32 → EReal) (b2 : EReal) : EReal :=
  (∑ k : Fin 32, max ((∑ l : Fin 256, x l * w1 k l) + b1 k) 0 * w2 k) + b2

/-- Four rows of 64 numbers side by side. -/
def four (r1 g1 r2 g2 : Fin 64 → EReal) (l : Fin 256) : EReal :=
  if h : (l : ℕ) < 64 then r1 ⟨l, h⟩ else if h : (l : ℕ) < 128 then g1 ⟨l - 64, by omega⟩
    else if h : (l : ℕ) < 192 then r2 ⟨l - 128, by omega⟩ else g2 ⟨l - 192, by omega⟩

/-- Two pictures of 64 channels, one after the other. -/
def both (x y : Fin 64 → Fin 64 → Fin 64 → EReal) (i j : Fin 64) (c : Fin 128) : EReal :=
  if h : (c : ℕ) < 64 then x i j ⟨c, h⟩ else y i j ⟨c - 64, by omega⟩

end Cert.Head

end
-- ==== Proof.HeadK.lean ====
module

public import proofs.«01_k».proof.Proof.Out1
public import proofs.«01_k».proof.Proof.Head
public import Idealize.ShloMosaic.Lib.Pipeline.ReadBack

@[expose] public section

set_option maxRecDepth 16384

noncomputable section

namespace Cert.KernelIdeal.HeadK

open Idealize.ShloMosaic Idealize.ShloMosaic.TcCoe Idealize.SL.Sem
open Cert.KernelIdeal Cert.KernelIdeal.Gen Cert.Img Cert.Head

/-! ## Pictures of side 32 with 32 channels -/

/-- The picture one row further down. -/
def down32 (x : FVec Ideal S32x32x32 .f32) : FVec Ideal S32x32x32 .f32 :=
  concatenate S32x32x32 0 [⟨S1x32x32, broadcast S1x32x32 (Scalar.ofBits .f32 0x00000000#32 : Ideal .f32)⟩, ⟨S31x32x32, extractStridedSlice S31x32x32 ![0, 0, 0] x slices_S32x32x32_o0_0_0_S31x32x32⟩]
    concatenates_S1x32x32_S31x32x32_S32x32x32_d0

/-- The picture one row further up. -/
def up32 (x : FVec Ideal S32x32x32 .f32) : FVec Ideal S32x32x32 .f32 :=
  concatenate S32x32x32 0 [⟨S31x32x32, extractStridedSlice S31x32x32 ![1, 0, 0] x slices_S32x32x32_o1_0_0_S31x32x32⟩, ⟨S1x32x32, broadcast S1x32x32 (Scalar.ofBits .f32 0x00000000#32 : Ideal .f32)⟩]
    concatenates_S31x32x32_S1x32x32_S32x32x32_d0

/-- The picture one column further to the right. -/
def right32 (x : FVec Ideal S32x32x32 .f32) : FVec Ideal S32x32x32 .f32 :=
  concatenate S32x32x32 1 [⟨S32x1x32, broadcast S32x1x32 (Scalar.ofBits .f32 0x00000000#32 : Ideal .f32)⟩, ⟨S32x31x32, extractStridedSlice S32x31x32 ![0, 0, 0] x slices_S32x32x32_o0_0_0_S32x31x32⟩]
    concatenates_S32x1x32_S32x31x32_S32x32x32_d1

/-- The picture one column further to the left. -/
def left32 (x : FVec Ideal S32x32x32 .f32) : FVec Ideal S32x32x32 .f32 :=
  concatenate S32x32x32 1 [⟨S32x31x32, extractStridedSlice S32x31x32 ![0, 1, 0] x slices_S32x32x32_o0_1_0_S32x31x32⟩, ⟨S32x1x32, broadcast S32x1x32 (Scalar.ofBits .f32 0x00000000#32 : Ideal .f32)⟩]
    concatenates_S32x31x32_S32x1x32_S32x32x32_d1

/-- One tap: every pixel against the tap's weights. -/
def tap32 (x : FVec Ideal S32x32x32 .f32) (w : FVec Ideal S1x32x16 .bf16) : FVec Ideal S1024x16 .f32 :=
  matmul dot_S1024x32_S32x16_S1024x16_1_0_0_1_n_n none (truncf .bf16 (shapeCast S1024x32 x shapeCasts_S32x32x32_S1024x32) bitsLt_bf16_f32)
    (shapeCast S32x16 w shapeCasts_S1x32x16_S32x16) (constant S1024x16 .f32 0x00000000#32)

theorem down32_apply (x : FVec Ideal S32x32x32 .f32) (i j : Fin 32) (c : Fin 32) :
    down32 x (ix3 i j c) = if h : (i : ℕ) < 1 then 0 else x (ix3 ⟨i - 1, by omega⟩ j c) := by
  pointwise [down32]

theorem up32_apply (x : FVec Ideal S32x32x32 .f32) (i j : Fin 32) (c : Fin 32) :
    up32 x (ix3 i j c) = if h : (i : ℕ) < 31 then x (ix3 ⟨1 + i, by omega⟩ j c) else 0 := by
  pointwise [up32]

theorem right32_apply (x : FVec Ideal S32x32x32 .f32) (i j : Fin 32) (c : Fin 32) :
    right32 x (ix3 i j c) = if h : (j : ℕ) < 1 then 0 else x (ix3 i ⟨j - 1, by omega⟩ c) := by
  pointwise [right32]

theorem left32_apply (x : FVec Ideal S32x32x32 .f32) (i j : Fin 32) (c : Fin 32) :
    left32 x (ix3 i j c) = if h : (j : ℕ) < 31 then x (ix3 i ⟨1 + j, by omega⟩ c) else 0 := by
  pointwise [left32]

theorem tap32_apply (x : FVec Ideal S32x32x32 .f32) (w : FVec Ideal S1x32x16 .bf16) (i j : Fin 32) (o : Fin 16) :
    tap32 x w (ix2 ⟨i * 32 + j, by omega⟩ o) = ∑ c : Fin 32, x (ix3 i j c) * w (ix3 0 c o) := by
  pointwise [tap32]

/-- The layer: the bias and the sixteen taps, over the even and odd rows and columns of the picture. -/
def conv32 (x00 x01 x10 x11 : FVec Ideal S32x32x32 .f32) (b : FVec Ideal S1x16 .f32)
    (w00 w01 w02 w03 w10 w11 w12 w13 w20 w21 w22 w23 w30 w31 w32 w33 : FVec Ideal S1x32x16 .bf16) : FVec Ideal S1024x16 .f32 :=
  addf (addf (addf (addf (addf (addf (addf (addf (addf (addf (addf (addf (addf (addf (addf (addf (broadcastTo S1024x16 (shapeCast S1x16 b shapeCasts_S1x16_S1x16) broadcasts_S1x16_S1024x16)
    (tap32 (right32 (down32 x11)) w00))
    (tap32 (down32 x10) w01))
    (tap32 (down32 x11) w02))
    (tap32 (left32 (down32 x10)) w03))
    (tap32 (right32 x01) w10))
    (tap32 (x00) w11))
    (tap32 (x01) w12))
    (tap32 (left32 x00) w13))
    (tap32 (right32 x11) w20))
    (tap32 (x10) w21))
    (tap32 (x11) w22))
    (tap32 (left32 x10) w23))
    (tap32 (right32 (up32 x01)) w30))
    (tap32 (up32 x00) w31))
    (tap32 (up32 x01) w32))
    (tap32 (left32 (up32 x00)) w33)

/-- The tap's picture is the shifted plane. -/
theorem pics32_apply (x : Fin 2 → Fin 2 → FVec Ideal S32x32x32 .f32) (i j : Fin 32) (c : Fin 32) (ki kj : Fin 4) :
    (![![right32 (down32 (x 1 1)), down32 (x 1 0), down32 (x 1 1), left32 (down32 (x 1 0))],
       ![right32 (x 0 1), x 0 0, x 0 1, left32 (x 0 0)],
       ![right32 (x 1 1), x 1 0, x 1 1, left32 (x 1 0)],
       ![right32 (up32 (x 0 1)), up32 (x 0 0), up32 (x 0 1), left32 (up32 (x 0 0))]] : Fin 4 → Fin 4 → FVec Ideal S32x32x32 .f32) ki kj (ix3 i j c) = shifted (fun p q i j c => x p q (ix3 i j c)) ki kj i j c := by
  fin_cases ki <;> fin_cases kj <;> simp [shifted, plane, shift, down32_apply, up32_apply, right32_apply, left32_apply]

/-- The layer at pixel `(i, j)`: the 4 × 4 correlation of stride 2 of the padded picture. -/
theorem conv32_apply (X : Fin 64 → Fin 64 → Fin 32 → EReal) (x : Fin 2 → Fin 2 → FVec Ideal S32x32x32 .f32)
    (h : ∀ (p q : Fin 2) (i j : Fin 32) (c : Fin 32), x p q (ix3 i j c) = X ⟨2 * i + p, by omega⟩ ⟨2 * j + q, by omega⟩ c)
    (b : FVec Ideal S1x16 .f32) (w : Fin 4 → Fin 4 → FVec Ideal S1x32x16 .bf16) (i j : Fin 32) (o : Fin 16) :
    conv32 (x 0 0) (x 0 1) (x 1 0) (x 1 1) b (w 0 0) (w 0 1) (w 0 2) (w 0 3) (w 1 0) (w 1 1) (w 1 2) (w 1 3) (w 2 0) (w 2 1) (w 2 2) (w 2 3) (w 3 0) (w 3 1) (w 3 2) (w 3 3) (ix2 ⟨i * 32 + j, by omega⟩ o)
      = conv4 (pd X) (fun ki kj c => w ki kj (ix3 0 c o)) (b (ix2 0 o)) i j := by
  rw [← conv4_taps (pd X) (fun ki kj c => w ki kj (ix3 0 c o)) (b (ix2 0 o)) i j
    (fun ki kj => tap32 ((![![right32 (down32 (x 1 1)), down32 (x 1 0), down32 (x 1 1), left32 (down32 (x 1 0))],
       ![right32 (x 0 1), x 0 0, x 0 1, left32 (x 0 0)],
       ![right32 (x 1 1), x 1 0, x 1 1, left32 (x 1 0)],
       ![right32 (up32 (x 0 1)), up32 (x 0 0), up32 (x 0 1), left32 (up32 (x 0 0))]] : Fin 4 → Fin 4 → FVec Ideal S32x32x32 .f32) ki kj) (w ki kj) (ix2 ⟨i * 32 + j, by omega⟩ o))
    (fun ki kj => by simp only [tap32_apply, pics32_apply, shifted_apply rfl X (fun p q i j c => x p q (ix3 i j c)) h])]
  have hb : (broadcastTo S1024x16 (shapeCast S1x16 b shapeCasts_S1x16_S1x16) broadcasts_S1x16_S1024x16) (ix2 ⟨i * 32 + j, by omega⟩ o) = b (ix2 0 o) := by
    pointwise
  rw [← hb]
  rfl

theorem inPlane32 : ∀ (p q : Fin 2) a, S32x32x32.size a = 0 ∨ (![(p : ℕ), (q : ℕ), 0] : Fin 3 → Nat) a + (![2, 2, 1] : Fin 3 → Nat) a * (S32x32x32.size a - 1) < S64x64x32.size a := by decide

/-- The rows from `p` and columns from `q`, every second one, of a picture written whole. -/
def plane32 (x : FVec Ideal S64x64x32 .f32) (p q : Fin 2) : FVec Ideal S32x32x32 .f32 :=
  (View.whole cc1_scratch0).readCov (Val := Elt Ideal) [⟨Rect.unit ![0, 0, 0] ![64, 64, 32] inb_S64x64x32_S64x64x32_0_0_0, x⟩]
    (⟨![(p : ℕ), (q : ℕ), 0], ![32, 32, 32], ![2, 2, 1], inPlane32 p q⟩ : LoadRect S64x64x32)

theorem plane32_apply (x : FVec Ideal S64x64x32 .f32) (p q : Fin 2) (i j : Fin 32) (c : Fin 32) :
    plane32 x p q (ix3 i j c) = x (ix3 ⟨2 * i + p, by omega⟩ ⟨2 * j + q, by omega⟩ c) := by
  unfold plane32
  rw [View.readCov_eq_canon']
  have h := View.canon_cons_unit_lit (Val := Elt Ideal) (S := S64x64x32) (e := .f32) (off := ![0, 0, 0]) inb_S64x64x32_S64x64x32_0_0_0 x [] (by decide)
  refine (congrFun h _).trans (congrArg x ?_)
  funext a
  refine Fin.ext ?_
  fin_cases a
  · show (p : ℕ) + 2 * (i : ℕ) = 2 * i + p
    omega
  · show (q : ℕ) + 2 * (j : ℕ) = 2 * j + q
    omega
  · show 0 + 1 * (c : ℕ) = c
    omega

theorem inTaps32 : ∀ (k : Fin 16) a, (![(k : ℕ), 0, 0] : Fin 3 → Nat) a + S1x32x16.size a ≤ S16x32x16.size a := by decide

/-- The weights of tap `k`. -/
def w32 (X : Vec Ideal S16x32x16 .bf16) (k : Fin 16) : Vec Ideal S1x32x16 .bf16 :=
  View.ld X (Rect.unit ![(k : ℕ), 0, 0] ![1, 32, 16] (inTaps32 k))

theorem w32_apply (X : Vec Ideal S16x32x16 .bf16) (k : Fin 16) (c : Fin 32) (o : Fin 16) : w32 X k (ix3 0 c o) = X (ix3 k c o) := by
  refine congrArg X (funext fun a => Fin.ext ?_)
  fin_cases a
  · show (k : ℕ) + 1 * 0 = k
    omega
  · show 0 + 1 * (c : ℕ) = c
    omega
  · show 0 + 1 * (o : ℕ) = o
    omega

/-- The layer over the whole picture and all the weights. -/
def layer32 (x : FVec Ideal S64x64x32 .f32) (X : Vec Ideal S16x32x16 .bf16) (b : FVec Ideal S1x16 .f32) : FVec Ideal S1024x16 .f32 :=
  conv32 (plane32 x 0 0) (plane32 x 0 1) (plane32 x 1 0) (plane32 x 1 1) b
    (w32 X 0) (w32 X 1) (w32 X 2) (w32 X 3) (w32 X 4) (w32 X 5) (w32 X 6) (w32 X 7) (w32 X 8) (w32 X 9) (w32 X 10) (w32 X 11) (w32 X 12) (w32 X 13) (w32 X 14) (w32 X 15)

theorem layer32_apply (x : FVec Ideal S64x64x32 .f32) (X : Vec Ideal S16x32x16 .bf16) (b : FVec Ideal S1x16 .f32) (i j : Fin 32) (o : Fin 16) :
    layer32 x X b (ix2 ⟨i * 32 + j, by omega⟩ o)
      = conv4 (pd fun i j c => x (ix3 i j c)) (fun ki kj c => X (ix3 ⟨ki * 4 + kj, by omega⟩ c o)) (b (ix2 0 o)) i j := by
  refine (conv32_apply (fun i j c => x (ix3 i j c)) (plane32 x) (plane32_apply x) b (fun ki kj => w32 X ⟨ki * 4 + kj, by omega⟩) i j o).trans ?_
  simp only [w32_apply]

/-! ## Pictures of side 16 with 16 channels -/

/-- The picture one row further down. -/
def down16 (x : FVec Ideal S16x16x16 .f32) : FVec Ideal S16x16x16 .f32 :=
  concatenate S16x16x16 0 [⟨S1x16x16, broadcast S1x16x16 (Scalar.ofBits .f32 0x00000000#32 : Ideal .f32)⟩, ⟨S15x16x16, extractStridedSlice S15x16x16 ![0, 0, 0] x slices_S16x16x16_o0_0_0_S15x16x16⟩]
    concatenates_S1x16x16_S15x16x16_S16x16x16_d0

/-- The picture one row further up. -/
def up16 (x : FVec Ideal S16x16x16 .f32) : FVec Ideal S16x16x16 .f32 :=
  concatenate S16x16x16 0 [⟨S15x16x16, extractStridedSlice S15x16x16 ![1, 0, 0] x slices_S16x16x16_o1_0_0_S15x16x16⟩, ⟨S1x16x16, broadcast S1x16x16 (Scalar.ofBits .f32 0x00000000#32 : Ideal .f32)⟩]
    concatenates_S15x16x16_S1x16x16_S16x16x16_d0

/-- The picture one column further to the right. -/
def right16 (x : FVec Ideal S16x16x16 .f32) : FVec Ideal S16x16x16 .f32 :=
  concatenate S16x16x16 1 [⟨S16x1x16, broadcast S16x1x16 (Scalar.ofBits .f32 0x00000000#32 : Ideal .f32)⟩, ⟨S16x15x16, extractStridedSlice S16x15x16 ![0, 0, 0] x slices_S16x16x16_o0_0_0_S16x15x16⟩]
    concatenates_S16x1x16_S16x15x16_S16x16x16_d1

/-- The picture one column further to the left. -/
def left16 (x : FVec Ideal S16x16x16 .f32) : FVec Ideal S16x16x16 .f32 :=
  concatenate S16x16x16 1 [⟨S16x15x16, extractStridedSlice S16x15x16 ![0, 1, 0] x slices_S16x16x16_o0_1_0_S16x15x16⟩, ⟨S16x1x16, broadcast S16x1x16 (Scalar.ofBits .f32 0x00000000#32 : Ideal .f32)⟩]
    concatenates_S16x15x16_S16x1x16_S16x16x16_d1

/-- One tap: every pixel against the tap's weights. -/
def tap16 (x : FVec Ideal S16x16x16 .f32) (w : FVec Ideal S1x16x8 .bf16) : FVec Ideal S256x8 .f32 :=
  matmul dot_S256x16_S16x8_S256x8_1_0_0_1_n_n none (truncf .bf16 (shapeCast S256x16 x shapeCasts_S16x16x16_S256x16) bitsLt_bf16_f32)
    (shapeCast S16x8 w shapeCasts_S1x16x8_S16x8) (constant S256x8 .f32 0x00000000#32)

theorem down16_apply (x : FVec Ideal S16x16x16 .f32) (i j : Fin 16) (c : Fin 16) :
    down16 x (ix3 i j c) = if h : (i : ℕ) < 1 then 0 else x (ix3 ⟨i - 1, by omega⟩ j c) := by
  pointwise [down16]

theorem up16_apply (x : FVec Ideal S16x16x16 .f32) (i j : Fin 16) (c : Fin 16) :
    up16 x (ix3 i j c) = if h : (i : ℕ) < 15 then x (ix3 ⟨1 + i, by omega⟩ j c) else 0 := by
  pointwise [up16]

theorem right16_apply (x : FVec Ideal S16x16x16 .f32) (i j : Fin 16) (c : Fin 16) :
    right16 x (ix3 i j c) = if h : (j : ℕ) < 1 then 0 else x (ix3 i ⟨j - 1, by omega⟩ c) := by
  pointwise [right16]

theorem left16_apply (x : FVec Ideal S16x16x16 .f32) (i j : Fin 16) (c : Fin 16) :
    left16 x (ix3 i j c) = if h : (j : ℕ) < 15 then x (ix3 i ⟨1 + j, by omega⟩ c) else 0 := by
  pointwise [left16]

theorem tap16_apply (x : FVec Ideal S16x16x16 .f32) (w : FVec Ideal S1x16x8 .bf16) (i j : Fin 16) (o : Fin 8) :
    tap16 x w (ix2 ⟨i * 16 + j, by omega⟩ o) = ∑ c : Fin 16, x (ix3 i j c) * w (ix3 0 c o) := by
  pointwise [tap16]

/-- The layer: the bias and the sixteen taps, over the even and odd rows and columns of the picture. -/
def conv16 (x00 x01 x10 x11 : FVec Ideal S16x16x16 .f32) (b : FVec Ideal S1x8 .f32)
    (w00 w01 w02 w03 w10 w11 w12 w13 w20 w21 w22 w23 w30 w31 w32 w33 : FVec Ideal S1x16x8 .bf16) : FVec Ideal S256x8 .f32 :=
  addf (addf (addf (addf (addf (addf (addf (addf (addf (addf (addf (addf (addf (addf (addf (addf (broadcastTo S256x8 (shapeCast S1x8 b shapeCasts_S1x8_S1x8) broadcasts_S1x8_S256x8)
    (tap16 (right16 (down16 x11)) w00))
    (tap16 (down16 x10) w01))
    (tap16 (down16 x11) w02))
    (tap16 (left16 (down16 x10)) w03))
    (tap16 (right16 x01) w10))
    (tap16 (x00) w11))
    (tap16 (x01) w12))
    (tap16 (left16 x00) w13))
    (tap16 (right16 x11) w20))
    (tap16 (x10) w21))
    (tap16 (x11) w22))
    (tap16 (left16 x10) w23))
    (tap16 (right16 (up16 x01)) w30))
    (tap16 (up16 x00) w31))
    (tap16 (up16 x01) w32))
    (tap16 (left16 (up16 x00)) w33)

/-- The tap's picture is the shifted plane. -/
theorem pics16_apply (x : Fin 2 → Fin 2 → FVec Ideal S16x16x16 .f32) (i j : Fin 16) (c : Fin 16) (ki kj : Fin 4) :
    (![![right16 (down16 (x 1 1)), down16 (x 1 0), down16 (x 1 1), left16 (down16 (x 1 0))],
       ![right16 (x 0 1), x 0 0, x 0 1, left16 (x 0 0)],
       ![right16 (x 1 1), x 1 0, x 1 1, left16 (x 1 0)],
       ![right16 (up16 (x 0 1)), up16 (x 0 0), up16 (x 0 1), left16 (up16 (x 0 0))]] : Fin 4 → Fin 4 → FVec Ideal S16x16x16 .f32) ki kj (ix3 i j c) = shifted (fun p q i j c => x p q (ix3 i j c)) ki kj i j c := by
  fin_cases ki <;> fin_cases kj <;> simp [shifted, plane, shift, down16_apply, up16_apply, right16_apply, left16_apply]

/-- The layer at pixel `(i, j)`: the 4 × 4 correlation of stride 2 of the padded picture. -/
theorem conv16_apply (X : Fin 32 → Fin 32 → Fin 16 → EReal) (x : Fin 2 → Fin 2 → FVec Ideal S16x16x16 .f32)
    (h : ∀ (p q : Fin 2) (i j : Fin 16) (c : Fin 16), x p q (ix3 i j c) = X ⟨2 * i + p, by omega⟩ ⟨2 * j + q, by omega⟩ c)
    (b : FVec Ideal S1x8 .f32) (w : Fin 4 → Fin 4 → FVec Ideal S1x16x8 .bf16) (i j : Fin 16) (o : Fin 8) :
    conv16 (x 0 0) (x 0 1) (x 1 0) (x 1 1) b (w 0 0) (w 0 1) (w 0 2) (w 0 3) (w 1 0) (w 1 1) (w 1 2) (w 1 3) (w 2 0) (w 2 1) (w 2 2) (w 2 3) (w 3 0) (w 3 1) (w 3 2) (w 3 3) (ix2 ⟨i * 16 + j, by omega⟩ o)
      = conv4 (pd X) (fun ki kj c => w ki kj (ix3 0 c o)) (b (ix2 0 o)) i j := by
  rw [← conv4_taps (pd X) (fun ki kj c => w ki kj (ix3 0 c o)) (b (ix2 0 o)) i j
    (fun ki kj => tap16 ((![![right16 (down16 (x 1 1)), down16 (x 1 0), down16 (x 1 1), left16 (down16 (x 1 0))],
       ![right16 (x 0 1), x 0 0, x 0 1, left16 (x 0 0)],
       ![right16 (x 1 1), x 1 0, x 1 1, left16 (x 1 0)],
       ![right16 (up16 (x 0 1)), up16 (x 0 0), up16 (x 0 1), left16 (up16 (x 0 0))]] : Fin 4 → Fin 4 → FVec Ideal S16x16x16 .f32) ki kj) (w ki kj) (ix2 ⟨i * 16 + j, by omega⟩ o))
    (fun ki kj => by simp only [tap16_apply, pics16_apply, shifted_apply rfl X (fun p q i j c => x p q (ix3 i j c)) h])]
  have hb : (broadcastTo S256x8 (shapeCast S1x8 b shapeCasts_S1x8_S1x8) broadcasts_S1x8_S256x8) (ix2 ⟨i * 16 + j, by omega⟩ o) = b (ix2 0 o) := by
    pointwise
  rw [← hb]
  rfl

theorem inPlane16 : ∀ (p q : Fin 2) a, S16x16x16.size a = 0 ∨ (![(p : ℕ), (q : ℕ), 0] : Fin 3 → Nat) a + (![2, 2, 1] : Fin 3 → Nat) a * (S16x16x16.size a - 1) < S32x32x16.size a := by decide

/-- The rows from `p` and columns from `q`, every second one, of a picture written whole. -/
def plane16 (x : FVec Ideal S32x32x16 .f32) (p q : Fin 2) : FVec Ideal S16x16x16 .f32 :=
  (View.whole cc1_scratch1).readCov (Val := Elt Ideal) [⟨Rect.unit ![0, 0, 0] ![32, 32, 16] inb_S32x32x16_S32x32x16_0_0_0, x⟩]
    (⟨![(p : ℕ), (q : ℕ), 0], ![16, 16, 16], ![2, 2, 1], inPlane16 p q⟩ : LoadRect S32x32x16)

theorem plane16_apply (x : FVec Ideal S32x32x16 .f32) (p q : Fin 2) (i j : Fin 16) (c : Fin 16) :
    plane16 x p q (ix3 i j c) = x (ix3 ⟨2 * i + p, by omega⟩ ⟨2 * j + q, by omega⟩ c) := by
  unfold plane16
  rw [View.readCov_eq_canon']
  have h := View.canon_cons_unit_lit (Val := Elt Ideal) (S := S32x32x16) (e := .f32) (off := ![0, 0, 0]) inb_S32x32x16_S32x32x16_0_0_0 x [] (by decide)
  refine (congrFun h _).trans (congrArg x ?_)
  funext a
  refine Fin.ext ?_
  fin_cases a
  · show (p : ℕ) + 2 * (i : ℕ) = 2 * i + p
    omega
  · show (q : ℕ) + 2 * (j : ℕ) = 2 * j + q
    omega
  · show 0 + 1 * (c : ℕ) = c
    omega

theorem inTaps16 : ∀ (k : Fin 16) a, (![(k : ℕ), 0, 0] : Fin 3 → Nat) a + S1x16x8.size a ≤ S16x16x8.size a := by decide

/-- The weights of tap `k`. -/
def w16 (X : Vec Ideal S16x16x8 .bf16) (k : Fin 16) : Vec Ideal S1x16x8 .bf16 :=
  View.ld X (Rect.unit ![(k : ℕ), 0, 0] ![1, 16, 8] (inTaps16 k))

theorem w16_apply (X : Vec Ideal S16x16x8 .bf16) (k : Fin 16) (c : Fin 16) (o : Fin 8) : w16 X k (ix3 0 c o) = X (ix3 k c o) := by
  refine congrArg X (funext fun a => Fin.ext ?_)
  fin_cases a
  · show (k : ℕ) + 1 * 0 = k
    omega
  · show 0 + 1 * (c : ℕ) = c
    omega
  · show 0 + 1 * (o : ℕ) = o
    omega

/-- The layer over the whole picture and all the weights. -/
def layer16 (x : FVec Ideal S32x32x16 .f32) (X : Vec Ideal S16x16x8 .bf16) (b : FVec Ideal S1x8 .f32) : FVec Ideal S256x8 .f32 :=
  conv16 (plane16 x 0 0) (plane16 x 0 1) (plane16 x 1 0) (plane16 x 1 1) b
    (w16 X 0) (w16 X 1) (w16 X 2) (w16 X 3) (w16 X 4) (w16 X 5) (w16 X 6) (w16 X 7) (w16 X 8) (w16 X 9) (w16 X 10) (w16 X 11) (w16 X 12) (w16 X 13) (w16 X 14) (w16 X 15)

theorem layer16_apply (x : FVec Ideal S32x32x16 .f32) (X : Vec Ideal S16x16x8 .bf16) (b : FVec Ideal S1x8 .f32) (i j : Fin 16) (o : Fin 8) :
    layer16 x X b (ix2 ⟨i * 16 + j, by omega⟩ o)
      = conv4 (pd fun i j c => x (ix3 i j c)) (fun ki kj c => X (ix3 ⟨ki * 4 + kj, by omega⟩ c o)) (b (ix2 0 o)) i j := by
  refine (conv16_apply (fun i j c => x (ix3 i j c)) (plane16 x) (plane16_apply x) b (fun ki kj => w16 X ⟨ki * 4 + kj, by omega⟩) i j o).trans ?_
  simp only [w16_apply]

/-! ## Pictures of side 8 with 8 channels -/

/-- The picture one row further down. -/
def down8 (x : FVec Ideal S8x8x8 .f32) : FVec Ideal S8x8x8 .f32 :=
  concatenate S8x8x8 0 [⟨S1x8x8, broadcast S1x8x8 (Scalar.ofBits .f32 0x00000000#32 : Ideal .f32)⟩, ⟨S7x8x8, extractStridedSlice S7x8x8 ![0, 0, 0] x slices_S8x8x8_o0_0_0_S7x8x8⟩]
    concatenates_S1x8x8_S7x8x8_S8x8x8_d0

/-- The picture one row further up. -/
def up8 (x : FVec Ideal S8x8x8 .f32) : FVec Ideal S8x8x8 .f32 :=
  concatenate S8x8x8 0 [⟨S7x8x8, extractStridedSlice S7x8x8 ![1, 0, 0] x slices_S8x8x8_o1_0_0_S7x8x8⟩, ⟨S1x8x8, broadcast S1x8x8 (Scalar.ofBits .f32 0x00000000#32 : Ideal .f32)⟩]
    concatenates_S7x8x8_S1x8x8_S8x8x8_d0

/-- The picture one column further to the right. -/
def right8 (x : FVec Ideal S8x8x8 .f32) : FVec Ideal S8x8x8 .f32 :=
  concatenate S8x8x8 1 [⟨S8x1x8, broadcast S8x1x8 (Scalar.ofBits .f32 0x00000000#32 : Ideal .f32)⟩, ⟨S8x7x8, extractStridedSlice S8x7x8 ![0, 0, 0] x slices_S8x8x8_o0_0_0_S8x7x8⟩]
    concatenates_S8x1x8_S8x7x8_S8x8x8_d1

/-- The picture one column further to the left. -/
def left8 (x : FVec Ideal S8x8x8 .f32) : FVec Ideal S8x8x8 .f32 :=
  concatenate S8x8x8 1 [⟨S8x7x8, extractStridedSlice S8x7x8 ![0, 1, 0] x slices_S8x8x8_o0_1_0_S8x7x8⟩, ⟨S8x1x8, broadcast S8x1x8 (Scalar.ofBits .f32 0x00000000#32 : Ideal .f32)⟩]
    concatenates_S8x7x8_S8x1x8_S8x8x8_d1

/-- One tap: every pixel against the tap's weights. -/
def tap8 (x : FVec Ideal S8x8x8 .f32) (w : FVec Ideal S1x8x1 .bf16) : FVec Ideal S64x1 .f32 :=
  matmul dot_S64x8_S8x1_S64x1_1_0_0_1_n_n none (truncf .bf16 (shapeCast S64x8 x shapeCasts_S8x8x8_S64x8) bitsLt_bf16_f32)
    (shapeCast S8x1 w shapeCasts_S1x8x1_S8x1) (constant S64x1 .f32 0x00000000#32)

theorem down8_apply (x : FVec Ideal S8x8x8 .f32) (i j : Fin 8) (c : Fin 8) :
    down8 x (ix3 i j c) = if h : (i : ℕ) < 1 then 0 else x (ix3 ⟨i - 1, by omega⟩ j c) := by
  pointwise [down8]

theorem up8_apply (x : FVec Ideal S8x8x8 .f32) (i j : Fin 8) (c : Fin 8) :
    up8 x (ix3 i j c) = if h : (i : ℕ) < 7 then x (ix3 ⟨1 + i, by omega⟩ j c) else 0 := by
  pointwise [up8]

theorem right8_apply (x : FVec Ideal S8x8x8 .f32) (i j : Fin 8) (c : Fin 8) :
    right8 x (ix3 i j c) = if h : (j : ℕ) < 1 then 0 else x (ix3 i ⟨j - 1, by omega⟩ c) := by
  pointwise [right8]

theorem left8_apply (x : FVec Ideal S8x8x8 .f32) (i j : Fin 8) (c : Fin 8) :
    left8 x (ix3 i j c) = if h : (j : ℕ) < 7 then x (ix3 i ⟨1 + j, by omega⟩ c) else 0 := by
  pointwise [left8]

theorem tap8_apply (x : FVec Ideal S8x8x8 .f32) (w : FVec Ideal S1x8x1 .bf16) (i j : Fin 8) (o : Fin 1) :
    tap8 x w (ix2 ⟨i * 8 + j, by omega⟩ o) = ∑ c : Fin 8, x (ix3 i j c) * w (ix3 0 c o) := by
  obtain rfl : o = 0 := Subsingleton.elim _ _
  pointwise [tap8]

/-- The layer: the bias and the sixteen taps, over the even and odd rows and columns of the picture. -/
def conv8 (x00 x01 x10 x11 : FVec Ideal S8x8x8 .f32) (b : FVec Ideal S1x1 .f32)
    (w00 w01 w02 w03 w10 w11 w12 w13 w20 w21 w22 w23 w30 w31 w32 w33 : FVec Ideal S1x8x1 .bf16) : FVec Ideal S64x1 .f32 :=
  addf (addf (addf (addf (addf (addf (addf (addf (addf (addf (addf (addf (addf (addf (addf (addf (broadcastTo S64x1 (shapeCast S1x1 b shapeCasts_S1x1_S1x1) broadcasts_S1x1_S64x1)
    (tap8 (right8 (down8 x11)) w00))
    (tap8 (down8 x10) w01))
    (tap8 (down8 x11) w02))
    (tap8 (left8 (down8 x10)) w03))
    (tap8 (right8 x01) w10))
    (tap8 (x00) w11))
    (tap8 (x01) w12))
    (tap8 (left8 x00) w13))
    (tap8 (right8 x11) w20))
    (tap8 (x10) w21))
    (tap8 (x11) w22))
    (tap8 (left8 x10) w23))
    (tap8 (right8 (up8 x01)) w30))
    (tap8 (up8 x00) w31))
    (tap8 (up8 x01) w32))
    (tap8 (left8 (up8 x00)) w33)

/-- The tap's picture is the shifted plane. -/
theorem pics8_apply (x : Fin 2 → Fin 2 → FVec Ideal S8x8x8 .f32) (i j : Fin 8) (c : Fin 8) (ki kj : Fin 4) :
    (![![right8 (down8 (x 1 1)), down8 (x 1 0), down8 (x 1 1), left8 (down8 (x 1 0))],
       ![right8 (x 0 1), x 0 0, x 0 1, left8 (x 0 0)],
       ![right8 (x 1 1), x 1 0, x 1 1, left8 (x 1 0)],
       ![right8 (up8 (x 0 1)), up8 (x 0 0), up8 (x 0 1), left8 (up8 (x 0 0))]] : Fin 4 → Fin 4 → FVec Ideal S8x8x8 .f32) ki kj (ix3 i j c) = shifted (fun p q i j c => x p q (ix3 i j c)) ki kj i j c := by
  fin_cases ki <;> fin_cases kj <;> simp [shifted, plane, shift, down8_apply, up8_apply, right8_apply, left8_apply]

/-- The layer at pixel `(i, j)`: the 4 × 4 correlation of stride 2 of the padded picture. -/
theorem conv8_apply (X : Fin 16 → Fin 16 → Fin 8 → EReal) (x : Fin 2 → Fin 2 → FVec Ideal S8x8x8 .f32)
    (h : ∀ (p q : Fin 2) (i j : Fin 8) (c : Fin 8), x p q (ix3 i j c) = X ⟨2 * i + p, by omega⟩ ⟨2 * j + q, by omega⟩ c)
    (b : FVec Ideal S1x1 .f32) (w : Fin 4 → Fin 4 → FVec Ideal S1x8x1 .bf16) (i j : Fin 8) (o : Fin 1) :
    conv8 (x 0 0) (x 0 1) (x 1 0) (x 1 1) b (w 0 0) (w 0 1) (w 0 2) (w 0 3) (w 1 0) (w 1 1) (w 1 2) (w 1 3) (w 2 0) (w 2 1) (w 2 2) (w 2 3) (w 3 0) (w 3 1) (w 3 2) (w 3 3) (ix2 ⟨i * 8 + j, by omega⟩ o)
      = conv4 (pd X) (fun ki kj c => w ki kj (ix3 0 c o)) (b (ix2 0 o)) i j := by
  rw [← conv4_taps (pd X) (fun ki kj c => w ki kj (ix3 0 c o)) (b (ix2 0 o)) i j
    (fun ki kj => tap8 ((![![right8 (down8 (x 1 1)), down8 (x 1 0), down8 (x 1 1), left8 (down8 (x 1 0))],
       ![right8 (x 0 1), x 0 0, x 0 1, left8 (x 0 0)],
       ![right8 (x 1 1), x 1 0, x 1 1, left8 (x 1 0)],
       ![right8 (up8 (x 0 1)), up8 (x 0 0), up8 (x 0 1), left8 (up8 (x 0 0))]] : Fin 4 → Fin 4 → FVec Ideal S8x8x8 .f32) ki kj) (w ki kj) (ix2 ⟨i * 8 + j, by omega⟩ o))
    (fun ki kj => by simp only [tap8_apply, pics8_apply, shifted_apply rfl X (fun p q i j c => x p q (ix3 i j c)) h])]
  have hb : (broadcastTo S64x1 (shapeCast S1x1 b shapeCasts_S1x1_S1x1) broadcasts_S1x1_S64x1) (ix2 ⟨i * 8 + j, by omega⟩ o) = b (ix2 0 o) := by
    obtain rfl : o = 0 := Subsingleton.elim _ _
    pointwise
  rw [← hb]
  rfl

theorem inPlane8 : ∀ (p q : Fin 2) a, S8x8x8.size a = 0 ∨ (![(p : ℕ), (q : ℕ), 0] : Fin 3 → Nat) a + (![2, 2, 1] : Fin 3 → Nat) a * (S8x8x8.size a - 1) < S16x16x8.size a := by decide

/-- The rows from `p` and columns from `q`, every second one, of a picture written whole. -/
def plane8 (x : FVec Ideal S16x16x8 .f32) (p q : Fin 2) : FVec Ideal S8x8x8 .f32 :=
  (View.whole cc1_scratch2).readCov (Val := Elt Ideal) [⟨Rect.unit ![0, 0, 0] ![16, 16, 8] inb_S16x16x8_S16x16x8_0_0_0, x⟩]
    (⟨![(p : ℕ), (q : ℕ), 0], ![8, 8, 8], ![2, 2, 1], inPlane8 p q⟩ : LoadRect S16x16x8)

theorem plane8_apply (x : FVec Ideal S16x16x8 .f32) (p q : Fin 2) (i j : Fin 8) (c : Fin 8) :
    plane8 x p q (ix3 i j c) = x (ix3 ⟨2 * i + p, by omega⟩ ⟨2 * j + q, by omega⟩ c) := by
  unfold plane8
  rw [View.readCov_eq_canon']
  have h := View.canon_cons_unit_lit (Val := Elt Ideal) (S := S16x16x8) (e := .f32) (off := ![0, 0, 0]) inb_S16x16x8_S16x16x8_0_0_0 x [] (by decide)
  refine (congrFun h _).trans (congrArg x ?_)
  funext a
  refine Fin.ext ?_
  fin_cases a
  · show (p : ℕ) + 2 * (i : ℕ) = 2 * i + p
    omega
  · show (q : ℕ) + 2 * (j : ℕ) = 2 * j + q
    omega
  · show 0 + 1 * (c : ℕ) = c
    omega

theorem inTaps8 : ∀ (k : Fin 16) a, (![(k : ℕ), 0, 0] : Fin 3 → Nat) a + S1x8x1.size a ≤ S16x8x1.size a := by decide

/-- The weights of tap `k`. -/
def w8 (X : Vec Ideal S16x8x1 .bf16) (k : Fin 16) : Vec Ideal S1x8x1 .bf16 :=
  View.ld X (Rect.unit ![(k : ℕ), 0, 0] ![1, 8, 1] (inTaps8 k))

theorem w8_apply (X : Vec Ideal S16x8x1 .bf16) (k : Fin 16) (c : Fin 8) (o : Fin 1) : w8 X k (ix3 0 c o) = X (ix3 k c o) := by
  refine congrArg X (funext fun a => Fin.ext ?_)
  fin_cases a
  · show (k : ℕ) + 1 * 0 = k
    omega
  · show 0 + 1 * (c : ℕ) = c
    omega
  · show 0 + 1 * (o : ℕ) = o
    omega

/-- The layer over the whole picture and all the weights. -/
def layer8 (x : FVec Ideal S16x16x8 .f32) (X : Vec Ideal S16x8x1 .bf16) (b : FVec Ideal S1x1 .f32) : FVec Ideal S64x1 .f32 :=
  conv8 (plane8 x 0 0) (plane8 x 0 1) (plane8 x 1 0) (plane8 x 1 1) b
    (w8 X 0) (w8 X 1) (w8 X 2) (w8 X 3) (w8 X 4) (w8 X 5) (w8 X 6) (w8 X 7) (w8 X 8) (w8 X 9) (w8 X 10) (w8 X 11) (w8 X 12) (w8 X 13) (w8 X 14) (w8 X 15)

theorem layer8_apply (x : FVec Ideal S16x16x8 .f32) (X : Vec Ideal S16x8x1 .bf16) (b : FVec Ideal S1x1 .f32) (i j : Fin 8) (o : Fin 1) :
    layer8 x X b (ix2 ⟨i * 8 + j, by omega⟩ o)
      = conv4 (pd fun i j c => x (ix3 i j c)) (fun ki kj c => X (ix3 ⟨ki * 4 + kj, by omega⟩ c o)) (b (ix2 0 o)) i j := by
  refine (conv8_apply (fun i j c => x (ix3 i j c)) (plane8 x) (plane8_apply x) b (fun ki kj => w8 X ⟨ki * 4 + kj, by omega⟩) i j o).trans ?_
  simp only [w8_apply]

end Cert.KernelIdeal.HeadK

end
-- ==== Proof.HeadM.lean ====
module

public import proofs.«01_k».proof.Proof.HeadK

@[expose] public section

set_option maxRecDepth 16384

noncomputable section

namespace Cert.KernelIdeal.HeadM

open Idealize.ShloMosaic Idealize.ShloMosaic.TcCoe Idealize.SL.Sem
open Cert.KernelIdeal Cert.KernelIdeal.Gen Cert.Img Cert.Head Cert.KernelIdeal.HeadK

/-! ## The first layer -/

/-- The two maps side by side along the channels, a row per pixel. -/
def cat (x y : FVec Ideal S4096x64 .f32) : FVec Ideal S64x64x128 .bf16 :=
  truncf .bf16 (shapeCast S64x64x128 (concatenate S4096x128 1 [⟨S4096x64, x⟩, ⟨S4096x64, y⟩] concatenates_S4096x64_S4096x64_S4096x128_d1)
    shapeCasts_S4096x128_S64x64x128) bitsLt_bf16_f32

/-- Each row of the picture and the two rows below it, side by side along the channels. -/
def rows (y : FVec Ideal S64x64x128 .bf16) : FVec Ideal S4096x384 .bf16 :=
  shapeCast S4096x384 (concatenate S64x64x384 2
    [⟨S64x64x128, y⟩,
     ⟨S64x64x128, concatenate S64x64x128 0 [⟨S63x64x128, extractStridedSlice S63x64x128 ![1, 0, 0] y slices_S64x64x128_o1_0_0_S63x64x128⟩,
        ⟨S1x64x128, broadcast S1x64x128 (Scalar.ofBits .bf16 0x0000#16 : Ideal .bf16)⟩]
        concatenates_S63x64x128_S1x64x128_S64x64x128_d0⟩,
     ⟨S64x64x128, concatenate S64x64x128 0 [⟨S62x64x128, extractStridedSlice S62x64x128 ![2, 0, 0] y slices_S64x64x128_o2_0_0_S62x64x128⟩,
        ⟨S2x64x128, broadcast S2x64x128 (Scalar.ofBits .bf16 0x0000#16 : Ideal .bf16)⟩]
        concatenates_S62x64x128_S2x64x128_S64x64x128_d0⟩]
    concatenates_S64x64x128_S64x64x128_S64x64x128_S64x64x384_d2) shapeCasts_S64x64x384_S4096x384

/-- Those rows against the weights, pixel by pixel. -/
def mm (y : FVec Ideal S4096x384 .bf16) (w : FVec Ideal S384x96 .bf16) : FVec Ideal S4096x96 .f32 :=
  matmul dot_S4096x384_S384x96_S4096x96_1_0_0_1_n_n none y
    (shapeCast S384x96 w shapeCasts_S384x96_S384x96) (constant S4096x96 .f32 0x00000000#32)

/-- The bias and the three column shifts added up. -/
def sum (z : FVec Ideal S4096x96 .f32) (b : FVec Ideal S1x32 .f32) : FVec Ideal S4096x32 .f32 :=
  have z : FVec Ideal S64x64x96 .f32 := shapeCast S64x64x96 z shapeCasts_S4096x96_S64x64x96
  shapeCast S4096x32 (addf (addf (addf
    (broadcastTo S64x64x32 (shapeCast S1x1x32 (shapeCast S1x32 b shapeCasts_S1x32_S1x32) shapeCasts_S1x32_S1x1x32) broadcasts_S1x1x32_S64x64x32)
    (extractStridedSlice S64x64x32 ![0, 0, 0] z slices_S64x64x96_o0_0_0_S64x64x32))
    (concatenate S64x64x32 1 [⟨S64x63x32, extractStridedSlice S64x63x32 ![0, 1, 0]
        (extractStridedSlice S64x64x32 ![0, 0, 32] z slices_S64x64x96_o0_0_32_S64x64x32) slices_S64x64x32_o0_1_0_S64x63x32⟩,
      ⟨S64x1x32, broadcast S64x1x32 (Scalar.ofBits .f32 0x00000000#32 : Ideal .f32)⟩] concatenates_S64x63x32_S64x1x32_S64x64x32_d1))
    (concatenate S64x64x32 1 [⟨S64x62x32, extractStridedSlice S64x62x32 ![0, 2, 0]
        (extractStridedSlice S64x64x32 ![0, 0, 64] z slices_S64x64x96_o0_0_64_S64x64x32) slices_S64x64x32_o0_2_0_S64x62x32⟩,
      ⟨S64x2x32, broadcast S64x2x32 (Scalar.ofBits .f32 0x00000000#32 : Ideal .f32)⟩] concatenates_S64x62x32_S64x2x32_S64x64x32_d1))
    shapeCasts_S64x64x32_S4096x32

/-- The positive part of the layer. -/
def conv64 (x y : FVec Ideal S4096x64 .f32) (w : FVec Ideal S384x96 .bf16) (b : FVec Ideal S1x32 .f32) : FVec Ideal S4096x32 .f32 :=
  maximumf (sum (mm (rows (cat x y)) w) b) (broadcast S4096x32 (Scalar.ofBits .f32 0x00000000#32 : Ideal .f32))

theorem cat_apply (x y : FVec Ideal S4096x64 .f32) (i j : Fin 64) (c : Fin 128) :
    cat x y (ix3 i j c) = both (fun i j c => x (ix2 ⟨i * 64 + j, by omega⟩ c)) (fun i j c => y (ix2 ⟨i * 64 + j, by omega⟩ c)) i j c := by
  pointwise [cat]
  unfold both
  split_ifs <;> rfl

/-- The rows at pixel `(i, j)`, in block `k` of the channels: pixel `(i + k, j)` of the picture. -/
theorem rows_apply (y : FVec Ideal S64x64x128 .bf16) (i j : Fin 64) (k : Fin 3) (c : Fin 128) :
    rows y (ix2 ⟨i * 64 + j, by omega⟩ ⟨k * 128 + c, by omega⟩) = raw (fun i j c => y (ix3 i j c)) (i + k) j c := by
  pointwise [rows]
  unfold raw
  split_ifs <;> first | omega | rfl | (rw [dif_neg (by omega)]) | (rw [dif_pos (by omega)]; refine congrArg y (congr (congr (congrArg ix3 (Fin.ext ?_)) (Fin.ext ?_)) (Fin.ext ?_)) <;> (try dsimp only) <;> omega)

/-- The product at pixel `(i, j)`, as one sum per block of the channels. -/
theorem mm_apply (y : FVec Ideal S64x64x128 .bf16) (w : FVec Ideal S384x96 .bf16) (i j : Fin 64) (o : Fin 96) :
    mm (rows y) w (ix2 ⟨i * 64 + j, by omega⟩ o)
      = ∑ k : Fin 3, ∑ c : Fin 128, raw (fun i j c => y (ix3 i j c)) (i + k) j c * w (ix2 ⟨k * 128 + c, by omega⟩ o) := by
  pointwise [mm]
  rw [Fin.sum_univ_tiles 3 128 rfl]
  exact Finset.sum_congr rfl fun k _ => Finset.sum_congr rfl fun c _ => by rw [← rows_apply]

/-- The sum of the shifts at pixel `(i, j)`. -/
theorem sum_apply (z : FVec Ideal S4096x96 .f32) (b : FVec Ideal S1x32 .f32) (i j : Fin 64) (o : Fin 32) :
    sum z b (ix2 ⟨i * 64 + j, by omega⟩ o)
      = ((b (ix2 0 o) + z (ix2 ⟨i * 64 + j, by omega⟩ ⟨o, by omega⟩))
        + if h : (j : ℕ) < 63 then z (ix2 ⟨i * 64 + (1 + j), by omega⟩ ⟨32 + o, by omega⟩) else 0)
        + if h : (j : ℕ) < 62 then z (ix2 ⟨i * 64 + (2 + j), by omega⟩ ⟨64 + o, by omega⟩) else 0 := by
  pointwise [sum]

/-- The whole layer at pixel `(i, j)`: the correlation of the picture, zero beyond its edge. -/
theorem conv64_apply (x y : FVec Ideal S4096x64 .f32) (w : FVec Ideal S384x96 .bf16) (b : FVec Ideal S1x32 .f32) (i j : Fin 64) (o : Fin 32) :
    conv64 x y w b (ix2 ⟨i * 64 + j, by omega⟩ o)
      = max (conv3 (raw (both (fun i j c => x (ix2 ⟨i * 64 + j, by omega⟩ c)) (fun i j c => y (ix2 ⟨i * 64 + j, by omega⟩ c))))
          (fun ki kj c => w (ix2 ⟨ki * 128 + c, by omega⟩ ⟨kj * 32 + o, by omega⟩)) (b (ix2 0 o)) i j) 0 := by
  have hc : both (fun i j c => x (ix2 ⟨i * 64 + j, by omega⟩ c)) (fun i j c => y (ix2 ⟨i * 64 + j, by omega⟩ c)) = fun i j c => cat x y (ix3 i j c) :=
    funext fun i => funext fun j => funext fun c => (cat_apply x y i j c).symm
  rw [hc]
  unfold conv64
  generalize cat x y = p
  have hs : sum (mm (rows p) w) b (ix2 ⟨i * 64 + j, by omega⟩ o)
      = conv3 (raw fun i j c => p (ix3 i j c)) (fun ki kj c => w (ix2 ⟨ki * 128 + c, by omega⟩ ⟨kj * 32 + o, by omega⟩)) (b (ix2 0 o)) i j := by
    rw [sum_apply, conv3_cols]
    have h0 := mm_apply p w i j ⟨o, by omega⟩
    congr 1
    · congr 1
      · rw [h0]
        simp
      · split_ifs with h
        · have h1 := mm_apply p w i ⟨1 + j, by omega⟩ ⟨32 + o, by omega⟩
          rw [h1]
          simp [show 1 + (j : ℕ) = j + 1 by omega]
        · rw [sum_border]
          intro a c
          unfold raw
          rw [dif_neg (by omega)]
    · split_ifs with h
      · have h2 := mm_apply p w i ⟨2 + j, by omega⟩ ⟨64 + o, by omega⟩
        rw [h2]
        simp [show 2 + (j : ℕ) = j + 2 by omega]
      · rw [sum_border]
        intro a c
        unfold raw
        rw [dif_neg (by omega)]
  rw [← hs]
  generalize sum (mm (rows p) w) b = g
  pointwise

/-! ## The cuts between the layers -/

theorem sel {α : Type} (p q : Bool) (x y : α) : Scalar.select (IntOp.andi (BitVec.ofBool p) (BitVec.ofBool q)) x y = if p = true ∧ q = true then x else y := by
  cases p <;> cases q <;> rfl

/-- The picture with everything from row and column 62 on set to zero. -/
def cut64 (x : FVec Ideal S4096x32 .f32) : FVec Ideal S64x64x32 .f32 :=
  shapeCast S64x64x32 (select (broadcastTo S64x64x32 (shapeCast S64x64x1
      (andi (cmpi .slt (iota .tc S64x64x1 32 [0] iota_S64x64x1_d0_w32) (broadcast S64x64x1 62#32))
        (cmpi .slt (iota .tc S64x64x1 32 [1] iota_S64x64x1_d1_w32) (broadcast S64x64x1 62#32)))
      shapeCasts_S64x64x1_S64x64x1) broadcasts_S64x64x1_S64x64x32)
    (shapeCast S64x64x32 x shapeCasts_S4096x32_S64x64x32)
    (broadcast S64x64x32 (Scalar.ofBits .f32 0x00000000#32 : Ideal .f32))) shapeCasts_S64x64x32_S64x64x32

theorem below64 : ∀ i : Fin 64, BitVec.slt (BitVec.ofNat 32 i) 62#32 = decide ((i : ℕ) < 62) := by decide

theorem cut64_apply (x : FVec Ideal S4096x32 .f32) (i j : Fin 64) (c : Fin 32) :
    cut64 x (ix3 i j c) = if (i : ℕ) < 62 ∧ (j : ℕ) < 62 then x (ix2 ⟨i * 64 + j, by omega⟩ c) else 0 := by
  have hi := below64 i
  have hj := below64 j
  pointwise [cut64]
  refine (sel _ _ _ _).trans ?_
  rw [hi, hj]
  simp only [decide_eq_true_eq]

/-- The picture with everything from row and column 31 on set to zero. -/
def cut32 (x : FVec Ideal S1024x16 .f32) : FVec Ideal S32x32x16 .f32 :=
  shapeCast S32x32x16 (select (broadcastTo S32x32x16 (shapeCast S32x32x1
      (andi (cmpi .slt (iota .tc S32x32x1 32 [0] iota_S32x32x1_d0_w32) (broadcast S32x32x1 31#32))
        (cmpi .slt (iota .tc S32x32x1 32 [1] iota_S32x32x1_d1_w32) (broadcast S32x32x1 31#32)))
      shapeCasts_S32x32x1_S32x32x1) broadcasts_S32x32x1_S32x32x16)
    (shapeCast S32x32x16 x shapeCasts_S1024x16_S32x32x16)
    (broadcast S32x32x16 (Scalar.ofBits .f32 0x00000000#32 : Ideal .f32))) shapeCasts_S32x32x16_S32x32x16

theorem below32 : ∀ i : Fin 32, BitVec.slt (BitVec.ofNat 32 i) 31#32 = decide ((i : ℕ) < 31) := by decide

theorem cut32_apply (x : FVec Ideal S1024x16 .f32) (i j : Fin 32) (c : Fin 16) :
    cut32 x (ix3 i j c) = if (i : ℕ) < 31 ∧ (j : ℕ) < 31 then x (ix2 ⟨i * 32 + j, by omega⟩ c) else 0 := by
  have hi := below32 i
  have hj := below32 j
  pointwise [cut32]
  refine (sel _ _ _ _).trans ?_
  rw [hi, hj]
  simp only [decide_eq_true_eq]

/-- The picture with everything from row and column 15 on set to zero. -/
def cut16 (x : FVec Ideal S256x8 .f32) : FVec Ideal S16x16x8 .f32 :=
  shapeCast S16x16x8 (select (broadcastTo S16x16x8 (shapeCast S16x16x1
      (andi (cmpi .slt (iota .tc S16x16x1 32 [0] iota_S16x16x1_d0_w32) (broadcast S16x16x1 15#32))
        (cmpi .slt (iota .tc S16x16x1 32 [1] iota_S16x16x1_d1_w32) (broadcast S16x16x1 15#32)))
      shapeCasts_S16x16x1_S16x16x1) broadcasts_S16x16x1_S16x16x8)
    (shapeCast S16x16x8 x shapeCasts_S256x8_S16x16x8)
    (broadcast S16x16x8 (Scalar.ofBits .f32 0x00000000#32 : Ideal .f32))) shapeCasts_S16x16x8_S16x16x8

theorem below16 : ∀ i : Fin 16, BitVec.slt (BitVec.ofNat 32 i) 15#32 = decide ((i : ℕ) < 15) := by decide

theorem cut16_apply (x : FVec Ideal S256x8 .f32) (i j : Fin 16) (c : Fin 8) :
    cut16 x (ix3 i j c) = if (i : ℕ) < 15 ∧ (j : ℕ) < 15 then x (ix2 ⟨i * 16 + j, by omega⟩ c) else 0 := by
  have hi := below16 i
  have hj := below16 j
  pointwise [cut16]
  refine (sel _ _ _ _).trans ?_
  rw [hi, hj]
  simp only [decide_eq_true_eq]

/-! ## The agents' head and the mean -/

/-- The agents' head over the two maps' first rows and the agents' own rows. -/
def agent (x y : FVec Ideal S4096x64 .f32) (g1 g2 : FVec Ideal S1x1x64 .f32) (w1 : FVec Ideal S256x32 .f32) (b1 : FVec Ideal S1x32 .f32)
    (w2 : FVec Ideal S32x1 .f32) (b2 : FVec Ideal S1x1 .f32) : FVec Ideal S1x1 .f32 :=
  addf (matmul dot_S1x32_S32x1_S1x1_1_0_0_1_n_n none
    (maximumf (addf (matmul dot_S1x256_S256x32_S1x32_1_0_0_1_n_n none
        (concatenate S1x256 1 [⟨S1x64, extractStridedSlice S1x64 ![0, 0] x slices_S4096x64_o0_0_S1x64⟩,
            ⟨S1x64, shapeCast S1x64 g1 shapeCasts_S1x1x64_S1x64⟩,
            ⟨S1x64, extractStridedSlice S1x64 ![0, 0] y slices_S4096x64_o0_0_S1x64⟩,
            ⟨S1x64, shapeCast S1x64 g2 shapeCasts_S1x1x64_S1x64⟩] concatenates_S1x64_S1x64_S1x64_S1x64_S1x256_d1)
        (shapeCast S256x32 w1 shapeCasts_S256x32_S256x32) (constant S1x32 .f32 0x00000000#32))
      (shapeCast S1x32 b1 shapeCasts_S1x32_S1x32)) (broadcast S1x32 (Scalar.ofBits .f32 0x00000000#32 : Ideal .f32)))
    (shapeCast S32x1 w2 shapeCasts_S32x1_S32x1) (constant S1x1 .f32 0x00000000#32))
    (shapeCast S1x1 b2 shapeCasts_S1x1_S1x1)

theorem agent_apply (x y : FVec Ideal S4096x64 .f32) (g1 g2 : FVec Ideal S1x1x64 .f32) (w1 : FVec Ideal S256x32 .f32) (b1 : FVec Ideal S1x32 .f32)
    (w2 : FVec Ideal S32x1 .f32) (b2 : FVec Ideal S1x1 .f32) :
    agent x y g1 g2 w1 b1 w2 b2 (ix2 0 0)
      = agentHead (four (fun c => x (ix2 0 c)) (fun c => g1 (ix3 0 0 c)) (fun c => y (ix2 0 c)) (fun c => g2 (ix3 0 0 c)))
          (fun k l => w1 (ix2 l k)) (fun k => b1 (ix2 0 k)) (fun k => w2 (ix2 k 0)) (b2 (ix2 0 0)) := by
  have hf : ∀ l : Fin 256, concatenate S1x256 1 [⟨S1x64, extractStridedSlice S1x64 ![0, 0] x slices_S4096x64_o0_0_S1x64⟩,
            ⟨S1x64, shapeCast S1x64 g1 shapeCasts_S1x1x64_S1x64⟩,
            ⟨S1x64, extractStridedSlice S1x64 ![0, 0] y slices_S4096x64_o0_0_S1x64⟩,
            ⟨S1x64, shapeCast S1x64 g2 shapeCasts_S1x1x64_S1x64⟩] concatenates_S1x64_S1x64_S1x64_S1x64_S1x256_d1 (ix2 0 l)
      = four (fun c => x (ix2 0 c)) (fun c => g1 (ix3 0 0 c)) (fun c => y (ix2 0 c)) (fun c => g2 (ix3 0 0 c)) l := by
    intro l
    pointwise
    unfold four
    split_ifs <;> first
      | omega
      | rfl
      | (rw [dif_pos (by omega)])
      | (rw [dif_neg (by omega), dif_pos (by omega)]; exact congrArg y (congrArg (ix2 0) (Fin.ext (by dsimp only; omega))))
      | (rw [dif_neg (by omega), dif_neg (by omega)]; exact congrArg g2 (congrArg (ix3 0 0) (Fin.ext (by dsimp only; omega))))
  unfold agent agentHead
  generalize concatenate S1x256 1 [⟨S1x64, extractStridedSlice S1x64 ![0, 0] x slices_S4096x64_o0_0_S1x64⟩,
            ⟨S1x64, shapeCast S1x64 g1 shapeCasts_S1x1x64_S1x64⟩,
            ⟨S1x64, extractStridedSlice S1x64 ![0, 0] y slices_S4096x64_o0_0_S1x64⟩,
            ⟨S1x64, shapeCast S1x64 g2 shapeCasts_S1x1x64_S1x64⟩] concatenates_S1x64_S1x64_S1x64_S1x64_S1x256_d1 = q at hf ⊢
  simp only [← hf]
  pointwise

/-- The mean of the two heads' logistic functions. -/
def mean (d : FVec Ideal S64x1 .f32) (a : FVec Ideal S1x1 .f32) : FVec Ideal S1x1x7x7 .f32 :=
  shapeCast S1x1x7x7 (extractStridedSlice S7x7 ![0, 0]
    (divf (addf (logistic (shapeCast S8x8 (shapeCast S8x8x1 d shapeCasts_S64x1_S8x8x1) shapeCasts_S8x8x1_S8x8))
        (broadcastTo S8x8 (logistic a) broadcasts_S1x1_S8x8))
      (broadcast S8x8 (Scalar.ofBits .f32 0x40000000#32 : Ideal .f32))) slices_S8x8_o0_0_S7x7) shapeCasts_S7x7_S1x1x7x7

theorem mean_apply (d : FVec Ideal S64x1 .f32) (a : FVec Ideal S1x1 .f32) (i j : Fin 7) :
    mean d a (ix4 0 0 i j) = Ideal.div (Ideal.logistic (d (ix2 ⟨i * 8 + j, by omega⟩ 0)) + Ideal.logistic (a (ix2 0 0))) (Ideal.ofBits FTy.f32 0x40000000#32) := by
  pointwise [mean]

/-- The positive part of the second and the third layer. -/
def pos32 (x : FVec Ideal S1024x16 .f32) : FVec Ideal S1024x16 .f32 := maximumf x (broadcast S1024x16 (Scalar.ofBits .f32 0x00000000#32 : Ideal .f32))
def pos16 (x : FVec Ideal S256x8 .f32) : FVec Ideal S256x8 .f32 := maximumf x (broadcast S256x8 (Scalar.ofBits .f32 0x00000000#32 : Ideal .f32))

theorem pos32_apply (x : FVec Ideal S1024x16 .f32) (p : Fin 1024) (o : Fin 16) : pos32 x (ix2 p o) = max (x (ix2 p o)) 0 := by
  pointwise [pos32]
theorem pos16_apply (x : FVec Ideal S256x8 .f32) (p : Fin 256) (o : Fin 8) : pos16 x (ix2 p o) = max (x (ix2 p o)) 0 := by
  pointwise [pos16]

/-- The map's head up to its last sum, over the two maps. -/
def mapK (x y : FVec Ideal S4096x64 .f32) (w1 : Vec Ideal S384x96 .bf16) (b1 : Vec Ideal S1x32 .f32) (w2 : Vec Ideal S16x32x16 .bf16) (b2 : Vec Ideal S1x16 .f32)
    (w3 : Vec Ideal S16x16x8 .bf16) (b3 : Vec Ideal S1x8 .f32) (w4 : Vec Ideal S16x8x1 .bf16) (b4 : Vec Ideal S1x1 .f32) : FVec Ideal S64x1 .f32 :=
  layer8 (cut16 (pos16 (layer16 (cut32 (pos32 (layer32 (cut64 (conv64 x y w1 b1)) w2 b2))) w3 b3))) w4 b4

/-- The map's head at pixel `(i, j)`, as the layers of the definition. -/
theorem mapK_apply (x y : FVec Ideal S4096x64 .f32) (w1 : Vec Ideal S384x96 .bf16) (b1 : Vec Ideal S1x32 .f32) (w2 : Vec Ideal S16x32x16 .bf16) (b2 : Vec Ideal S1x16 .f32)
    (w3 : Vec Ideal S16x16x8 .bf16) (b3 : Vec Ideal S1x8 .f32) (w4 : Vec Ideal S16x8x1 .bf16) (b4 : Vec Ideal S1x1 .f32) (i j : Fin 7) :
    mapK x y w1 b1 w2 b2 w3 b3 w4 b4 (ix2 ⟨i * 8 + j, by omega⟩ 0)
      = mapHead (both (fun i j c => x (ix2 ⟨i * 64 + j, by omega⟩ c)) (fun i j c => y (ix2 ⟨i * 64 + j, by omega⟩ c)))
          (fun o a b c => w1 (ix2 ⟨a * 128 + c, by omega⟩ ⟨b * 32 + o, by omega⟩)) (fun o => b1 (ix2 0 o))
          (fun o a b c => w2 (ix3 ⟨a * 4 + b, by omega⟩ c o)) (fun o => b2 (ix2 0 o))
          (fun o a b c => w3 (ix3 ⟨a * 4 + b, by omega⟩ c o)) (fun o => b3 (ix2 0 o))
          (fun o a b c => w4 (ix3 ⟨a * 4 + b, by omega⟩ c o)) (fun o => b4 (ix2 0 o)) i j := by
  unfold mapK mapHead
  have h8 := layer8_apply (cut16 (pos16 (layer16 (cut32 (pos32 (layer32 (cut64 (conv64 x y w1 b1)) w2 b2))) w3 b3))) w4 b4 ⟨i, by omega⟩ ⟨j, by omega⟩ 0
  refine h8.trans ?_
  unfold half
  refine congrArg (fun p => conv4 p _ _ (i : ℕ) (j : ℕ)) (pd_cut (by decide) _ _ fun i j c => ?_)
  rw [cut16_apply]
  split_ifs with h
  swap
  · rfl
  rw [pos16_apply, layer16_apply]
  refine congrArg (fun p => max (conv4 p _ _ (i : ℕ) (j : ℕ)) 0) (pd_cut (by decide) _ _ fun i j c => ?_)
  rw [cut32_apply]
  split_ifs with h
  swap
  · rfl
  rw [pos32_apply, layer32_apply]
  refine congrArg (fun p => max (conv4 p _ _ (i : ℕ) (j : ℕ)) 0) (pd_cut (by decide) _ _ fun i j c => ?_)
  rw [cut64_apply]
  split_ifs with h
  swap
  · rfl
  rw [conv64_apply]
  rfl

/-! ## What the kernel computes, in these terms -/

end Cert.KernelIdeal.HeadM

end
-- ==== Proof.Out22.lean ====
module

public import proofs.«01_k».proof.Proof.HeadM

@[expose] public section

set_option maxRecDepth 16384

noncomputable section

namespace Cert.KernelIdeal.Out22

open Idealize.ShloMosaic Idealize.ShloMosaic.TcCoe Idealize.SL.Sem
open Cert.KernelIdeal Cert.KernelIdeal.Gen Cert.KernelIdeal.Out1 Cert.Img Cert.Head Cert.KernelIdeal.HeadK Cert.KernelIdeal.HeadM

open Cert.KernelIdeal.Out0 (row)

/-- The stretch of the body that computes this layer. -/
def part32 (x00 x01 x10 x11 : Vec Ideal S32x32x32 .f32) (b : Vec Ideal S1x16 .f32) (w0 w1 w2 w3 w4 w5 w6 w7 w8 w9 w10 w11 w12 w13 w14 w15 : Vec Ideal S1x32x16 .bf16) : Vec Ideal S32x32x16 .f32 :=
  k1_pay26 (F := Ideal) x00 (k1_pay24 (F := Ideal) x00 x01 x10 (k1_pay22 (F := Ideal) x00 x01 x10 x11 (k1_pay19 (F := Ideal) x01 x10 x11 (k1_pay17 (F := Ideal) x11 b w0) (k1_pay18 (F := Ideal) x10) w1 w2 w3 w4) (k1_pay20 (F := Ideal) x00) (k1_pay21 (F := Ideal) w5) w6 w7 w8 w9) (k1_pay23 (F := Ideal) x11 w10) w11 w12 w13) (k1_pay25 (F := Ideal) x01 w14) w15

theorem part32_eq (x00 x01 x10 x11 : Vec Ideal S32x32x32 .f32) (b : Vec Ideal S1x16 .f32) (w0 w1 w2 w3 w4 w5 w6 w7 w8 w9 w10 w11 w12 w13 w14 w15 : Vec Ideal S1x32x16 .bf16) :
    part32 x00 x01 x10 x11 b w0 w1 w2 w3 w4 w5 w6 w7 w8 w9 w10 w11 w12 w13 w14 w15 = cut32 (pos32 (conv32 x00 x01 x10 x11 b w0 w1 w2 w3 w4 w5 w6 w7 w8 w9 w10 w11 w12 w13 w14 w15)) := rfl

/-- The stretch of the body that computes this layer. -/
def part16 (x00 x01 x10 x11 : Vec Ideal S16x16x16 .f32) (b : Vec Ideal S1x8 .f32) (w0 w1 w2 w3 w4 w5 w6 w7 w8 w9 w10 w11 w12 w13 w14 w15 : Vec Ideal S1x16x8 .bf16) : Vec Ideal S16x16x8 .f32 :=
  k1_pay38 (F := Ideal) (k1_pay35 (F := Ideal) x00 x01 (k1_pay32 (F := Ideal) x10 x11 (k1_pay29 (F := Ideal) x00 x01 (k1_pay27 (F := Ideal) x10 x11 b w0 w1 w2) (k1_pay28 (F := Ideal) x10) w3 w4 w5 w6 w7) (k1_pay30 (F := Ideal)) (k1_pay31 (F := Ideal) x11) w8 w9 w10 w11) (k1_pay33 (F := Ideal) x01) (k1_pay34 (F := Ideal) w12) w13 w14 w15) k1_pay36 k1_pay37

theorem part16_eq (x00 x01 x10 x11 : Vec Ideal S16x16x16 .f32) (b : Vec Ideal S1x8 .f32) (w0 w1 w2 w3 w4 w5 w6 w7 w8 w9 w10 w11 w12 w13 w14 w15 : Vec Ideal S1x16x8 .bf16) :
    part16 x00 x01 x10 x11 b w0 w1 w2 w3 w4 w5 w6 w7 w8 w9 w10 w11 w12 w13 w14 w15 = cut16 (pos16 (conv16 x00 x01 x10 x11 b w0 w1 w2 w3 w4 w5 w6 w7 w8 w9 w10 w11 w12 w13 w14 w15)) := rfl

/-- The stretch of the body that computes this layer. -/
def part8 (x00 x01 x10 x11 : Vec Ideal S8x8x8 .f32) (b : Vec Ideal S1x1 .f32) (w0 w1 w2 w3 w4 w5 w6 w7 w8 w9 w10 w11 w12 w13 w14 w15 : Vec Ideal S1x8x1 .bf16) (a : Vec Ideal S1x1 .f32) : Vec Ideal S1x1x7x7 .f32 :=
  k1_pay1 (F := Ideal) a x00 (k1_pay46 (F := Ideal) x00 x01 x10 (k1_pay44 (F := Ideal) x00 x01 x10 x11 (k1_pay41 (F := Ideal) x01 x10 x11 (k1_pay39 (F := Ideal) x11 b w0) (k1_pay40 (F := Ideal) x10) w1 w2 w3 w4) (k1_pay42 (F := Ideal) x00) (k1_pay43 (F := Ideal) w5) w6 w7 w8 w9) (k1_pay45 (F := Ideal) x11 w10) w11 w12 w13) (k1_pay47 (F := Ideal) x01 w14) w15

theorem part8_eq (x00 x01 x10 x11 : Vec Ideal S8x8x8 .f32) (b : Vec Ideal S1x1 .f32) (w0 w1 w2 w3 w4 w5 w6 w7 w8 w9 w10 w11 w12 w13 w14 w15 : Vec Ideal S1x8x1 .bf16) (a : Vec Ideal S1x1 .f32) :
    part8 x00 x01 x10 x11 b w0 w1 w2 w3 w4 w5 w6 w7 w8 w9 w10 w11 w12 w13 w14 w15 a = mean (conv8 x00 x01 x10 x11 b w0 w1 w2 w3 w4 w5 w6 w7 w8 w9 w10 w11 w12 w13 w14 w15) a := rfl

/-- The stretch that computes the first layer of the map's head. -/
def part64 (x y : Vec Ideal S4096x64 .f32) (w : Vec Ideal S384x96 .bf16) (b : Vec Ideal S1x32 .f32) : Vec Ideal S64x64x32 .f32 :=
  k1_pay16 (F := Ideal) (k1_pay13 x y w b) k1_pay14 k1_pay15

theorem part64_eq (x y : Vec Ideal S4096x64 .f32) (w : Vec Ideal S384x96 .bf16) (b : Vec Ideal S1x32 .f32) : part64 x y w b = cut64 (conv64 x y w b) := rfl

/-- The stretch that computes the agents' head. -/
def partA (x : Vec Ideal S4096x64 .f32) (v178 : Vec Ideal S4096x192 .f32) (b3 : Vec Ideal S1x64 .f32) (g1 g2 : Vec Ideal S1x1x64 .f32) (w1 : Vec Ideal S256x32 .f32) (b1 : Vec Ideal S1x32 .f32)
    (w2 : Vec Ideal S32x1 .f32) (b2 : Vec Ideal S1x1 .f32) : Vec Ideal S1x1 .f32 :=
  k1_pay12 (F := Ideal) (k1_pay11 x v178 b3 g1 g2 w1 b1) w2 b2

theorem partA_eq (x : Vec Ideal S4096x64 .f32) (v178 : Vec Ideal S4096x192 .f32) (b3 : Vec Ideal S1x64 .f32) (g1 g2 : Vec Ideal S1x1x64 .f32) (w1 : Vec Ideal S256x32 .f32) (b1 : Vec Ideal S1x32 .f32)
    (w2 : Vec Ideal S32x1 .f32) (b2 : Vec Ideal S1x1 .f32) : partA x v178 b3 g1 g2 w1 b1 w2 b2 = agent x (k1_pay9 v178 b3) g1 g2 w1 b1 w2 b2 := rfl

/-- The stretch over the picture the layer before it left. -/
def step32 (x : Vec Ideal S64x64x32 .f32) (X : Vec Ideal S16x32x16 .bf16) (b : Vec Ideal S1x16 .f32) : Vec Ideal S32x32x16 .f32 :=
  part32 (plane32 x 0 0) (plane32 x 0 1) (plane32 x 1 0) (plane32 x 1 1) b (w32 X 0) (w32 X 1) (w32 X 2) (w32 X 3) (w32 X 4) (w32 X 5) (w32 X 6) (w32 X 7) (w32 X 8) (w32 X 9) (w32 X 10) (w32 X 11) (w32 X 12) (w32 X 13) (w32 X 14) (w32 X 15)

theorem step32_eq (x : Vec Ideal S64x64x32 .f32) (X : Vec Ideal S16x32x16 .bf16) (b : Vec Ideal S1x16 .f32) : step32 x X b = cut32 (pos32 (layer32 x X b)) := part32_eq ..

/-- The stretch over the picture the layer before it left. -/
def step16 (x : Vec Ideal S32x32x16 .f32) (X : Vec Ideal S16x16x8 .bf16) (b : Vec Ideal S1x8 .f32) : Vec Ideal S16x16x8 .f32 :=
  part16 (plane16 x 0 0) (plane16 x 0 1) (plane16 x 1 0) (plane16 x 1 1) b (w16 X 0) (w16 X 1) (w16 X 2) (w16 X 3) (w16 X 4) (w16 X 5) (w16 X 6) (w16 X 7) (w16 X 8) (w16 X 9) (w16 X 10) (w16 X 11) (w16 X 12) (w16 X 13) (w16 X 14) (w16 X 15)

theorem step16_eq (x : Vec Ideal S32x32x16 .f32) (X : Vec Ideal S16x16x8 .bf16) (b : Vec Ideal S1x8 .f32) : step16 x X b = cut16 (pos16 (layer16 x X b)) := part16_eq ..

/-- The stretch over the picture the layer before it left. -/
def step8 (x : Vec Ideal S16x16x8 .f32) (X : Vec Ideal S16x8x1 .bf16) (b : Vec Ideal S1x1 .f32) (a : Vec Ideal S1x1 .f32) : Vec Ideal S1x1x7x7 .f32 :=
  part8 (plane8 x 0 0) (plane8 x 0 1) (plane8 x 1 0) (plane8 x 1 1) b (w8 X 0) (w8 X 1) (w8 X 2) (w8 X 3) (w8 X 4) (w8 X 5) (w8 X 6) (w8 X 7) (w8 X 8) (w8 X 9) (w8 X 10) (w8 X 11) (w8 X 12) (w8 X 13) (w8 X 14) (w8 X 15) a

theorem step8_eq (x : Vec Ideal S16x16x8 .f32) (X : Vec Ideal S16x8x1 .bf16) (b : Vec Ideal S1x1 .f32) (a : Vec Ideal S1x1 .f32) : step8 x X b a = mean (layer8 x X b) a := part8_eq ..

/-- The first map, as the body computes it. -/
def map1 (x : Vec Ideal S1x4096x64 .bf16) (w1 : Vec Ideal S192x768 .bf16) (b1 : Vec Ideal S1x256 .f32) (w2 : Vec Ideal S768x384 .bf16) (b2 : Vec Ideal S1x128 .f32)
    (w3 : Vec Ideal S384x192 .bf16) (b3 : Vec Ideal S1x64 .f32) : Vec Ideal S4096x64 .f32 :=
  k1_pay6 (F := Ideal) (k1_pay3 (k1_pay2 x w1 b1) w2 b2 w3) (k1_pay4 b3) (k1_pay5 (k1_pay2 x w1 b1) w2 b2 w3)

/-- The second map's products, as the body computes them. -/
def map2 (x : Vec Ideal S1x4096x64 .bf16) (w1 : Vec Ideal S192x768 .bf16) (b1 : Vec Ideal S1x256 .f32) (w2 : Vec Ideal S768x384 .bf16) (b2 : Vec Ideal S1x128 .f32)
    (w3 : Vec Ideal S384x192 .bf16) : Vec Ideal S4096x192 .f32 :=
  k1_pay8 (F := Ideal) (k1_pay7 x w1 b1) w2 b2 w3

/-- The whole first result of the body, stretch by stretch. -/
def whole (x0 x1 : Vec Ideal S1x4096x64 .bf16) (g1 g2 : Vec Ideal S1x1x64 .f32) (w1 : Vec Ideal S192x768 .bf16) (b1 : Vec Ideal S1x256 .f32) (w2 : Vec Ideal S768x384 .bf16) (b2 : Vec Ideal S1x128 .f32)
    (w3 : Vec Ideal S384x192 .bf16) (b3 : Vec Ideal S1x64 .f32) (u1 : Vec Ideal S384x96 .bf16) (c1 : Vec Ideal S1x32 .f32) (u2 : Vec Ideal S16x32x16 .bf16) (c2 : Vec Ideal S1x16 .f32)
    (u3 : Vec Ideal S16x16x8 .bf16) (c3 : Vec Ideal S1x8 .f32) (u4 : Vec Ideal S16x8x1 .bf16) (c4 : Vec Ideal S1x1 .f32) (a1 : Vec Ideal S256x32 .f32) (d1 : Vec Ideal S1x32 .f32) (a2 : Vec Ideal S32x1 .f32) (d2 : Vec Ideal S1x1 .f32) : Vec Ideal S1x1x7x7 .f32 :=
  step8 (step16 (step32 (part64 (map1 x0 w1 b1 w2 b2 w3 b3) (k1_pay9 (F := Ideal) (map2 x1 w1 b1 w2 b2 w3) b3) u1 c1) u2 c2) u3 c3) u4 c4
    (partA (map1 x0 w1 b1 w2 b2 w3 b3) (map2 x1 w1 b1 w2 b2 w3) b3 g1 g2 a1 d1 a2 d2)

/-- The same as the mean of the two heads. -/
theorem whole_eq (x0 x1 : Vec Ideal S1x4096x64 .bf16) (g1 g2 : Vec Ideal S1x1x64 .f32) (w1 : Vec Ideal S192x768 .bf16) (b1 : Vec Ideal S1x256 .f32) (w2 : Vec Ideal S768x384 .bf16) (b2 : Vec Ideal S1x128 .f32)
    (w3 : Vec Ideal S384x192 .bf16) (b3 : Vec Ideal S1x64 .f32) (u1 : Vec Ideal S384x96 .bf16) (c1 : Vec Ideal S1x32 .f32) (u2 : Vec Ideal S16x32x16 .bf16) (c2 : Vec Ideal S1x16 .f32)
    (u3 : Vec Ideal S16x16x8 .bf16) (c3 : Vec Ideal S1x8 .f32) (u4 : Vec Ideal S16x8x1 .bf16) (c4 : Vec Ideal S1x1 .f32) (a1 : Vec Ideal S256x32 .f32) (d1 : Vec Ideal S1x32 .f32) (a2 : Vec Ideal S32x1 .f32) (d2 : Vec Ideal S1x1 .f32) :
    whole x0 x1 g1 g2 w1 b1 w2 b2 w3 b3 u1 c1 u2 c2 u3 c3 u4 c4 a1 d1 a2 d2
      = mean (mapK (ConvK.rm x0 w1 b1 w2 b2 w3 b3) (ConvK.rm x1 w1 b1 w2 b2 w3 b3) u1 c1 u2 c2 u3 c3 u4 c4)
          (agent (ConvK.rm x0 w1 b1 w2 b2 w3 b3) (ConvK.rm x1 w1 b1 w2 b2 w3 b3) g1 g2 a1 d1 a2 d2) := by
  unfold whole
  rw [step8_eq, step16_eq, step32_eq, part64_eq, partA_eq]
  unfold map1 map2
  rw [ConvK.pay6_eq, ConvK.pay9_eq]
  rfl

variable (V : (c : Dev nD) → (b : Ref sig .tc) → Buf (Elt Ideal) ((c : Thread nD τ).loc b))

set_option maxHeartbeats 0 in
/-- What a point of the grid leaves in the first result's block. -/
theorem block (c : Dev nD) (t : Fin cfg1.N) : (dat1 V c).after 22 t = whole (iblk1 V c 0 t) (iblk1 V c 1 t) (iblk1 V c 2 t) (iblk1 V c 3 t)
    (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) := by
  rw [after1_22]
  unfold outsAt1 out1_A_22
  frame_out
  rfl

/-- The first result the second call leaves, over the arrays it reads. -/
def out22 (x0 x1 : Vec Ideal S32x4096x64 .bf16) (g1 g2 : Vec Ideal S32x1x64 .f32) (w1 : Vec Ideal S192x768 .bf16) (b1 : Vec Ideal S1x256 .f32) (w2 : Vec Ideal S768x384 .bf16) (b2 : Vec Ideal S1x128 .f32)
    (w3 : Vec Ideal S384x192 .bf16) (b3 : Vec Ideal S1x64 .f32) (u1 : Vec Ideal S384x96 .bf16) (c1 : Vec Ideal S1x32 .f32) (u2 : Vec Ideal S16x32x16 .bf16) (c2 : Vec Ideal S1x16 .f32)
    (u3 : Vec Ideal S16x16x8 .bf16) (c3 : Vec Ideal S1x8 .f32) (u4 : Vec Ideal S16x8x1 .bf16) (c4 : Vec Ideal S1x1 .f32) (a1 : Vec Ideal S256x32 .f32) (d1 : Vec Ideal S1x32 .f32) (a2 : Vec Ideal S32x1 .f32) (d2 : Vec Ideal S1x1 .f32) : Vec Ideal S32x1x7x7 .f32 :=
  fun i => whole (row x0 (i 0)) (row x1 (i 0)) (row g1 (i 0)) (row g2 (i 0)) w1 b1 w2 b2 w3 b3 u1 c1 u2 c2 u3 c3 u4 c4 a1 d1 a2 d2 (ix4 0 0 (i 2) (i 3))

set_option maxHeartbeats 0 in
theorem final22 (c : Dev nD) : (dat1 V c).arrAt 22 cfg1.N = out22 (V c main_v27) (V c main_v28) (V c main_v29) (V c main_v30)
    (V c main_v33) (V c main_v34) (V c main_v37) (V c main_v38) (V c main_v41) (V c main_v42) (V c main_v45) (V c main_v46) (V c main_v49) (V c main_v50) (V c main_v53) (V c main_v54) (V c main_v57) (V c main_v58) (V c main_v59) (V c main_v60) (V c main_v61) (V c main_v62) := by
  refine (dat1 V c).arrAt_eq_of_covers 22 _ (by decide +kernel) fun t _ y => ?_
  blk_simp
  rw [block, blk0, blk1, blk2, blk3, blk4, blk5, blk6, blk7, blk8, blk9, blk10, blk11, blk12, blk13, blk14, blk15, blk16, blk17, blk18, blk19, blk20, blk21]
  have h0 : ((((View.whole main_v63_0).slice (win1_22.rect t)).emb y) 0) = (⟨t.val, t.isLt⟩ : Fin 32) := by
    refine Fin.ext ?_
    blk_simp [idx22 t]
  have h1 : y = ix4 0 0 ((((View.whole main_v63_0).slice (win1_22.rect t)).emb y) 2) ((((View.whole main_v63_0).slice (win1_22.rect t)).emb y) 3) := by
    blk_ext [idx22 t]
  unfold out22
  rw [h0]
  exact congrArg (whole (row (V c main_v27) ⟨t.val, t.isLt⟩) (row (V c main_v28) ⟨t.val, t.isLt⟩) (row (V c main_v29) ⟨t.val, t.isLt⟩) (row (V c main_v30) ⟨t.val, t.isLt⟩)
    (V c main_v33) (V c main_v34) (V c main_v37) (V c main_v38) (V c main_v41) (V c main_v42) (V c main_v45) (V c main_v46) (V c main_v49) (V c main_v50) (V c main_v53) (V c main_v54) (V c main_v57) (V c main_v58) (V c main_v59) (V c main_v60) (V c main_v61) (V c main_v62)) h1

end Cert.KernelIdeal.Out22

end
-- ==== Proof.HeadR.lean ====
module

public import proofs.«01_k».proof.Proof.Gen.ReferenceIdeal.Run
public import proofs.«01_k».proof.Proof.Head
public import Idealize.ShloMosaic.Lib.Pointwise
public import Idealize.ShloMosaic.Lib.Pipeline.Value

@[expose] public section

set_option maxRecDepth 16384

noncomputable section

namespace Cert.ReferenceIdeal.HeadR

open Idealize.ShloMosaic Idealize.ShloMosaic.TcCoe Idealize.SL.Sem
open Cert.ReferenceIdeal Cert.ReferenceIdeal.Gen Cert.ReferenceIdeal.Value Cert.Img Cert.Head

/-! ## The first layer -/

/-- The two maps, one after the other along the channels. -/
def cat (x y : FVec Ideal S32x64x64x64 .f32) : FVec Ideal S32x128x64x64 .f32 :=
  concatenate S32x128x64x64 1 [⟨S32x64x64x64, x⟩, ⟨S32x64x64x64, y⟩] concatenates_S32x64x64x64_S32x64x64x64_S32x128x64x64_d1

theorem cat_apply (x y : FVec Ideal S32x64x64x64 .f32) (n : Fin 32) (i j : Fin 64) (c : Fin 128) :
    cat x y (ix4 n c i j) = both (fun i j c => x (ix4 n c i j)) (fun i j c => y (ix4 n c i j)) i j c := by
  pointwise [cat]
  unfold both
  split_ifs <;> rfl

/-- The windows of the picture, tap by tap and channel by channel. -/
def windows3 (p : FVec Ideal S32x128x64x64 .f32) : FVec Ideal S32x1152x62x62 .f32 :=
  concatenate S32x1152x62x62 1
    [⟨S32x128x62x62, extractStridedSlice S32x128x62x62 ![0, 0, 0, 0] p slices_S32x128x64x64_S32x128x62x62_0_0_0_0⟩,
     ⟨S32x128x62x62, extractStridedSlice S32x128x62x62 ![0, 0, 0, 1] p slices_S32x128x64x64_S32x128x62x62_0_0_0_1⟩,
     ⟨S32x128x62x62, extractStridedSlice S32x128x62x62 ![0, 0, 0, 2] p slices_S32x128x64x64_S32x128x62x62_0_0_0_2⟩,
     ⟨S32x128x62x62, extractStridedSlice S32x128x62x62 ![0, 0, 1, 0] p slices_S32x128x64x64_S32x128x62x62_0_0_1_0⟩,
     ⟨S32x128x62x62, extractStridedSlice S32x128x62x62 ![0, 0, 1, 1] p slices_S32x128x64x64_S32x128x62x62_0_0_1_1⟩,
     ⟨S32x128x62x62, extractStridedSlice S32x128x62x62 ![0, 0, 1, 2] p slices_S32x128x64x64_S32x128x62x62_0_0_1_2⟩,
     ⟨S32x128x62x62, extractStridedSlice S32x128x62x62 ![0, 0, 2, 0] p slices_S32x128x64x64_S32x128x62x62_0_0_2_0⟩,
     ⟨S32x128x62x62, extractStridedSlice S32x128x62x62 ![0, 0, 2, 1] p slices_S32x128x64x64_S32x128x62x62_0_0_2_1⟩,
     ⟨S32x128x62x62, extractStridedSlice S32x128x62x62 ![0, 0, 2, 2] p slices_S32x128x64x64_S32x128x62x62_0_0_2_2⟩]
    concatenates_S32x128x62x62_S32x128x62x62_S32x128x62x62_S32x128x62x62_S32x128x62x62_S32x128x62x62_S32x128x62x62_S32x128x62x62_S32x128x62x62_S32x1152x62x62_d1

/-- The weights, tap by tap and channel by channel. -/
def taps3 (w : FVec Ideal S32x128x3x3 .f32) : FVec Ideal S32x1152 .f32 :=
  shapeCast _ (transpose S32x3x3x128 [0, 2, 3, 1] w transposes_S32x128x3x3_S32x3x3x128_0_2_3_1) shapeCasts_S32x3x3x128_S32x1152

/-- The layer: the windows against the weights, and the bias. -/
def conv32 (p : FVec Ideal S32x128x64x64 .f32) (w : FVec Ideal S32x128x3x3 .f32) (b : FVec Ideal S32 .f32) : FVec Ideal S32x32x62x62 .f32 :=
  addf (transpose S32x32x62x62 [1, 0, 2, 3] (Host.dotGeneral dot_S32x1152_S32x1152x62x62_S32x32x62x62_1_1_0_023_n_n none (taps3 w) (windows3 p))
      transposes_S32x32x62x62_S32x32x62x62_1_0_2_3)
    (broadcastInDim S32x32x62x62 ![0, 1, 2, 3] bcast_S1x32x1x1_S32x32x62x62_0_1_2_3 (broadcastInDim S1x32x1x1 ![1] bcast_S32_S1x32x1x1_1 b))

/-- The windows at pixel `(i, j)` and tap `(a, b)`. -/
theorem windows3_apply (p : FVec Ideal S32x128x64x64 .f32) (n : Fin 32) (i j : Fin 62) (a b : Fin 3) (c : Fin 128) :
    windows3 p (ix4 n ⟨(a * 3 + b) * 128 + c, by omega⟩ i j) = p (ix4 n c ⟨i + a, by omega⟩ ⟨j + b, by omega⟩) := by
  pointwise [windows3]
  split_ifs <;> (refine congrArg p (congr (congr (congrArg (ix4 n) (Fin.ext ?_)) (Fin.ext ?_)) (Fin.ext ?_)) <;> dsimp only <;> omega)

/-- The weights at a tap and a channel. -/
theorem taps3_apply (w : FVec Ideal S32x128x3x3 .f32) (o : Fin 32) (a b : Fin 3) (c : Fin 128) :
    taps3 w (ix2 o ⟨(a * 3 + b) * 128 + c, by omega⟩) = w (ix4 o c a b) := by
  pointwise [taps3]

/-- The layer at pixel `(i, j)` of picture `n`. -/
theorem conv32_apply (y : FVec Ideal S32x128x64x64 .f32) (w : FVec Ideal S32x128x3x3 .f32) (b : FVec Ideal S32 .f32)
    (n : Fin 32) (i j : Fin 62) (o : Fin 32) :
    conv32 y w b (ix4 n o i j)
      = conv3 (raw fun i j c => y (ix4 n c i j)) (fun a b c => w (ix4 o c a b)) (b (ix1 o)) i j := by
  pointwise [conv32]
  unfold conv3
  congr 1
  rw [Fin.sum_univ_tiles 9 128 rfl, Fin.sum_univ_tiles 3 3 rfl]
  refine Finset.sum_congr rfl fun a _ => Finset.sum_congr rfl fun b _ => Finset.sum_congr rfl fun c _ => ?_
  rw [mul_comm]
  refine congr (congrArg _ ((windows3_apply _ n i j a b c).trans ?_)) (taps3_apply w o a b c)
  unfold raw
  rw [dif_pos (by omega)]

/-! ## From 32 channels to 16 -/

/-- The picture with its border of zeros. -/
def border32 (y : FVec Ideal S32x32x62x62 .f32) : FVec Ideal S32x32x64x64 .f32 :=
  pad S32x32x64x64 ![0, 0, 1, 1] ![0, 0, 1, 1] ![0, 0, 0, 0] y (sitofp .f32 (constantI S_ 32 0#32)) pads_S32x32x62x62_S32x32x64x64_000_000_110_110 h_S_

/-- The picture with its border, at an entry. -/
theorem border32_apply (y : FVec Ideal S32x32x62x62 .f32) (n : Fin 32) (c : Fin 32) (a b : Fin 64) :
    border32 y (ix4 n c a b) = pd (fun i j c => y (ix4 n c i j)) a b c := by
  pointwise [border32]
  unfold pd
  split_ifs <;> first | omega | rfl | exact sitofp_zero

theorem slices32 : ∀ k : Fin 16, S32x32x64x64.SlicesBy (![0, 0, (k : ℕ) / 4, (k : ℕ) % 4] : Fin 4 → Nat) ![1, 1, 2, 2] S32x32x31x31 := by decide

/-- The window of tap `k`: every second pixel, from the tap's row and column. -/
def part32 (p : FVec Ideal S32x32x64x64 .f32) (k : Fin 16) : FVec Ideal S32x32x31x31 .f32 :=
  Host.slice S32x32x31x31 ![0, 0, (k : ℕ) / 4, (k : ℕ) % 4] ![1, 1, 2, 2] p (slices32 k)

/-- The windows of the padded picture, tap by tap and channel by channel. -/
def windows32 (p : FVec Ideal S32x32x64x64 .f32) : FVec Ideal S32x512x31x31 .f32 :=
  concatenate S32x512x31x31 1 (List.ofFn fun k : Fin 16 => (⟨S32x32x31x31, part32 p k⟩ : (s : Shape) × (s.Idx → Ideal .f32)))
    concatenates_S32x32x31x31_S32x32x31x31_S32x32x31x31_S32x32x31x31_S32x32x31x31_S32x32x31x31_S32x32x31x31_S32x32x31x31_S32x32x31x31_S32x32x31x31_S32x32x31x31_S32x32x31x31_S32x32x31x31_S32x32x31x31_S32x32x31x31_S32x32x31x31_S32x512x31x31_d1

/-- The weights, tap by tap and channel by channel. -/
def taps32 (w : FVec Ideal S16x32x4x4 .f32) : FVec Ideal S16x512 .f32 :=
  shapeCast _ (transpose S16x4x4x32 [0, 2, 3, 1] w transposes_S16x32x4x4_S16x4x4x32_0_2_3_1) shapeCasts_S16x4x4x32_S16x512

/-- The layer: the windows against the weights, and the bias. -/
def down32 (p : FVec Ideal S32x32x64x64 .f32) (w : FVec Ideal S16x32x4x4 .f32) (b : FVec Ideal S16 .f32) : FVec Ideal S32x16x31x31 .f32 :=
  addf (transpose S32x16x31x31 [1, 0, 2, 3] (Host.dotGeneral dot_S16x512_S32x512x31x31_S16x32x31x31_1_1_0_023_n_n none (taps32 w) (windows32 p))
      transposes_S16x32x31x31_S32x16x31x31_1_0_2_3)
    (broadcastInDim S32x16x31x31 ![0, 1, 2, 3] bcast_S1x16x1x1_S32x16x31x31_0_1_2_3 (broadcastInDim S1x16x1x1 ![1] bcast_S16_S1x16x1x1_1 b))

theorem part32_apply (p : FVec Ideal S32x32x64x64 .f32) (n : Fin 32) (i j : Fin 31) (a b : Fin 4) (c : Fin 32) :
    part32 p ⟨a * 4 + b, by omega⟩ (ix4 n c i j) = p (ix4 n c ⟨2 * i + a, by omega⟩ ⟨2 * j + b, by omega⟩) := by
  refine congrArg p (funext fun l => Fin.ext ?_)
  fin_cases l
  · show 0 + 1 * (n : ℕ) = n
    omega
  · show 0 + 1 * (c : ℕ) = c
    omega
  · show ((a : ℕ) * 4 + b) / 4 + 2 * (i : ℕ) = 2 * i + a
    omega
  · show ((a : ℕ) * 4 + b) % 4 + 2 * (j : ℕ) = 2 * j + b
    omega

/-- The windows at pixel `(i, j)` and tap `(a, b)`. -/
theorem windows32_apply (p : FVec Ideal S32x32x64x64 .f32) (n : Fin 32) (i j : Fin 31) (a b : Fin 4) (c : Fin 32) :
    windows32 p (ix4 n ⟨(a * 4 + b) * 32 + c, by omega⟩ i j) = p (ix4 n c ⟨2 * i + a, by omega⟩ ⟨2 * j + b, by omega⟩) := by
  refine Eq.trans (concatenate_ofFn_apply (t := S32x512x31x31) (s₁ := S32x32x31x31) 1 (part32 p) concatenates_S32x32x31x31_S32x32x31x31_S32x32x31x31_S32x32x31x31_S32x32x31x31_S32x32x31x31_S32x32x31x31_S32x32x31x31_S32x32x31x31_S32x32x31x31_S32x32x31x31_S32x32x31x31_S32x32x31x31_S32x32x31x31_S32x32x31x31_S32x32x31x31_S32x512x31x31_d1 rfl 32 rfl _ ⟨a * 4 + b, by omega⟩ ?_ (ix4 n c i j) ?_ ?_) (part32_apply p n i j a b c)
  · show (((a : ℕ) * 4 + b) * 32 + c) / 32 = a * 4 + b
    omega
  · show (c : ℕ) = (((a : ℕ) * 4 + b) * 32 + c) % 32
    omega
  · intro k hk
    fin_cases k
    · rfl
    · exact absurd rfl hk
    · rfl
    · rfl

/-- The weights at a tap and a channel. -/
theorem taps32_apply (w : FVec Ideal S16x32x4x4 .f32) (o : Fin 16) (a b : Fin 4) (c : Fin 32) :
    taps32 w (ix2 o ⟨(a * 4 + b) * 32 + c, by omega⟩) = w (ix4 o c a b) := by
  pointwise [taps32]

/-- The layer at pixel `(i, j)` of picture `n`. -/
theorem down32_apply (y : FVec Ideal S32x32x62x62 .f32) (w : FVec Ideal S16x32x4x4 .f32) (b : FVec Ideal S16 .f32)
    (n : Fin 32) (i j : Fin 31) (o : Fin 16) :
    down32 (border32 y) w b (ix4 n o i j)
      = half 31 (fun i j c => y (ix4 n c i j)) (fun o a b c => w (ix4 o c a b)) (fun o => b (ix1 o)) i j o := by
  pointwise [down32]
  unfold half conv4
  congr 1
  rw [Fin.sum_univ_tiles 16 32 rfl, Fin.sum_univ_tiles 4 4 rfl]
  refine Finset.sum_congr rfl fun a _ => Finset.sum_congr rfl fun b _ => Finset.sum_congr rfl fun c _ => ?_
  rw [mul_comm]
  exact congr (congrArg _ ((windows32_apply _ n i j a b c).trans (border32_apply ..))) ((taps32_apply w _ a b c))

/-! ## From 16 channels to 8 -/

/-- The picture with its border of zeros. -/
def border16 (y : FVec Ideal S32x16x31x31 .f32) : FVec Ideal S32x16x33x33 .f32 :=
  pad S32x16x33x33 ![0, 0, 1, 1] ![0, 0, 1, 1] ![0, 0, 0, 0] y (sitofp .f32 (constantI S_ 32 0#32)) pads_S32x16x31x31_S32x16x33x33_000_000_110_110 h_S_

/-- The picture with its border, at an entry. -/
theorem border16_apply (y : FVec Ideal S32x16x31x31 .f32) (n : Fin 32) (c : Fin 16) (a b : Fin 33) :
    border16 y (ix4 n c a b) = pd (fun i j c => y (ix4 n c i j)) a b c := by
  pointwise [border16]
  unfold pd
  split_ifs <;> first | omega | rfl | exact sitofp_zero

theorem slices16 : ∀ k : Fin 16, S32x16x33x33.SlicesBy (![0, 0, (k : ℕ) / 4, (k : ℕ) % 4] : Fin 4 → Nat) ![1, 1, 2, 2] S32x16x15x15 := by decide

/-- The window of tap `k`: every second pixel, from the tap's row and column. -/
def part16 (p : FVec Ideal S32x16x33x33 .f32) (k : Fin 16) : FVec Ideal S32x16x15x15 .f32 :=
  Host.slice S32x16x15x15 ![0, 0, (k : ℕ) / 4, (k : ℕ) % 4] ![1, 1, 2, 2] p (slices16 k)

/-- The windows of the padded picture, tap by tap and channel by channel. -/
def windows16 (p : FVec Ideal S32x16x33x33 .f32) : FVec Ideal S32x256x15x15 .f32 :=
  concatenate S32x256x15x15 1 (List.ofFn fun k : Fin 16 => (⟨S32x16x15x15, part16 p k⟩ : (s : Shape) × (s.Idx → Ideal .f32)))
    concatenates_S32x16x15x15_S32x16x15x15_S32x16x15x15_S32x16x15x15_S32x16x15x15_S32x16x15x15_S32x16x15x15_S32x16x15x15_S32x16x15x15_S32x16x15x15_S32x16x15x15_S32x16x15x15_S32x16x15x15_S32x16x15x15_S32x16x15x15_S32x16x15x15_S32x256x15x15_d1

/-- The weights, tap by tap and channel by channel. -/
def taps16 (w : FVec Ideal S8x16x4x4 .f32) : FVec Ideal S8x256 .f32 :=
  shapeCast _ (transpose S8x4x4x16 [0, 2, 3, 1] w transposes_S8x16x4x4_S8x4x4x16_0_2_3_1) shapeCasts_S8x4x4x16_S8x256

/-- The layer: the windows against the weights, and the bias. -/
def down16 (p : FVec Ideal S32x16x33x33 .f32) (w : FVec Ideal S8x16x4x4 .f32) (b : FVec Ideal S8 .f32) : FVec Ideal S32x8x15x15 .f32 :=
  addf (transpose S32x8x15x15 [1, 0, 2, 3] (Host.dotGeneral dot_S8x256_S32x256x15x15_S8x32x15x15_1_1_0_023_n_n none (taps16 w) (windows16 p))
      transposes_S8x32x15x15_S32x8x15x15_1_0_2_3)
    (broadcastInDim S32x8x15x15 ![0, 1, 2, 3] bcast_S1x8x1x1_S32x8x15x15_0_1_2_3 (broadcastInDim S1x8x1x1 ![1] bcast_S8_S1x8x1x1_1 b))

theorem part16_apply (p : FVec Ideal S32x16x33x33 .f32) (n : Fin 32) (i j : Fin 15) (a b : Fin 4) (c : Fin 16) :
    part16 p ⟨a * 4 + b, by omega⟩ (ix4 n c i j) = p (ix4 n c ⟨2 * i + a, by omega⟩ ⟨2 * j + b, by omega⟩) := by
  refine congrArg p (funext fun l => Fin.ext ?_)
  fin_cases l
  · show 0 + 1 * (n : ℕ) = n
    omega
  · show 0 + 1 * (c : ℕ) = c
    omega
  · show ((a : ℕ) * 4 + b) / 4 + 2 * (i : ℕ) = 2 * i + a
    omega
  · show ((a : ℕ) * 4 + b) % 4 + 2 * (j : ℕ) = 2 * j + b
    omega

/-- The windows at pixel `(i, j)` and tap `(a, b)`. -/
theorem windows16_apply (p : FVec Ideal S32x16x33x33 .f32) (n : Fin 32) (i j : Fin 15) (a b : Fin 4) (c : Fin 16) :
    windows16 p (ix4 n ⟨(a * 4 + b) * 16 + c, by omega⟩ i j) = p (ix4 n c ⟨2 * i + a, by omega⟩ ⟨2 * j + b, by omega⟩) := by
  refine Eq.trans (concatenate_ofFn_apply (t := S32x256x15x15) (s₁ := S32x16x15x15) 1 (part16 p) concatenates_S32x16x15x15_S32x16x15x15_S32x16x15x15_S32x16x15x15_S32x16x15x15_S32x16x15x15_S32x16x15x15_S32x16x15x15_S32x16x15x15_S32x16x15x15_S32x16x15x15_S32x16x15x15_S32x16x15x15_S32x16x15x15_S32x16x15x15_S32x16x15x15_S32x256x15x15_d1 rfl 16 rfl _ ⟨a * 4 + b, by omega⟩ ?_ (ix4 n c i j) ?_ ?_) (part16_apply p n i j a b c)
  · show (((a : ℕ) * 4 + b) * 16 + c) / 16 = a * 4 + b
    omega
  · show (c : ℕ) = (((a : ℕ) * 4 + b) * 16 + c) % 16
    omega
  · intro k hk
    fin_cases k
    · rfl
    · exact absurd rfl hk
    · rfl
    · rfl

/-- The weights at a tap and a channel. -/
theorem taps16_apply (w : FVec Ideal S8x16x4x4 .f32) (o : Fin 8) (a b : Fin 4) (c : Fin 16) :
    taps16 w (ix2 o ⟨(a * 4 + b) * 16 + c, by omega⟩) = w (ix4 o c a b) := by
  pointwise [taps16]

/-- The layer at pixel `(i, j)` of picture `n`. -/
theorem down16_apply (y : FVec Ideal S32x16x31x31 .f32) (w : FVec Ideal S8x16x4x4 .f32) (b : FVec Ideal S8 .f32)
    (n : Fin 32) (i j : Fin 15) (o : Fin 8) :
    down16 (border16 y) w b (ix4 n o i j)
      = half 15 (fun i j c => y (ix4 n c i j)) (fun o a b c => w (ix4 o c a b)) (fun o => b (ix1 o)) i j o := by
  pointwise [down16]
  unfold half conv4
  congr 1
  rw [Fin.sum_univ_tiles 16 16 rfl, Fin.sum_univ_tiles 4 4 rfl]
  refine Finset.sum_congr rfl fun a _ => Finset.sum_congr rfl fun b _ => Finset.sum_congr rfl fun c _ => ?_
  rw [mul_comm]
  exact congr (congrArg _ ((windows16_apply _ n i j a b c).trans (border16_apply ..))) ((taps16_apply w _ a b c))

/-! ## From 8 channels to 1 -/

/-- The picture with its border of zeros. -/
def border8 (y : FVec Ideal S32x8x15x15 .f32) : FVec Ideal S32x8x17x17 .f32 :=
  pad S32x8x17x17 ![0, 0, 1, 1] ![0, 0, 1, 1] ![0, 0, 0, 0] y (sitofp .f32 (constantI S_ 32 0#32)) pads_S32x8x15x15_S32x8x17x17_000_000_110_110 h_S_

/-- The picture with its border, at an entry. -/
theorem border8_apply (y : FVec Ideal S32x8x15x15 .f32) (n : Fin 32) (c : Fin 8) (a b : Fin 17) :
    border8 y (ix4 n c a b) = pd (fun i j c => y (ix4 n c i j)) a b c := by
  pointwise [border8]
  unfold pd
  split_ifs <;> first | omega | rfl | exact sitofp_zero

theorem slices8 : ∀ k : Fin 16, S32x8x17x17.SlicesBy (![0, 0, (k : ℕ) / 4, (k : ℕ) % 4] : Fin 4 → Nat) ![1, 1, 2, 2] S32x8x7x7 := by decide

/-- The window of tap `k`: every second pixel, from the tap's row and column. -/
def part8 (p : FVec Ideal S32x8x17x17 .f32) (k : Fin 16) : FVec Ideal S32x8x7x7 .f32 :=
  Host.slice S32x8x7x7 ![0, 0, (k : ℕ) / 4, (k : ℕ) % 4] ![1, 1, 2, 2] p (slices8 k)

/-- The windows of the padded picture, tap by tap and channel by channel. -/
def windows8 (p : FVec Ideal S32x8x17x17 .f32) : FVec Ideal S32x128x7x7 .f32 :=
  concatenate S32x128x7x7 1 (List.ofFn fun k : Fin 16 => (⟨S32x8x7x7, part8 p k⟩ : (s : Shape) × (s.Idx → Ideal .f32)))
    concatenates_S32x8x7x7_S32x8x7x7_S32x8x7x7_S32x8x7x7_S32x8x7x7_S32x8x7x7_S32x8x7x7_S32x8x7x7_S32x8x7x7_S32x8x7x7_S32x8x7x7_S32x8x7x7_S32x8x7x7_S32x8x7x7_S32x8x7x7_S32x8x7x7_S32x128x7x7_d1

/-- The weights, tap by tap and channel by channel. -/
def taps8 (w : FVec Ideal S1x8x4x4 .f32) : FVec Ideal S1x128 .f32 :=
  shapeCast _ (transpose S1x4x4x8 [0, 2, 3, 1] w transposes_S1x8x4x4_S1x4x4x8_0_2_3_1) shapeCasts_S1x4x4x8_S1x128

/-- The layer: the windows against the weights, and the bias. -/
def down8 (p : FVec Ideal S32x8x17x17 .f32) (w : FVec Ideal S1x8x4x4 .f32) (b : FVec Ideal S1 .f32) : FVec Ideal S32x1x7x7 .f32 :=
  addf (transpose S32x1x7x7 [1, 0, 2, 3] (Host.dotGeneral dot_S1x128_S32x128x7x7_S1x32x7x7_1_1_0_023_n_n none (taps8 w) (windows8 p))
      transposes_S1x32x7x7_S32x1x7x7_1_0_2_3)
    (broadcastInDim S32x1x7x7 ![0, 1, 2, 3] bcast_S1x1x1x1_S32x1x7x7_0_1_2_3 (broadcastInDim S1x1x1x1 ![1] bcast_S1_S1x1x1x1_1 b))

theorem part8_apply (p : FVec Ideal S32x8x17x17 .f32) (n : Fin 32) (i j : Fin 7) (a b : Fin 4) (c : Fin 8) :
    part8 p ⟨a * 4 + b, by omega⟩ (ix4 n c i j) = p (ix4 n c ⟨2 * i + a, by omega⟩ ⟨2 * j + b, by omega⟩) := by
  refine congrArg p (funext fun l => Fin.ext ?_)
  fin_cases l
  · show 0 + 1 * (n : ℕ) = n
    omega
  · show 0 + 1 * (c : ℕ) = c
    omega
  · show ((a : ℕ) * 4 + b) / 4 + 2 * (i : ℕ) = 2 * i + a
    omega
  · show ((a : ℕ) * 4 + b) % 4 + 2 * (j : ℕ) = 2 * j + b
    omega

/-- The windows at pixel `(i, j)` and tap `(a, b)`. -/
theorem windows8_apply (p : FVec Ideal S32x8x17x17 .f32) (n : Fin 32) (i j : Fin 7) (a b : Fin 4) (c : Fin 8) :
    windows8 p (ix4 n ⟨(a * 4 + b) * 8 + c, by omega⟩ i j) = p (ix4 n c ⟨2 * i + a, by omega⟩ ⟨2 * j + b, by omega⟩) := by
  refine Eq.trans (concatenate_ofFn_apply (t := S32x128x7x7) (s₁ := S32x8x7x7) 1 (part8 p) concatenates_S32x8x7x7_S32x8x7x7_S32x8x7x7_S32x8x7x7_S32x8x7x7_S32x8x7x7_S32x8x7x7_S32x8x7x7_S32x8x7x7_S32x8x7x7_S32x8x7x7_S32x8x7x7_S32x8x7x7_S32x8x7x7_S32x8x7x7_S32x8x7x7_S32x128x7x7_d1 rfl 8 rfl _ ⟨a * 4 + b, by omega⟩ ?_ (ix4 n c i j) ?_ ?_) (part8_apply p n i j a b c)
  · show (((a : ℕ) * 4 + b) * 8 + c) / 8 = a * 4 + b
    omega
  · show (c : ℕ) = (((a : ℕ) * 4 + b) * 8 + c) % 8
    omega
  · intro k hk
    fin_cases k
    · rfl
    · exact absurd rfl hk
    · rfl
    · rfl

/-- The weights at a tap and a channel. -/
theorem taps8_apply (w : FVec Ideal S1x8x4x4 .f32) (o : Fin 1) (a b : Fin 4) (c : Fin 8) :
    taps8 w (ix2 o ⟨(a * 4 + b) * 8 + c, by omega⟩) = w (ix4 o c a b) := by
  obtain rfl : o = 0 := Subsingleton.elim _ _
  pointwise [taps8]

/-- The layer at pixel `(i, j)` of picture `n`. -/
theorem down8_apply (y : FVec Ideal S32x8x15x15 .f32) (w : FVec Ideal S1x8x4x4 .f32) (b : FVec Ideal S1 .f32)
    (n : Fin 32) (i j : Fin 7) (o : Fin 1) :
    down8 (border8 y) w b (ix4 n o i j)
      = half 7 (fun i j c => y (ix4 n c i j)) (fun o a b c => w (ix4 o c a b)) (fun o => b (ix1 o)) i j o := by
  obtain rfl : o = 0 := Subsingleton.elim _ _
  pointwise [down8]
  unfold half conv4
  congr 1
  rw [Fin.sum_univ_tiles 16 8 rfl, Fin.sum_univ_tiles 4 4 rfl]
  refine Finset.sum_congr rfl fun a _ => Finset.sum_congr rfl fun b _ => Finset.sum_congr rfl fun c _ => ?_
  rw [mul_comm]
  exact congr (congrArg _ ((windows8_apply _ n i j a b c).trans (border8_apply ..))) ((taps8_apply w _ a b c))

end Cert.ReferenceIdeal.HeadR

end
-- ==== Proof.AgentR.lean ====
module

public import proofs.«01_k».proof.Proof.HeadR
public import proofs.«01_k».proof.Proof.RepR
public import Idealize.ShloMosaic.Lib.SortNet.Extract

@[expose] public section

set_option maxRecDepth 16384

noncomputable section

namespace Cert.ReferenceIdeal.AgentR

open Idealize.ShloMosaic Idealize.ShloMosaic.TcCoe Idealize.SL.Sem
open Cert.ReferenceIdeal Cert.ReferenceIdeal.Gen Cert.ReferenceIdeal.Value Cert.Img Cert.Head

theorem sel {α : Type} : ∀ (p : Bool) (x y : α), Scalar.select (BitVec.ofBool p) x y = if p then x else y := fun p x y => by cases p <;> rfl

/-- A running minimum of numbers that are not negative is not negative. -/
theorem min_nonneg {ι : Type} (f : ι → BitVec 32) (l : List ι) (r : BitVec 32) (hr : 0 ≤ r.toInt) (h : ∀ i ∈ l, 0 ≤ (f i).toInt) :
    0 ≤ (l.foldl (fun r i => IntOp.minsi r (f i)) r).toInt := by
  induction l generalizing r with
  | nil => exact hr
  | cons a l ih =>
    rw [List.foldl_cons]
    refine ih _ ?_ fun i hi => h i (List.mem_cons_of_mem _ hi)
    rw [SortNet.toInt_minsi]
    exact le_min hr (h a List.mem_cons_self)

theorem min_le_start {ι : Type} (f : ι → BitVec 32) (l : List ι) (r : BitVec 32) :
    (l.foldl (fun r i => IntOp.minsi r (f i)) r).toInt ≤ r.toInt := by
  induction l generalizing r with
  | nil => exact le_rfl
  | cons a l ih =>
    rw [List.foldl_cons]
    refine (ih _).trans ?_
    rw [SortNet.toInt_minsi]
    exact min_le_left _ _

/-- A running minimum is at most each of the numbers. -/
theorem min_le_each {ι : Type} (f : ι → BitVec 32) (l : List ι) (r : BitVec 32) (i : ι) (hi : i ∈ l) :
    (l.foldl (fun r i => IntOp.minsi r (f i)) r).toInt ≤ (f i).toInt := by
  induction l generalizing r with
  | nil => exact absurd hi List.not_mem_nil
  | cons a l ih =>
    rw [List.foldl_cons]
    rcases List.mem_cons.mp hi with h | h
    · subst h
      refine (min_le_start _ _ _).trans ?_
      rw [SortNet.toInt_minsi]
      exact min_le_right _ _
    · exact ih _ h

/-- Each cell's place where it shows node 0, and a number past all the places elsewhere. -/
def shown (mp : IVec S32x64x64 32) : IVec S32x4096 32 :=
  select (shapeCast _ (cmpi .eq mp (broadcastInDim S32x64x64 ![] bcast_S_S32x64x64 (constantI S_ 32 0#32))) shapeCasts_S32x64x64_S32x4096) (broadcastInDim S32x4096 ![1] bcast_S4096_S32x4096_1 (iotaInDim S4096 32 0)) (broadcastInDim S32x4096 ![] bcast_S_S32x4096 (id (constantI S_ 32 4096#32)))

theorem shown_apply (mp : IVec S32x64x64 32) (b : Fin 32) (i j : Fin 64) :
    shown mp (ix2 b ⟨i * 64 + j, by omega⟩) = if mp (ix3 b i j) == 0#32 then BitVec.ofNat 32 (i * 64 + j) else 4096#32 := by
  pointwise [shown]
  exact sel _ _ _

theorem shown_nonneg (mp : IVec S32x64x64 32) (k : S32x4096.Idx) : 0 ≤ (shown mp k).toInt := by
  have hk : k = ix2 (k 0) (k 1) := by
    funext a
    match a with
    | ⟨0, _⟩ => rfl
    | ⟨1, _⟩ => rfl
  have h : ∀ (b : Fin 32) (p : Fin 4096), 0 ≤ (shown mp (ix2 b p)).toInt := by
    intro b p
    have q := shown_apply mp b ⟨p / 64, by omega⟩ ⟨p % 64, by omega⟩
    have e : (⟨((⟨p / 64, by omega⟩ : Fin 64) : ℕ) * 64 + ((⟨p % 64, by omega⟩ : Fin 64) : ℕ), by dsimp only; omega⟩ : Fin 4096) = p :=
      Fin.ext (by dsimp only; omega)
    rw [e] at q
    rw [q]
    split_ifs
    · rw [RepR.toInt_ofNat _ (by dsimp only; omega)]
      omega
    · decide
  rw [hk]
  exact h _ _

/-- The first place that shows node 0. -/
def fst (mp : IVec S32x64x64 32) : IVec S32 32 :=
  Host.reduce IntOp.minsi (shown mp) (constantI S_ 32 2147483647#32) reducesTo_S32x4096_S32_d1 h_S_

theorem fst_apply (mp : IVec S32x64x64 32) (b : Fin 32) (h : mp (ix3 b 0 0) = 0#32) : fst mp (ix1 b) = 0#32 := by
  refine BitVec.eq_of_toInt_eq ?_
  unfold fst
  rw [Host.reduce_eq_foldl]
  refine le_antisymm ((min_le_each (shown mp) _ _ (ix2 b 0) ?_).trans ?_) ?_
  · rw [List.mem_filter]
    refine ⟨List.mem_map.mpr ⟨S32x4096.rowMajor (ix2 b 0), List.mem_finRange _, Equiv.symm_apply_apply _ _⟩, ?_⟩
    rw [decide_eq_true_eq]
    funext a
    match a with
    | ⟨0, _⟩ => rfl
  · have q := shown_apply mp b 0 0
    rw [h] at q
    exact (congrArg BitVec.toInt q).le
  · refine (by decide : (0#32 : BitVec 32).toInt ≤ 0).trans (min_nonneg (shown mp) _ _ (by show 0 ≤ (2147483647#32 : BitVec 32).toInt; decide) fun i _ => shown_nonneg mp i)

/-- That place, and place 0 where no cell shows node 0. -/
def place (mp : IVec S32x64x64 32) : IVec S32 32 :=
  select (cmpi .slt (fst mp) (broadcastInDim S32 ![] bcast_S_S32 (constantI S_ 32 4096#32))) (fst mp) (broadcastInDim S32 ![] bcast_S_S32 (id (constantI S_ 32 0#32)))

theorem place_apply (mp : IVec S32x64x64 32) (b : Fin 32) (h : mp (ix3 b 0 0) = 0#32) : place mp (ix1 b) = 0#32 := by
  have q : place mp (ix1 b) = if (fst mp (ix1 b)).slt 4096#32 then fst mp (ix1 b) else 0#32 := by
    pointwise [place]
    exact sel _ _ _
  rw [q, fst_apply mp b h]
  rfl

/-- Numbers with the negative ones counted from the end, as a column. -/
def wrap (n : BitVec 32) (x : IVec S32 32) : IVec S32x1 32 :=
  broadcastInDim S32x1 ![0] bcast_S32_S32x1_0 (select (cmpi .slt x (broadcastInDim S32 ![] bcast_S_S32 (constantI S_ 32 0#32))) (addi x (broadcastInDim S32 ![] bcast_S_S32 (constantI S_ 32 n))) x)

theorem wrap_apply (n : BitVec 32) (x : IVec S32 32) (b : Fin 32) (k : ℕ) (hk : k < 16384) (h : x (ix1 b) = BitVec.ofNat 32 k) :
    wrap n x (ix2 b 0) = BitVec.ofNat 32 k := by
  have q : wrap n x (ix2 b 0) = if (x (ix1 b)).slt 0#32 then x (ix1 b) + n else x (ix1 b) := by
    pointwise [wrap]
    exact sel _ _ _
  rw [q, h, if_neg]
  rw [BitVec.slt, RepR.toInt_ofNat _ hk, BitVec.toInt_zero, decide_eq_true_eq]
  omega

/-- The pairs of a picture's number and the first place of node 0 on it. -/
def pairs (mp : IVec S32x64x64 32) : IVec S32x2 32 :=
  concatenate S32x2 1 [⟨S32x1, wrap 32#32 (iotaInDim S32 32 0)⟩, ⟨S32x1, wrap 4096#32 (place mp)⟩] concatenates_S32x1_S32x1_S32x2_d1

theorem pairs_apply0 (mp : IVec S32x64x64 32) (b : Fin 32) : pairs mp (ix2 b 0) = wrap 32#32 (iotaInDim S32 32 0) (ix2 b 0) := by
  pointwise [pairs]

theorem pairs_apply1 (mp : IVec S32x64x64 32) (b : Fin 32) : pairs mp (ix2 b 1) = wrap 4096#32 (place mp) (ix2 b 0) := by
  pointwise [pairs]

def flat (r : FVec Ideal S32x64x64x64 .f32) : FVec Ideal S32x64x4096 .f32 := shapeCast _ r shapeCasts_S32x64x64x64_S32x64x4096

theorem flat_apply (r : FVec Ideal S32x64x64x64 .f32) (b : Fin 32) (c i j : Fin 64) : flat r (ix3 b c ⟨i * 64 + j, by omega⟩) = r (ix4 b c i j) := by
  pointwise [flat]

/-- The map's channels at the first place of node 0. -/
def corner (r : FVec Ideal S32x64x64x64 .f32) (mp : IVec S32x64x64 32) : FVec Ideal S32x64 .f32 :=
  Host.gather gather_S32x64x4096_S32x2_S32x64_1_02_n_n_02_1_1641 (flat r) (pairs mp)

theorem corner_apply (r : FVec Ideal S32x64x64x64 .f32) (mp : IVec S32x64x64 32) (b : Fin 32) (c : Fin 64) (h : mp (ix3 b 0 0) = 0#32) :
    corner r mp (ix2 b c) = r (ix4 b c 0 0) := by
  rw [corner, Rows.gather_plane (by norm_num) (by norm_num) _ rfl rfl rfl rfl rfl rfl rfl]
  refine Eq.trans (congrArg (flat r) (congr (congr (congrArg ix3 (Fin.ext ?_)) rfl) (Fin.ext ?_))) (flat_apply r b c 0 0)
  · dsimp only
    rw [pairs_apply0, wrap_apply 32#32 _ b b (by omega) rfl, RepR.toInt_ofNat _ (by omega)]
    omega
  · dsimp only
    rw [pairs_apply1, wrap_apply 4096#32 _ b 0 (by omega) (place_apply mp b h)]
    rfl

/-- The row of each graph's first node. -/
def lead (g : FVec Ideal S16384x64 .f32) : FVec Ideal S32x64 .f32 :=
  Host.gather gather_S16384x64_S32x1_S32x64_1_0_n_n_0_1_164 g (wrap 16384#32 (muli (iotaInDim S32 32 0) (broadcastInDim S32 ![] bcast_S_S32 (constantI S_ 32 512#32))))

theorem lead_apply (g : FVec Ideal S16384x64 .f32) (b : Fin 32) (c : Fin 64) : lead g (ix2 b c) = g (ix2 ⟨b * 512, by omega⟩ c) := by
  have q : muli (iotaInDim S32 32 0) (broadcastInDim S32 ![] bcast_S_S32 (constantI S_ 32 512#32)) (ix1 b) = BitVec.ofNat 32 (b * 512) := by
    refine Eq.trans (show _ = BitVec.ofNat 32 b * 512#32 from rfl) (BitVec.eq_of_toNat_eq ?_)
    simp only [BitVec.toNat_mul, BitVec.toNat_ofNat]
    omega
  rw [lead, Rows.gather_rows (by norm_num) _ rfl rfl rfl rfl rfl rfl rfl]
  refine congrArg g (congr (congrArg ix2 (Fin.ext ?_)) rfl)
  dsimp only
  rw [wrap_apply _ _ b (b * 512) (by omega) q, RepR.toInt_ofNat _ (by omega)]
  omega

/-- The four rows of a picture side by side. -/
def rows4 (r1 g1 r2 g2 : FVec Ideal S32x64 .f32) : FVec Ideal S32x256 .f32 :=
  concatenate S32x256 1 [⟨S32x128, concatenate S32x128 1 [⟨S32x64, r1⟩, ⟨S32x64, g1⟩] concatenates_S32x64_S32x64_S32x128_d1⟩,
    ⟨S32x128, concatenate S32x128 1 [⟨S32x64, r2⟩, ⟨S32x64, g2⟩] concatenates_S32x64_S32x64_S32x128_d1⟩] concatenates_S32x128_S32x128_S32x256_d1

theorem rows4_apply (r1 g1 r2 g2 : FVec Ideal S32x64 .f32) (b : Fin 32) (l : Fin 256) :
    rows4 r1 g1 r2 g2 (ix2 b l) = four (fun c => r1 (ix2 b c)) (fun c => g1 (ix2 b c)) (fun c => r2 (ix2 b c)) (fun c => g2 (ix2 b c)) l := by
  pointwise [rows4]
  unfold four
  split_ifs <;> first | omega | rfl | (rw [dif_neg (by omega), dif_pos (by omega)]) | (rw [dif_neg (by omega), dif_neg (by omega)]; refine congrArg g2 (congr (congrArg ix2 rfl) (Fin.ext ?_)); dsimp only; omega)

/-- The agents' head. -/
def agent (x : FVec Ideal S32x256 .f32) (w1 : FVec Ideal S32x256 .f32) (b1 : FVec Ideal S32 .f32) (w2 : FVec Ideal S1x32 .f32) (b2 : FVec Ideal S1 .f32) : FVec Ideal S32x1 .f32 :=
  addf (Host.dotGeneral dot_S32x32_S32x1_S32x1_1_0_0_1_n_n none (maximumf (addf (Host.dotGeneral dot_S32x256_S256x32_S32x32_1_0_0_1_n_n none x (transpose S256x32 [1, 0] w1 transposes_S32x256_S256x32_1_0)) (broadcastInDim S32x32 ![0, 1] bcast_S1x32_S32x32_0_1 (broadcastInDim S1x32 ![1] bcast_S32_S1x32_1 b1))) (broadcastInDim S32x32 ![] bcast_S_S32x32 (constant S_ .f32 0x00000000#32))) (transpose S32x1 [1, 0] w2 transposes_S1x32_S32x1_1_0)) (broadcastInDim S32x1 ![0, 1] bcast_S1x1_S32x1_0_1 (broadcastInDim S1x1 ![1] bcast_S1_S1x1_1 b2))

theorem agent_apply (x : FVec Ideal S32x256 .f32) (w1 : FVec Ideal S32x256 .f32) (b1 : FVec Ideal S32 .f32) (w2 : FVec Ideal S1x32 .f32) (b2 : FVec Ideal S1 .f32) (b : Fin 32) :
    agent x w1 b1 w2 b2 (ix2 b 0) = agentHead (fun l => x (ix2 b l)) (fun k l => w1 (ix2 k l)) (fun k => b1 (ix1 k)) (fun k => w2 (ix2 0 k)) (b2 (ix1 0)) := by
  pointwise [agent]
  rfl

/-! ## The map's head -/

def relu32 (x : FVec Ideal S32x32x62x62 .f32) : FVec Ideal S32x32x62x62 .f32 := maximumf x (broadcastInDim S32x32x62x62 ![] bcast_S_S32x32x62x62 (constant S_ .f32 0x00000000#32))
def relu16 (x : FVec Ideal S32x16x31x31 .f32) : FVec Ideal S32x16x31x31 .f32 := maximumf x (broadcastInDim S32x16x31x31 ![] bcast_S_S32x16x31x31 (constant S_ .f32 0x00000000#32))
def relu8 (x : FVec Ideal S32x8x15x15 .f32) : FVec Ideal S32x8x15x15 .f32 := maximumf x (broadcastInDim S32x8x15x15 ![] bcast_S_S32x8x15x15 (constant S_ .f32 0x00000000#32))

theorem relu32_apply (x : FVec Ideal S32x32x62x62 .f32) (k : S32x32x62x62.Idx) : relu32 x k = max (x k) (0 : EReal) := by pointwise [relu32]
theorem relu16_apply (x : FVec Ideal S32x16x31x31 .f32) (k : S32x16x31x31.Idx) : relu16 x k = max (x k) (0 : EReal) := by pointwise [relu16]
theorem relu8_apply (x : FVec Ideal S32x8x15x15 .f32) (k : S32x8x15x15.Idx) : relu8 x k = max (x k) (0 : EReal) := by pointwise [relu8]

/-- The map's head up to its last sum. -/
def mapR (x y : FVec Ideal S32x64x64x64 .f32) (w1 : FVec Ideal S32x128x3x3 .f32) (b1 : FVec Ideal S32 .f32) (w2 : FVec Ideal S16x32x4x4 .f32) (b2 : FVec Ideal S16 .f32)
    (w3 : FVec Ideal S8x16x4x4 .f32) (b3 : FVec Ideal S8 .f32) (w4 : FVec Ideal S1x8x4x4 .f32) (b4 : FVec Ideal S1 .f32) : FVec Ideal S32x1x7x7 .f32 :=
  HeadR.down8 (HeadR.border8 (relu8 (HeadR.down16 (HeadR.border16 (relu16 (HeadR.down32 (HeadR.border32 (relu32 (HeadR.conv32 (HeadR.cat x y) w1 b1))) w2 b2))) w3 b3))) w4 b4

theorem mapR_apply (x y : FVec Ideal S32x64x64x64 .f32) (w1 : FVec Ideal S32x128x3x3 .f32) (b1 : FVec Ideal S32 .f32) (w2 : FVec Ideal S16x32x4x4 .f32) (b2 : FVec Ideal S16 .f32)
    (w3 : FVec Ideal S8x16x4x4 .f32) (b3 : FVec Ideal S8 .f32) (w4 : FVec Ideal S1x8x4x4 .f32) (b4 : FVec Ideal S1 .f32) (n : Fin 32) (i j : Fin 7) :
    mapR x y w1 b1 w2 b2 w3 b3 w4 b4 (ix4 n 0 i j)
      = mapHead (both (fun i j c => x (ix4 n c i j)) (fun i j c => y (ix4 n c i j))) (fun o a b c => w1 (ix4 o c a b)) (fun o => b1 (ix1 o))
        (fun o a b c => w2 (ix4 o c a b)) (fun o => b2 (ix1 o)) (fun o a b c => w3 (ix4 o c a b)) (fun o => b3 (ix1 o)) (fun o a b c => w4 (ix4 o c a b)) (fun o => b4 (ix1 o)) i j := by
  unfold mapR mapHead first
  simp only [HeadR.down8_apply, relu8_apply, HeadR.down16_apply, relu16_apply, HeadR.down32_apply, relu32_apply, HeadR.conv32_apply, HeadR.cat_apply]

/-- The mean of the two logistic values. -/
def meanR (d : FVec Ideal S32x1x7x7 .f32) (a : FVec Ideal S32x1 .f32) : FVec Ideal S32x1x7x7 .f32 :=
  Host.divf (addf (Host.divf (broadcastInDim S32x1x7x7 ![] bcast_S_S32x1x7x7 (constant S_ .f32 0x3F800000#32)) (addf (broadcastInDim S32x1x7x7 ![] bcast_S_S32x1x7x7 (constant S_ .f32 0x3F800000#32)) (Host.exp (Host.negf d))))
    (broadcastInDim S32x1x7x7 ![0, 1, 2, 3] bcast_S32x1x1x1_S32x1x7x7_0_1_2_3 (Host.divf (broadcastInDim S32x1x1x1 ![] bcast_S_S32x1x1x1 (constant S_ .f32 0x3F800000#32)) (addf (broadcastInDim S32x1x1x1 ![] bcast_S_S32x1x1x1 (constant S_ .f32 0x3F800000#32)) (Host.exp (Host.negf (shapeCast _ a shapeCasts_S32x1_S32x1x1x1)))))))
    (broadcastInDim S32x1x7x7 ![] bcast_S_S32x1x7x7 (constant S_ .f32 0x40000000#32))

theorem meanR_apply (d : FVec Ideal S32x1x7x7 .f32) (a : FVec Ideal S32x1 .f32) (n : Fin 32) (i j : Fin 7) :
    meanR d a (ix4 n 0 i j) = Ideal.div (Ideal.logistic (d (ix4 n 0 i j)) + Ideal.logistic (a (ix2 n 0))) (Ideal.ofBits FTy.f32 0x40000000#32) := by
  pointwise [meanR]
  rfl

theorem res_eq (V0 : Valuation τ sig (Elt Ideal)) :
    Host.divf (res_main_v470 V0) (broadcastInDim S32x1x7x7 ![] bcast_S_S32x1x7x7 (constant S_ .f32 0x40000000#32))
      = meanR (mapR (res_main_v147 V0) (res_main_v321 V0) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)))
        (agent (rows4 (corner (res_main_v147 V0) (V0 (Proc.devRef .tc main_arg3))) (lead (res_main_v63 V0)) (corner (res_main_v321 V0) (V0 (Proc.devRef .tc main_arg7))) (lead (res_main_v237 V0)))
          (V0 (Proc.devRef .tc main_arg25)) (V0 (Proc.devRef .tc main_arg26)) (V0 (Proc.devRef .tc main_arg27)) (V0 (Proc.devRef .tc main_arg28))) := rfl

end Cert.ReferenceIdeal.AgentR

end
-- ==== Proof.Val1.lean ====
module

public import proofs.«01_k».proof.Proof.Val2
public import proofs.«01_k».proof.Proof.Host2
public import proofs.«01_k».proof.Proof.Out22
public import proofs.«01_k».proof.Proof.AgentR

@[expose] public section

set_option maxRecDepth 16384

noncomputable section

namespace Cert.Val1

open Idealize.ShloMosaic Idealize.ShloMosaic.TcCoe Idealize.SL.Sem
open Cert.KernelIdeal Cert.KernelIdeal.Gen Cert.KernelIdeal.Host Cert.KernelIdeal.Host1 Cert.KernelIdeal.Host2 Cert.Head
open Cert.Val2 (rm_eq call1 call1_top rm2)

variable (m : (ℓ : Loc nD τ sig) → Buf (Elt Ideal) ℓ) (ρ : Dev nD → PrngReg)

/-- The node features of the first set of graphs, as the reference writes them over the kernel's arguments. -/
def net1 (c : Dev nD) : FVec Ideal Cert.ReferenceIdeal.S16384x64 .f32 :=
  Cert.ReferenceIdeal.GraphR.net (m ((c : Thread nD τ).loc main_arg0)) (m ((c : Thread nD τ).loc main_arg1)) (m ((c : Thread nD τ).loc main_arg2)) (m ((c : Thread nD τ).loc main_arg8)) (m ((c : Thread nD τ).loc main_arg9)) (m ((c : Thread nD τ).loc main_arg10))

/-- The node features of the second set of graphs. -/
def net2 (c : Dev nD) : FVec Ideal Cert.ReferenceIdeal.S16384x64 .f32 :=
  Cert.ReferenceIdeal.GraphR.net (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10))

/-- The representation map of the first set of graphs. -/
def rm1 (c : Dev nD) : FVec Ideal S32x64x64x64 .f32 :=
  Cert.ReferenceIdeal.ConvR.rm (Cert.ReferenceIdeal.ConvR.rep (net1 m c) (m ((c : Thread nD τ).loc main_arg3))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- The first result, as the reference writes it over the kernel's arguments. -/
def res (c : Dev nD) : FVec Ideal S32x1x7x7 .f32 :=
  Cert.ReferenceIdeal.AgentR.meanR
    (Cert.ReferenceIdeal.AgentR.mapR (rm1 m c) (rm2 m c) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)))
    (Cert.ReferenceIdeal.AgentR.agent (Cert.ReferenceIdeal.AgentR.rows4 (Cert.ReferenceIdeal.AgentR.corner (rm1 m c) (m ((c : Thread nD τ).loc main_arg3))) (Cert.ReferenceIdeal.AgentR.lead (net1 m c))
        (Cert.ReferenceIdeal.AgentR.corner (rm2 m c) (m ((c : Thread nD τ).loc main_arg7))) (Cert.ReferenceIdeal.AgentR.lead (net2 m c))) (m ((c : Thread nD τ).loc main_arg25)) (m ((c : Thread nD τ).loc main_arg26)) (m ((c : Thread nD τ).loc main_arg27)) (m ((c : Thread nD τ).loc main_arg28)))

/-- That result at an entry, where both maps show node 0 at their first cell. -/
theorem res_apply (c : Dev nD) (h1 : ∀ b : Fin 32, (show IVec S32x64x64 32 from (m ((c : Thread nD τ).loc main_arg3))) (ix3 b 0 0) = 0#32) (h2 : ∀ b : Fin 32, (show IVec S32x64x64 32 from (m ((c : Thread nD τ).loc main_arg7))) (ix3 b 0 0) = 0#32) (b : Fin 32) (i j : Fin 7) :
    res m c (ix4 b 0 i j) = Ideal.div (Ideal.logistic (mapHead (both (fun i j k => rm1 m c (ix4 b k i j)) (fun i j k => rm2 m c (ix4 b k i j)))
        (fun o a e k => (show FVec Ideal S32x128x3x3 .f32 from (m ((c : Thread nD τ).loc main_arg17))) (ix4 o k a e)) (fun o => (show FVec Ideal S32 .f32 from (m ((c : Thread nD τ).loc main_arg18))) (ix1 o))
        (fun o a e k => (show FVec Ideal S16x32x4x4 .f32 from (m ((c : Thread nD τ).loc main_arg19))) (ix4 o k a e)) (fun o => (show FVec Ideal S16 .f32 from (m ((c : Thread nD τ).loc main_arg20))) (ix1 o))
        (fun o a e k => (show FVec Ideal S8x16x4x4 .f32 from (m ((c : Thread nD τ).loc main_arg21))) (ix4 o k a e)) (fun o => (show FVec Ideal S8 .f32 from (m ((c : Thread nD τ).loc main_arg22))) (ix1 o))
        (fun o a e k => (show FVec Ideal S1x8x4x4 .f32 from (m ((c : Thread nD τ).loc main_arg23))) (ix4 o k a e)) (fun o => (show FVec Ideal S1 .f32 from (m ((c : Thread nD τ).loc main_arg24))) (ix1 o)) i j)
      + Ideal.logistic (agentHead (four (fun k => rm1 m c (ix4 b k 0 0)) (fun k => net1 m c (ix2 ⟨b * 512, by omega⟩ k)) (fun k => rm2 m c (ix4 b k 0 0)) (fun k => net2 m c (ix2 ⟨b * 512, by omega⟩ k)))
        (fun k l => (show FVec Ideal S32x256 .f32 from (m ((c : Thread nD τ).loc main_arg25))) (ix2 k l)) (fun k => (show FVec Ideal S32 .f32 from (m ((c : Thread nD τ).loc main_arg26))) (ix1 k))
        (fun k => (show FVec Ideal S1x32 .f32 from (m ((c : Thread nD τ).loc main_arg27))) (ix2 0 k)) ((show FVec Ideal S1 .f32 from (m ((c : Thread nD τ).loc main_arg28))) (ix1 0)))) (Ideal.ofBits FTy.f32 0x40000000#32) := by
  unfold res
  refine (Cert.ReferenceIdeal.AgentR.meanR_apply _ _ b i j).trans ?_
  refine congrArg (Ideal.div · (Ideal.ofBits FTy.f32 0x40000000#32)) (congr (congrArg HAdd.hAdd (congrArg Ideal.logistic ?_)) (congrArg Ideal.logistic ?_))
  · exact Cert.ReferenceIdeal.AgentR.mapR_apply ..
  · refine (Cert.ReferenceIdeal.AgentR.agent_apply _ _ _ _ _ b).trans ?_
    refine congrArg (fun x => agentHead x _ _ _ _) (funext fun l => ?_)
    refine (Cert.ReferenceIdeal.AgentR.rows4_apply _ _ _ _ b l).trans ?_
    have e1 := funext fun k => Cert.ReferenceIdeal.AgentR.corner_apply (rm1 m c) _ b k (h1 b)
    have e2 := funext fun k => Cert.ReferenceIdeal.AgentR.corner_apply (rm2 m c) _ b k (h2 b)
    have g1 := funext fun k => Cert.ReferenceIdeal.AgentR.lead_apply (net1 m c) b k
    have g2 := funext fun k => Cert.ReferenceIdeal.AgentR.lead_apply (net2 m c) b k
    exact congrFun (congr (congr (congr (congrArg four e1) g1) e2) g2) l

set_option maxHeartbeats 0 in
/-- What a block of the first result holds, over what the second call's arrays hold. -/
theorem whole_apply (x0 x1 : Vec Ideal S1x4096x64 .bf16) (g1 g2 : Vec Ideal S1x1x64 .f32) (r1 r2 : FVec Ideal S32x64x64x64 .f32)
    (w1 : FVec Ideal S256x64x3x3 .f32) (b1 : FVec Ideal S256 .f32) (w2 : FVec Ideal S128x256x3x3 .f32) (b2 : FVec Ideal S128 .f32) (w3 : FVec Ideal S64x128x3x3 .f32) (b3 : FVec Ideal S64 .f32)
    (u1 : FVec Ideal S32x128x3x3 .f32) (c1 : FVec Ideal S32 .f32) (u2 : FVec Ideal S16x32x4x4 .f32) (c2 : FVec Ideal S16 .f32) (u3 : FVec Ideal S8x16x4x4 .f32) (c3 : FVec Ideal S8 .f32)
    (u4 : FVec Ideal S1x8x4x4 .f32) (c4 : FVec Ideal S1 .f32) (a1 : FVec Ideal S32x256 .f32) (d1 : FVec Ideal S32 .f32) (a2 : FVec Ideal S1x32 .f32) (d2 : FVec Ideal S1 .f32) (b : Fin 32)
    (h0 : ∀ i j c : Fin 64, x0 (ix3 0 ⟨i * 64 + j, by omega⟩ c) = r1 (ix4 b c i j)) (h1 : ∀ i j c : Fin 64, x1 (ix3 0 ⟨i * 64 + j, by omega⟩ c) = r2 (ix4 b c i j)) (i j : Fin 7) :
    Out22.whole x0 x1 g1 g2 (Host1.taps1 w1) (bias256 b1) (taps2 w2) (bias128 b2) (taps3 w3) (bias64 b3) (taps u1) (bias32 c1) (taps16 u2) (bias16 c2) (taps8 u3) (bias8 c3) (Host2.taps1 u4) (Host2.bias1 c4)
        (dense1 a1) (bias32 d1) (dense2 a2) (Host2.bias1 d2) (ix4 0 0 i j)
      = Ideal.div (Ideal.logistic (mapHead (both (fun i j k => Cert.ReferenceIdeal.ConvR.rm r1 w1 b1 w2 b2 w3 b3 (ix4 b k i j)) (fun i j k => Cert.ReferenceIdeal.ConvR.rm r2 w1 b1 w2 b2 w3 b3 (ix4 b k i j)))
        (fun o a e k => u1 (ix4 o k a e)) (fun o => c1 (ix1 o)) (fun o a e k => u2 (ix4 o k a e)) (fun o => c2 (ix1 o))
        (fun o a e k => u3 (ix4 o k a e)) (fun o => c3 (ix1 o)) (fun o a e k => u4 (ix4 o k a e)) (fun o => c4 (ix1 o)) i j)
      + Ideal.logistic (agentHead (four (fun k => Cert.ReferenceIdeal.ConvR.rm r1 w1 b1 w2 b2 w3 b3 (ix4 b k 0 0)) (fun k => g1 (ix3 0 0 k)) (fun k => Cert.ReferenceIdeal.ConvR.rm r2 w1 b1 w2 b2 w3 b3 (ix4 b k 0 0)) (fun k => g2 (ix3 0 0 k)))
        (fun k l => a1 (ix2 k l)) (fun k => d1 (ix1 k)) (fun k => a2 (ix2 0 k)) (d2 (ix1 0)))) (Ideal.ofBits FTy.f32 0x40000000#32) := by
  rw [Out22.whole_eq, HeadM.mean_apply, HeadM.mapK_apply, HeadM.agent_apply]
  have e0 := rm_eq x0 r1 w1 b1 w2 b2 w3 b3 b h0
  have e1 := rm_eq x1 r2 w1 b1 w2 b2 w3 b3 b h1
  have z0 : ∀ k : Fin 64, ConvK.rm x0 (Host1.taps1 w1) (bias256 b1) (taps2 w2) (bias128 b2) (taps3 w3) (bias64 b3) (ix2 0 k) = _ := fun k => e0 0 0 k
  have z1 : ∀ k : Fin 64, ConvK.rm x1 (Host1.taps1 w1) (bias256 b1) (taps2 w2) (bias128 b2) (taps3 w3) (bias64 b3) (ix2 0 k) = _ := fun k => e1 0 0 k
  simp only [e0, e1, z0, z1, taps_apply, taps16_apply, taps8_apply, Host2.taps1_apply, bias32_apply, bias16_apply, bias8_apply, Host2.bias1_apply, dense1_apply, dense2_apply]

set_option maxHeartbeats 0 in
/-- Under the precondition, the kernel's first result is the reference's. -/
theorem result1 (h : Cert.Pre_KernelIdeal_in_range m) (c : Dev nD) : W5 m ρ c (Proc.devRef .tc main_v63_0) = res m c := by
  obtain ⟨⟨S1, hs1⟩, ⟨D1, hd1⟩, ⟨S2, hs2⟩, ⟨D2, hd2⟩, hm1, hm2, hc1, hc2⟩ := Cert.Pre.of_pre m h c
  have e := (W4_arr m ρ c 22).trans (Out22.final22 (V3 m ρ) c)
  rw [v27, v28, v29, v30, v33, v34, v37, v38, v41, v42, v45, v46, v49, v50, v53, v54, v57, v58, v59, v60, v61, v62, call1, call1_top,
    W2_args m ρ c main_arg11 (by decide), W2_args m ρ c main_arg12 (by decide), W2_args m ρ c main_arg13 (by decide), W2_args m ρ c main_arg14 (by decide), W2_args m ρ c main_arg15 (by decide), W2_args m ρ c main_arg16 (by decide), W2_args m ρ c main_arg17 (by decide), W2_args m ρ c main_arg18 (by decide), W2_args m ρ c main_arg19 (by decide), W2_args m ρ c main_arg20 (by decide), W2_args m ρ c main_arg21 (by decide), W2_args m ρ c main_arg22 (by decide), W2_args m ρ c main_arg23 (by decide), W2_args m ρ c main_arg24 (by decide), W2_args m ρ c main_arg25 (by decide), W2_args m ρ c main_arg26 (by decide), W2_args m ρ c main_arg27 (by decide), W2_args m ρ c main_arg28 (by decide)] at e
  refine (v63 m ρ c).trans (e.trans ?_)
  funext x
  obtain ⟨b, i, j, rfl⟩ : ∃ (b : Fin 32) (i j : Fin 7), x = ix4 b 0 i j := ⟨x 0, x 2, x 3, by
    funext a; match a with | ⟨0, _⟩ => rfl | ⟨1, _⟩ => exact Subsingleton.elim (α := Fin 1) _ _ | ⟨2, _⟩ => rfl | ⟨3, _⟩ => rfl⟩
  rw [res_apply m c (Cert.Pre.corners _ hc1) (Cert.Pre.corners _ hc2)]
  refine (whole_apply _ _ _ _ _ _ _ _ _ _ _ _ _ _ _ _ _ _ _ _ _ _ _ _ b
    (fun i j k => (lo_apply _ b _ k).trans (Cells.cell_lo _ _ _ _ _ _ _ _ _ _ _ S1 D1 hs1 hd1 (Cert.Pre.cells _ hm1) b i j k))
    (fun i j k => (hi_apply _ b _ k).trans (Cells.cell_hi _ _ _ _ _ _ _ _ _ _ _ S2 D2 hs2 hd2 (Cert.Pre.cells _ hm2) b i j k)) i j).trans ?_
  have g1 := funext fun k : Fin 64 => (alo_apply _ b k).trans (Cells.top_lo (m ((c : Thread nD τ).loc main_arg0)) (m ((c : Thread nD τ).loc main_arg4)) (m ((c : Thread nD τ).loc main_arg1)) (m ((c : Thread nD τ).loc main_arg5)) (m ((c : Thread nD τ).loc main_arg2)) (m ((c : Thread nD τ).loc main_arg6)) (m ((c : Thread nD τ).loc main_arg3)) (m ((c : Thread nD τ).loc main_arg7)) (m ((c : Thread nD τ).loc main_arg8)) (m ((c : Thread nD τ).loc main_arg9)) (m ((c : Thread nD τ).loc main_arg10)) S1 D1 hs1 hd1 b k)
  have g2 := funext fun k : Fin 64 => (ahi_apply _ b k).trans (Cells.top_hi (m ((c : Thread nD τ).loc main_arg0)) (m ((c : Thread nD τ).loc main_arg4)) (m ((c : Thread nD τ).loc main_arg1)) (m ((c : Thread nD τ).loc main_arg5)) (m ((c : Thread nD τ).loc main_arg2)) (m ((c : Thread nD τ).loc main_arg6)) (m ((c : Thread nD τ).loc main_arg3)) (m ((c : Thread nD τ).loc main_arg7)) (m ((c : Thread nD τ).loc main_arg8)) (m ((c : Thread nD τ).loc main_arg9)) (m ((c : Thread nD τ).loc main_arg10)) S2 D2 hs2 hd2 b k)
  refine congrArg (Ideal.div · (Ideal.ofBits FTy.f32 0x40000000#32)) (congr (congrArg HAdd.hAdd rfl) (congrArg Ideal.logistic ?_))
  exact congrArg (fun x => agentHead x _ _ _ _) (congr (congr (congr (congrArg four rfl) g1) rfl) g2)

set_option maxHeartbeats 0 in
/-- The reference's first result over arguments equal to the kernel's. -/
theorem ref_eq (V0 : Valuation Cert.ReferenceIdeal.τ Cert.ReferenceIdeal.sig (Elt Ideal)) (c : Dev nD)
    (a0 : V0 (Proc.devRef .tc Cert.ReferenceIdeal.main_arg0) = m ((c : Thread nD τ).loc main_arg0))
    (a1 : V0 (Proc.devRef .tc Cert.ReferenceIdeal.main_arg1) = m ((c : Thread nD τ).loc main_arg1))
    (a2 : V0 (Proc.devRef .tc Cert.ReferenceIdeal.main_arg2) = m ((c : Thread nD τ).loc main_arg2))
    (a3 : V0 (Proc.devRef .tc Cert.ReferenceIdeal.main_arg3) = m ((c : Thread nD τ).loc main_arg3))
    (a4 : V0 (Proc.devRef .tc Cert.ReferenceIdeal.main_arg4) = m ((c : Thread nD τ).loc main_arg4))
    (a5 : V0 (Proc.devRef .tc Cert.ReferenceIdeal.main_arg5) = m ((c : Thread nD τ).loc main_arg5))
    (a6 : V0 (Proc.devRef .tc Cert.ReferenceIdeal.main_arg6) = m ((c : Thread nD τ).loc main_arg6))
    (a7 : V0 (Proc.devRef .tc Cert.ReferenceIdeal.main_arg7) = m ((c : Thread nD τ).loc main_arg7))
    (a8 : V0 (Proc.devRef .tc Cert.ReferenceIdeal.main_arg8) = m ((c : Thread nD τ).loc main_arg8))
    (a9 : V0 (Proc.devRef .tc Cert.ReferenceIdeal.main_arg9) = m ((c : Thread nD τ).loc main_arg9))
    (a10 : V0 (Proc.devRef .tc Cert.ReferenceIdeal.main_arg10) = m ((c : Thread nD τ).loc main_arg10))
    (a11 : V0 (Proc.devRef .tc Cert.ReferenceIdeal.main_arg11) = m ((c : Thread nD τ).loc main_arg11))
    (a12 : V0 (Proc.devRef .tc Cert.ReferenceIdeal.main_arg12) = m ((c : Thread nD τ).loc main_arg12))
    (a13 : V0 (Proc.devRef .tc Cert.ReferenceIdeal.main_arg13) = m ((c : Thread nD τ).loc main_arg13))
    (a14 : V0 (Proc.devRef .tc Cert.ReferenceIdeal.main_arg14) = m ((c : Thread nD τ).loc main_arg14))
    (a15 : V0 (Proc.devRef .tc Cert.ReferenceIdeal.main_arg15) = m ((c : Thread nD τ).loc main_arg15))
    (a16 : V0 (Proc.devRef .tc Cert.ReferenceIdeal.main_arg16) = m ((c : Thread nD τ).loc main_arg16))
    (a17 : V0 (Proc.devRef .tc Cert.ReferenceIdeal.main_arg17) = m ((c : Thread nD τ).loc main_arg17))
    (a18 : V0 (Proc.devRef .tc Cert.ReferenceIdeal.main_arg18) = m ((c : Thread nD τ).loc main_arg18))
    (a19 : V0 (Proc.devRef .tc Cert.ReferenceIdeal.main_arg19) = m ((c : Thread nD τ).loc main_arg19))
    (a20 : V0 (Proc.devRef .tc Cert.ReferenceIdeal.main_arg20) = m ((c : Thread nD τ).loc main_arg20))
    (a21 : V0 (Proc.devRef .tc Cert.ReferenceIdeal.main_arg21) = m ((c : Thread nD τ).loc main_arg21))
    (a22 : V0 (Proc.devRef .tc Cert.ReferenceIdeal.main_arg22) = m ((c : Thread nD τ).loc main_arg22))
    (a23 : V0 (Proc.devRef .tc Cert.ReferenceIdeal.main_arg23) = m ((c : Thread nD τ).loc main_arg23))
    (a24 : V0 (Proc.devRef .tc Cert.ReferenceIdeal.main_arg24) = m ((c : Thread nD τ).loc main_arg24))
    (a25 : V0 (Proc.devRef .tc Cert.ReferenceIdeal.main_arg25) = m ((c : Thread nD τ).loc main_arg25))
    (a26 : V0 (Proc.devRef .tc Cert.ReferenceIdeal.main_arg26) = m ((c : Thread nD τ).loc main_arg26))
    (a27 : V0 (Proc.devRef .tc Cert.ReferenceIdeal.main_arg27) = m ((c : Thread nD τ).loc main_arg27))
    (a28 : V0 (Proc.devRef .tc Cert.ReferenceIdeal.main_arg28) = m ((c : Thread nD τ).loc main_arg28)) :
    Host.divf (Cert.ReferenceIdeal.Value.res_main_v470 V0) (broadcastInDim Cert.ReferenceIdeal.S32x1x7x7 ![] Cert.ReferenceIdeal.Gen.bcast_S_S32x1x7x7 (constant Cert.ReferenceIdeal.S_ .f32 0x40000000#32)) = res m c := by
  refine (Cert.ReferenceIdeal.AgentR.res_eq V0).trans ?_
  rw [Cert.ReferenceIdeal.ConvR.v147_eq, Cert.ReferenceIdeal.ConvR.v321_eq, Cert.ReferenceIdeal.GraphR.v63_eq, Cert.ReferenceIdeal.GraphR.v237_eq]
  unfold res rm1 rm2 net1 net2
  rw [← a0, ← a1, ← a2, ← a3, ← a4, ← a5, ← a6, ← a7, ← a8, ← a9, ← a10, ← a11, ← a12, ← a13, ← a14, ← a15, ← a16, ← a17, ← a18, ← a19, ← a20, ← a21, ← a22, ← a23, ← a24, ← a25, ← a26, ← a27, ← a28]

end Cert.Val1

end
-- ==== Proof.lean ====
/- What the kernel's two results are over its arguments, and the claims. -/
module

public import proofs.«01_k».proof.Defs
public import proofs.«01_k».proof.Proof.BitsFrame
public import proofs.«01_k».proof.Proof.IdealFrame
public import proofs.«01_k».proof.Proof.Val2
public import proofs.«01_k».proof.Proof.GraphR
public import proofs.«01_k».proof.Proof.ConvR
public import proofs.«01_k».proof.Proof.Pre
public import proofs.«01_k».proof.Proof.Val1
public import proofs.«01_k».proof.Proof.Gen.ReferenceIdeal.Run

@[expose] public section

set_option maxRecDepth 16384

noncomputable section

namespace Cert.Proof

open Idealize.ShloMosaic Idealize.ShloMosaic.TcCoe Idealize.SL.Sem

open Cert.KernelIdeal Cert.KernelIdeal.Gen in
/-- Under the precondition the kernel ends with both its results the reference's and its arguments as they were. -/
theorem kernel_run (m : (ℓ : Loc nD τ sig) → Buf (Elt Ideal) ℓ) (ρ : Dev nD → PrngReg) (h : Cert.Pre_KernelIdeal_in_range m) :
    θ_run (defs (F := Ideal)) (onTc (τ := τ) (main (F := Ideal))) ⟨m, fun _ => 0, ρ⟩ (fun r => ∀ c : Dev nD,
      r.2.mem ((c.tc : Thread nD τ).loc main_v63_0) = Cert.Val1.res m c
      ∧ r.2.mem ((c.tc : Thread nD τ).loc main_v65) = Cert.Val2.rm2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ hr => fun c => ⟨
       (hr.1 c _ (mem_uc main_v63_0 (by decide))).trans (Cert.Val1.result1 m ρ h c),
       (hr.1 c _ (mem_uc main_v65 (by decide))).trans (Cert.Val2.result2 m ρ h c),
       (hr.1 c _ (mem_uc main_arg0 (by decide))).trans (W5_main_arg0 m ρ c),
       (hr.1 c _ (mem_uc main_arg1 (by decide))).trans (W5_main_arg1 m ρ c),
       (hr.1 c _ (mem_uc main_arg2 (by decide))).trans (W5_main_arg2 m ρ c),
       (hr.1 c _ (mem_uc main_arg3 (by decide))).trans (W5_main_arg3 m ρ c),
       (hr.1 c _ (mem_uc main_arg4 (by decide))).trans (W5_main_arg4 m ρ c),
       (hr.1 c _ (mem_uc main_arg5 (by decide))).trans (W5_main_arg5 m ρ c),
       (hr.1 c _ (mem_uc main_arg6 (by decide))).trans (W5_main_arg6 m ρ c),
       (hr.1 c _ (mem_uc main_arg7 (by decide))).trans (W5_main_arg7 m ρ c),
       (hr.1 c _ (mem_uc main_arg8 (by decide))).trans (W5_main_arg8 m ρ c),
       (hr.1 c _ (mem_uc main_arg9 (by decide))).trans (W5_main_arg9 m ρ c),
       (hr.1 c _ (mem_uc main_arg10 (by decide))).trans (W5_main_arg10 m ρ c),
       (hr.1 c _ (mem_uc main_arg11 (by decide))).trans (W5_main_arg11 m ρ c),
       (hr.1 c _ (mem_uc main_arg12 (by decide))).trans (W5_main_arg12 m ρ c),
       (hr.1 c _ (mem_uc main_arg13 (by decide))).trans (W5_main_arg13 m ρ c),
       (hr.1 c _ (mem_uc main_arg14 (by decide))).trans (W5_main_arg14 m ρ c),
       (hr.1 c _ (mem_uc main_arg15 (by decide))).trans (W5_main_arg15 m ρ c),
       (hr.1 c _ (mem_uc main_arg16 (by decide))).trans (W5_main_arg16 m ρ c),
       (hr.1 c _ (mem_uc main_arg17 (by decide))).trans (W5_main_arg17 m ρ c),
       (hr.1 c _ (mem_uc main_arg18 (by decide))).trans (W5_main_arg18 m ρ c),
       (hr.1 c _ (mem_uc main_arg19 (by decide))).trans (W5_main_arg19 m ρ c),
       (hr.1 c _ (mem_uc main_arg20 (by decide))).trans (W5_main_arg20 m ρ c),
       (hr.1 c _ (mem_uc main_arg21 (by decide))).trans (W5_main_arg21 m ρ c),
       (hr.1 c _ (mem_uc main_arg22 (by decide))).trans (W5_main_arg22 m ρ c),
       (hr.1 c _ (mem_uc main_arg23 (by decide))).trans (W5_main_arg23 m ρ c),
       (hr.1 c _ (mem_uc main_arg24 (by decide))).trans (W5_main_arg24 m ρ c),
       (hr.1 c _ (mem_uc main_arg25 (by decide))).trans (W5_main_arg25 m ρ c),
       (hr.1 c _ (mem_uc main_arg26 (by decide))).trans (W5_main_arg26 m ρ c),
       (hr.1 c _ (mem_uc main_arg27 (by decide))).trans (W5_main_arg27 m ρ c),
       (hr.1 c _ (mem_uc main_arg28 (by decide))).trans (W5_main_arg28 m ρ c)⟩) (run_all m ρ)

/-- The two programs' arguments are equal on a device. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
    ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
    ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
    ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
    ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
    ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
    ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
    ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
    ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
    ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)

/-- The reference's second result over arguments equal to the kernel's. -/
theorem second (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Agree m m' c) :
    Cert.ReferenceIdeal.Value.res_main_v321 (StableHlo.launchContents m' c) = Cert.Val2.rm2 m c := by
  obtain ⟨a0,a1,a2,a3,a4,a5,a6,a7,a8,a9,a10,a11,a12,a13,a14,a15,a16,a17,a18,a19,a20,a21,a22,a23,a24,a25,a26,a27,a28⟩ := h
  rw [Cert.ReferenceIdeal.ConvR.v321_eq, Cert.ReferenceIdeal.GraphR.v237_eq]
  unfold Cert.Val2.rm2
  rw [← a4, ← a5, ← a6, ← a7, ← a8, ← a9, ← a10, ← a11, ← a12, ← a13, ← a14, ← a15, ← a16]

set_option maxHeartbeats 0 in
/-- The reference's first result over arguments equal to the kernel's. -/
theorem first (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Agree m m' c) :
    Host.divf (Cert.ReferenceIdeal.Value.res_main_v470 (StableHlo.launchContents m' c)) (broadcastInDim Cert.ReferenceIdeal.S32x1x7x7 ![] Cert.ReferenceIdeal.Gen.bcast_S_S32x1x7x7 (constant Cert.ReferenceIdeal.S_ .f32 0x40000000#32)) = Cert.Val1.res m c := by
  obtain ⟨a0,a1,a2,a3,a4,a5,a6,a7,a8,a9,a10,a11,a12,a13,a14,a15,a16,a17,a18,a19,a20,a21,a22,a23,a24,a25,a26,a27,a28⟩ := h
  have e := Cert.Val1.ref_eq m (StableHlo.launchContents m' c) c a0 a1 a2 a3 a4 a5 a6 a7 a8 a9 a10 a11 a12 a13 a14 a15 a16 a17 a18 a19 a20 a21 a22 a23 a24 a25 a26 a27 a28
  exact e

/-- The kernel and the reference, run from memories that agree on the arguments and meet the precondition, end with equal results. -/
theorem algebraic : Cert.algebraic_KernelIdeal_ReferenceIdeal_pre_in_range := by
  intro m g m' g' hp hagree
  refine ⟨fun c => Cert.Val1.res m c, fun c => Cert.Val2.rm2 m c, kernel_run m g hp, ?_⟩
  exact (θ_run Cert.ReferenceIdeal.defs _ _).mono (fun r h c => ⟨(h c).1.trans (first m m' c (hagree c)), (h c).2.1.trans (second m m' c (hagree c)), (h c).2.2⟩)
    (Cert.ReferenceIdeal.Value.run (F := Ideal) m' g')

/-- Every run of the reference ends with its arguments as they were and every counter at zero. -/
theorem frame_r (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0) :=
  (θ_run Cert.ReferenceIdeal.defs _ _).mono (fun r h => ⟨fun c => (h c).2.2, sem_eq_zero_of_no_sems (by decide) r.2⟩) (Cert.ReferenceIdeal.Value.run (F := Ideal) m ρ)

/-- Everything the certificate claims. -/
theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ, fun m ρ _ => Cert.KernelIdeal.Gen.frame m ρ,
    fun m ρ _ => frame_r m ρ, fun m ρ _ => frame_r m ρ, trivial, algebraic⟩

end Cert.Proof

end
